-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjPos (m : (ℓ : Loc Cert.InProjPos.nD Cert.InProjPos.τ Cert.InProjPos.sig) → Buf (Elt Bits) ℓ) : Prop :=
  True

def Pre_InProjPosIdeal (m : (ℓ : Loc Cert.InProjPosIdeal.nD Cert.InProjPosIdeal.τ Cert.InProjPosIdeal.sig) → Buf (Elt Ideal) ℓ) : Prop :=
  True

def Pre_InProjPosRefIdeal (m : (ℓ : Loc Cert.InProjPosRefIdeal.nD Cert.InProjPosRefIdeal.τ Cert.InProjPosRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsIdeal_finite_logits [hPre_finite_logits : Cert.Pre_finite_logits.Facts] (m : (ℓ : Loc Cert.WeightsIdeal.nD Cert.WeightsIdeal.τ Cert.WeightsIdeal.sig) → Buf (Elt Ideal) ℓ) : Prop :=
  ∀ c : Dev Cert.WeightsIdeal.nD,
    (Cert.Pre_finite_logits.fn (F := Ideal) (m ((c.tc : Thread Cert.WeightsIdeal.nD Cert.WeightsIdeal.τ).loc Cert.WeightsIdeal.main_arg0)) (m ((c.tc : Thread Cert.WeightsIdeal.nD Cert.WeightsIdeal.τ).loc Cert.WeightsIdeal.main_arg1)) (m ((c.tc : Thread Cert.WeightsIdeal.nD Cert.WeightsIdeal.τ).loc Cert.WeightsIdeal.main_arg2)) (m ((c.tc : Thread Cert.WeightsIdeal.nD Cert.WeightsIdeal.τ).loc Cert.WeightsIdeal.main_arg3)) (m ((c.tc : Thread Cert.WeightsIdeal.nD Cert.WeightsIdeal.τ).loc Cert.WeightsIdeal.main_arg4)) (m ((c.tc : Thread Cert.WeightsIdeal.nD Cert.WeightsIdeal.τ).loc Cert.WeightsIdeal.main_arg5)) (m ((c.tc : Thread Cert.WeightsIdeal.nD Cert.WeightsIdeal.τ).loc Cert.WeightsIdeal.main_arg6))) = (fun _ => 1#1)

def Pre_WeightsRefIdeal (m : (ℓ : Loc Cert.WeightsRefIdeal.nD Cert.WeightsRefIdeal.τ Cert.WeightsRefIdeal.sig) → Buf (Elt Ideal) ℓ) : Prop :=
  True

def Pre_WeightsRefIdeal_finite_logits [hPre_finite_logits : Cert.Pre_finite_logits.Facts] (m : (ℓ : Loc Cert.WeightsRefIdeal.nD Cert.WeightsRefIdeal.τ Cert.WeightsRefIdeal.sig) → Buf (Elt Ideal) ℓ) : Prop :=
  ∀ c : Dev Cert.WeightsRefIdeal.nD,
    (Cert.Pre_finite_logits.fn (F := Ideal) (m ((c.tc : Thread Cert.WeightsRefIdeal.nD Cert.WeightsRefIdeal.τ).loc Cert.WeightsRefIdeal.main_arg0)) (m ((c.tc : Thread Cert.WeightsRefIdeal.nD Cert.WeightsRefIdeal.τ).loc Cert.WeightsRefIdeal.main_arg1)) (m ((c.tc : Thread Cert.WeightsRefIdeal.nD Cert.WeightsRefIdeal.τ).loc Cert.WeightsRefIdeal.main_arg2)) (m ((c.tc : Thread Cert.WeightsRefIdeal.nD Cert.WeightsRefIdeal.τ).loc Cert.WeightsRefIdeal.main_arg3)) (m ((c.tc : Thread Cert.WeightsRefIdeal.nD Cert.WeightsRefIdeal.τ).loc Cert.WeightsRefIdeal.main_arg4)) (m ((c.tc : Thread Cert.WeightsRefIdeal.nD Cert.WeightsRefIdeal.τ).loc Cert.WeightsRefIdeal.main_arg5)) (m ((c.tc : Thread Cert.WeightsRefIdeal.nD Cert.WeightsRefIdeal.τ).loc Cert.WeightsRefIdeal.main_arg6))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjPos [hInProjPos : Cert.InProjPos.Facts] : Prop :=
  ∀ (m : (ℓ : Loc Cert.InProjPos.nD Cert.InProjPos.τ Cert.InProjPos.sig) → Buf (Elt Bits) ℓ) (g : Dev Cert.InProjPos.nD → PrngReg), Pre_InProjPos m →
    θ_run (Cert.InProjPos.defs (F := Bits)) (onTc (τ := Cert.InProjPos.τ) (Cert.InProjPos.main (F := Bits))) ⟨m, fun _ => 0, g⟩ (fun r => (∀ c : Dev Cert.InProjPos.nD,
      r.2.mem ((c.tc : Thread Cert.InProjPos.nD Cert.InProjPos.τ).loc Cert.InProjPos.main_arg0) = m ((c.tc : Thread Cert.InProjPos.nD Cert.InProjPos.τ).loc Cert.InProjPos.main_arg0)
      ∧ r.2.mem ((c.tc : Thread Cert.InProjPos.nD Cert.InProjPos.τ).loc Cert.InProjPos.main_arg1) = m ((c.tc : Thread Cert.InProjPos.nD Cert.InProjPos.τ).loc Cert.InProjPos.main_arg1)
      ∧ r.2.mem ((c.tc : Thread Cert.InProjPos.nD Cert.InProjPos.τ).loc Cert.InProjPos.main_arg2) = m ((c.tc : Thread Cert.InProjPos.nD Cert.InProjPos.τ).loc Cert.InProjPos.main_arg2)
      ∧ r.2.mem ((c.tc : Thread Cert.InProjPos.nD Cert.InProjPos.τ).loc Cert.InProjPos.main_arg3) = m ((c.tc : Thread Cert.InProjPos.nD Cert.InProjPos.τ).loc Cert.InProjPos.main_arg3))
      ∧ r.2.sem = fun _ => 0)

def quiescent_InProjPosIdeal [hInProjPosIdeal : Cert.InProjPosIdeal.Facts] : Prop :=
  ∀ (m : (ℓ : Loc Cert.InProjPosIdeal.nD Cert.InProjPosIdeal.τ Cert.InProjPosIdeal.sig) → Buf (Elt Ideal) ℓ) (g : Dev Cert.InProjPosIdeal.nD → PrngReg), Pre_InProjPosIdeal m →
    θ_run (Cert.InProjPosIdeal.defs (F := Ideal)) (onTc (τ := Cert.InProjPosIdeal.τ) (Cert.InProjPosIdeal.main (F := Ideal))) ⟨m, fun _ => 0, g⟩ (fun r => (∀ c : Dev Cert.InProjPosIdeal.nD,
      r.2.mem ((c.tc : Thread Cert.InProjPosIdeal.nD Cert.InProjPosIdeal.τ).loc Cert.InProjPosIdeal.main_arg0) = m ((c.tc : Thread Cert.InProjPosIdeal.nD Cert.InProjPosIdeal.τ).loc Cert.InProjPosIdeal.main_arg0)
      ∧ r.2.mem ((c.tc : Thread Cert.InProjPosIdeal.nD Cert.InProjPosIdeal.τ).loc Cert.InProjPosIdeal.main_arg1) = m ((c.tc : Thread Cert.InProjPosIdeal.nD Cert.InProjPosIdeal.τ).loc Cert.InProjPosIdeal.main_arg1)
      ∧ r.2.mem ((c.tc : Thread Cert.InProjPosIdeal.nD Cert.InProjPosIdeal.τ).loc Cert.InProjPosIdeal.main_arg2) = m ((c.tc : Thread Cert.InProjPosIdeal.nD Cert.InProjPosIdeal.τ).loc Cert.InProjPosIdeal.main_arg2)
      ∧ r.2.mem ((c.tc : Thread Cert.InProjPosIdeal.nD Cert.InProjPosIdeal.τ).loc Cert.InProjPosIdeal.main_arg3) = m ((c.tc : Thread Cert.InProjPosIdeal.nD Cert.InProjPosIdeal.τ).loc Cert.InProjPosIdeal.main_arg3))
      ∧ r.2.sem = fun _ => 0)

def quiescent_InProjPosRefIdeal [hInProjPosRefIdeal : Cert.InProjPosRefIdeal.Facts] : Prop :=
  ∀ (m : (ℓ : Loc Cert.InProjPosRefIdeal.nD Cert.InProjPosRefIdeal.τ Cert.InProjPosRefIdeal.sig) → Buf (Elt Ideal) ℓ) (g : Dev Cert.InProjPosRefIdeal.nD → PrngReg), Pre_InProjPosRefIdeal m →
    θ_run (Cert.InProjPosRefIdeal.defs (F := Ideal)) (onTc (τ := Cert.InProjPosRefIdeal.τ) (Cert.InProjPosRefIdeal.main (F := Ideal))) ⟨m, fun _ => 0, g⟩ (fun r => (∀ c : Dev Cert.InProjPosRefIdeal.nD,
      r.2.mem ((c.tc : Thread Cert.InProjPosRefIdeal.nD Cert.InProjPosRefIdeal.τ).loc Cert.InProjPosRefIdeal.main_arg0) = m ((c.tc : Thread Cert.InProjPosRefIdeal.nD Cert.InProjPosRefIdeal.τ).loc Cert.InProjPosRefIdeal.main_arg0)
      ∧ r.2.mem ((c.tc : Thread Cert.InProjPosRefIdeal.nD Cert.InProjPosRefIdeal.τ).loc Cert.InProjPosRefIdeal.main_arg1) = m ((c.tc : Thread Cert.InProjPosRefIdeal.nD Cert.InProjPosRefIdeal.τ).loc Cert.InProjPosRefIdeal.main_arg1)
      ∧ r.2.mem ((c.tc : Thread Cert.InProjPosRefIdeal.nD Cert.InProjPosRefIdeal.τ).loc Cert.InProjPosRefIdeal.main_arg2) = m ((c.tc : Thread Cert.InProjPosRefIdeal.nD Cert.InProjPosRefIdeal.τ).loc Cert.InProjPosRefIdeal.main_arg2)
      ∧ r.2.mem ((c.tc : Thread Cert.InProjPosRefIdeal.nD Cert.InProjPosRefIdeal.τ).loc Cert.InProjPosRefIdeal.main_arg3) = m ((c.tc : Thread Cert.InProjPosRefIdeal.nD Cert.InProjPosRefIdeal.τ).loc Cert.InProjPosRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6))
      ∧ r.2.sem = fun _ => 0)

def quiescent_WeightsIdeal_pre_finite_logits [hWeightsIdeal : Cert.WeightsIdeal.Facts] [hPre_finite_logits : Cert.Pre_finite_logits.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal_finite_logits m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5)
      ∧ r.2.mem ((c.tc : Thread Cert.WeightsRefIdeal.nD Cert.WeightsRefIdeal.τ).loc Cert.WeightsRefIdeal.main_arg6) = m ((c.tc : Thread Cert.WeightsRefIdeal.nD Cert.WeightsRefIdeal.τ).loc Cert.WeightsRefIdeal.main_arg6))
      ∧ r.2.sem = fun _ => 0)

def quiescent_WeightsRefIdeal_pre_finite_logits [hWeightsRefIdeal : Cert.WeightsRefIdeal.Facts] [hPre_finite_logits : Cert.Pre_finite_logits.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal_finite_logits m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5)
      ∧ r.2.mem ((c.tc : Thread Cert.WeightsRefIdeal.nD Cert.WeightsRefIdeal.τ).loc Cert.WeightsRefIdeal.main_arg6) = m ((c.tc : Thread Cert.WeightsRefIdeal.nD Cert.WeightsRefIdeal.τ).loc Cert.WeightsRefIdeal.main_arg6))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v22) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v63) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v35) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InProjPos_InProjPosIdeal : Prop :=
  True

def algebraic_InProjPosIdeal_InProjPosRefIdeal [hInProjPosIdeal : Cert.InProjPosIdeal.Facts] [hInProjPosRefIdeal : Cert.InProjPosRefIdeal.Facts] : Prop :=
  ∀ (m : (ℓ : Loc Cert.InProjPosIdeal.nD Cert.InProjPosIdeal.τ Cert.InProjPosIdeal.sig) → Buf (Elt Ideal) ℓ) (g : Dev Cert.InProjPosIdeal.nD → PrngReg)
    (m' : (ℓ : Loc Cert.InProjPosRefIdeal.nD Cert.InProjPosRefIdeal.τ Cert.InProjPosRefIdeal.sig) → Buf (Elt Ideal) ℓ) (g' : Dev Cert.InProjPosRefIdeal.nD → PrngReg), Pre_InProjPosIdeal m →
    (∀ c : Dev Cert.InProjPosIdeal.nD,
      m' ((c.tc : Thread Cert.InProjPosRefIdeal.nD Cert.InProjPosRefIdeal.τ).loc Cert.InProjPosRefIdeal.main_arg0) = m ((c.tc : Thread Cert.InProjPosIdeal.nD Cert.InProjPosIdeal.τ).loc Cert.InProjPosIdeal.main_arg0)
      ∧ m' ((c.tc : Thread Cert.InProjPosRefIdeal.nD Cert.InProjPosRefIdeal.τ).loc Cert.InProjPosRefIdeal.main_arg1) = m ((c.tc : Thread Cert.InProjPosIdeal.nD Cert.InProjPosIdeal.τ).loc Cert.InProjPosIdeal.main_arg1)
      ∧ m' ((c.tc : Thread Cert.InProjPosRefIdeal.nD Cert.InProjPosRefIdeal.τ).loc Cert.InProjPosRefIdeal.main_arg2) = m ((c.tc : Thread Cert.InProjPosIdeal.nD Cert.InProjPosIdeal.τ).loc Cert.InProjPosIdeal.main_arg2)
      ∧ m' ((c.tc : Thread Cert.InProjPosRefIdeal.nD Cert.InProjPosRefIdeal.τ).loc Cert.InProjPosRefIdeal.main_arg3) = m ((c.tc : Thread Cert.InProjPosIdeal.nD Cert.InProjPosIdeal.τ).loc Cert.InProjPosIdeal.main_arg3)) →
    ∃ (v0 : (c : Dev Cert.InProjPosIdeal.nD) → Buf (Elt Ideal) ((c.tc : Thread Cert.InProjPosIdeal.nD Cert.InProjPosIdeal.τ).loc Cert.InProjPosIdeal.main_v36_0)) (v1 : (c : Dev Cert.InProjPosIdeal.nD) → Buf (Elt Ideal) ((c.tc : Thread Cert.InProjPosIdeal.nD Cert.InProjPosIdeal.τ).loc Cert.InProjPosIdeal.main_v36_1)),
      θ_run (Cert.InProjPosIdeal.defs (F := Ideal)) (onTc (τ := Cert.InProjPosIdeal.τ) (Cert.InProjPosIdeal.main (F := Ideal))) ⟨m, fun _ => 0, g⟩ (fun r => ∀ c : Dev Cert.InProjPosIdeal.nD,
          r.2.mem ((c.tc : Thread Cert.InProjPosIdeal.nD Cert.InProjPosIdeal.τ).loc Cert.InProjPosIdeal.main_v36_0) = v0 c
          ∧ r.2.mem ((c.tc : Thread Cert.InProjPosIdeal.nD Cert.InProjPosIdeal.τ).loc Cert.InProjPosIdeal.main_v36_1) = v1 c
          ∧ r.2.mem ((c.tc : Thread Cert.InProjPosIdeal.nD Cert.InProjPosIdeal.τ).loc Cert.InProjPosIdeal.main_arg0) = m ((c.tc : Thread Cert.InProjPosIdeal.nD Cert.InProjPosIdeal.τ).loc Cert.InProjPosIdeal.main_arg0)
          ∧ r.2.mem ((c.tc : Thread Cert.InProjPosIdeal.nD Cert.InProjPosIdeal.τ).loc Cert.InProjPosIdeal.main_arg1) = m ((c.tc : Thread Cert.InProjPosIdeal.nD Cert.InProjPosIdeal.τ).loc Cert.InProjPosIdeal.main_arg1)
          ∧ r.2.mem ((c.tc : Thread Cert.InProjPosIdeal.nD Cert.InProjPosIdeal.τ).loc Cert.InProjPosIdeal.main_arg2) = m ((c.tc : Thread Cert.InProjPosIdeal.nD Cert.InProjPosIdeal.τ).loc Cert.InProjPosIdeal.main_arg2)
          ∧ r.2.mem ((c.tc : Thread Cert.InProjPosIdeal.nD Cert.InProjPosIdeal.τ).loc Cert.InProjPosIdeal.main_arg3) = m ((c.tc : Thread Cert.InProjPosIdeal.nD Cert.InProjPosIdeal.τ).loc Cert.InProjPosIdeal.main_arg3))
      ∧ θ_run (Cert.InProjPosRefIdeal.defs (F := Ideal)) (onTc (τ := Cert.InProjPosRefIdeal.τ) (Cert.InProjPosRefIdeal.main (F := Ideal))) ⟨m', fun _ => 0, g'⟩ (fun r => ∀ c : Dev Cert.InProjPosRefIdeal.nD,
          r.2.mem ((c.tc : Thread Cert.InProjPosRefIdeal.nD Cert.InProjPosRefIdeal.τ).loc Cert.InProjPosRefIdeal.main_v74) = v0 c
          ∧ r.2.mem ((c.tc : Thread Cert.InProjPosRefIdeal.nD Cert.InProjPosRefIdeal.τ).loc Cert.InProjPosRefIdeal.main_v38) = v1 c
          ∧ r.2.mem ((c.tc : Thread Cert.InProjPosRefIdeal.nD Cert.InProjPosRefIdeal.τ).loc Cert.InProjPosRefIdeal.main_arg0) = m' ((c.tc : Thread Cert.InProjPosRefIdeal.nD Cert.InProjPosRefIdeal.τ).loc Cert.InProjPosRefIdeal.main_arg0)
          ∧ r.2.mem ((c.tc : Thread Cert.InProjPosRefIdeal.nD Cert.InProjPosRefIdeal.τ).loc Cert.InProjPosRefIdeal.main_arg1) = m' ((c.tc : Thread Cert.InProjPosRefIdeal.nD Cert.InProjPosRefIdeal.τ).loc Cert.InProjPosRefIdeal.main_arg1)
          ∧ r.2.mem ((c.tc : Thread Cert.InProjPosRefIdeal.nD Cert.InProjPosRefIdeal.τ).loc Cert.InProjPosRefIdeal.main_arg2) = m' ((c.tc : Thread Cert.InProjPosRefIdeal.nD Cert.InProjPosRefIdeal.τ).loc Cert.InProjPosRefIdeal.main_arg2)
          ∧ r.2.mem ((c.tc : Thread Cert.InProjPosRefIdeal.nD Cert.InProjPosRefIdeal.τ).loc Cert.InProjPosRefIdeal.main_arg3) = m' ((c.tc : Thread Cert.InProjPosRefIdeal.nD Cert.InProjPosRefIdeal.τ).loc Cert.InProjPosRefIdeal.main_arg3))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)) →
    ∃ (v0 : (c : Dev Cert.RouteIdeal.nD) → Buf (Elt Ideal) ((c.tc : Thread Cert.RouteIdeal.nD Cert.RouteIdeal.τ).loc Cert.RouteIdeal.main_v10_0)) (v1 : (c : Dev Cert.RouteIdeal.nD) → Buf (Elt Ideal) ((c.tc : Thread Cert.RouteIdeal.nD Cert.RouteIdeal.τ).loc Cert.RouteIdeal.main_v10_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v10_0) = v0 c
          ∧ r.2.mem ((c.tc : Thread Cert.RouteIdeal.nD Cert.RouteIdeal.τ).loc Cert.RouteIdeal.main_v10_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v12) = v0 c
          ∧ r.2.mem ((c.tc : Thread Cert.RouteRefIdeal.nD Cert.RouteRefIdeal.τ).loc Cert.RouteRefIdeal.main_v48) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Weights_WeightsIdeal : Prop :=
  True

def algebraic_WeightsIdeal_WeightsRefIdeal_pre_finite_logits [hWeightsIdeal : Cert.WeightsIdeal.Facts] [hWeightsRefIdeal : Cert.WeightsRefIdeal.Facts] [hPre_finite_logits : Cert.Pre_finite_logits.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal_finite_logits m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)
      ∧ m' ((c.tc : Thread Cert.WeightsRefIdeal.nD Cert.WeightsRefIdeal.τ).loc Cert.WeightsRefIdeal.main_arg1) = m ((c.tc : Thread Cert.WeightsIdeal.nD Cert.WeightsIdeal.τ).loc Cert.WeightsIdeal.main_arg1)
      ∧ m' ((c.tc : Thread Cert.WeightsRefIdeal.nD Cert.WeightsRefIdeal.τ).loc Cert.WeightsRefIdeal.main_arg2) = m ((c.tc : Thread Cert.WeightsIdeal.nD Cert.WeightsIdeal.τ).loc Cert.WeightsIdeal.main_arg2)
      ∧ m' ((c.tc : Thread Cert.WeightsRefIdeal.nD Cert.WeightsRefIdeal.τ).loc Cert.WeightsRefIdeal.main_arg3) = m ((c.tc : Thread Cert.WeightsIdeal.nD Cert.WeightsIdeal.τ).loc Cert.WeightsIdeal.main_arg3)
      ∧ m' ((c.tc : Thread Cert.WeightsRefIdeal.nD Cert.WeightsRefIdeal.τ).loc Cert.WeightsRefIdeal.main_arg4) = m ((c.tc : Thread Cert.WeightsIdeal.nD Cert.WeightsIdeal.τ).loc Cert.WeightsIdeal.main_arg4)
      ∧ m' ((c.tc : Thread Cert.WeightsRefIdeal.nD Cert.WeightsRefIdeal.τ).loc Cert.WeightsRefIdeal.main_arg5) = m ((c.tc : Thread Cert.WeightsIdeal.nD Cert.WeightsIdeal.τ).loc Cert.WeightsIdeal.main_arg5)
      ∧ m' ((c.tc : Thread Cert.WeightsRefIdeal.nD Cert.WeightsRefIdeal.τ).loc Cert.WeightsRefIdeal.main_arg6) = m ((c.tc : Thread Cert.WeightsIdeal.nD Cert.WeightsIdeal.τ).loc Cert.WeightsIdeal.main_arg6)) →
    ∃ (v0 : (c : Dev Cert.WeightsIdeal.nD) → Buf (Elt Ideal) ((c.tc : Thread Cert.WeightsIdeal.nD Cert.WeightsIdeal.τ).loc Cert.WeightsIdeal.main_v10_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v10_2) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v68) = v0 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0)
          ∧ r.2.mem ((c.tc : Thread Cert.WeightsRefIdeal.nD Cert.WeightsRefIdeal.τ).loc Cert.WeightsRefIdeal.main_arg1) = m' ((c.tc : Thread Cert.WeightsRefIdeal.nD Cert.WeightsRefIdeal.τ).loc Cert.WeightsRefIdeal.main_arg1)
          ∧ r.2.mem ((c.tc : Thread Cert.WeightsRefIdeal.nD Cert.WeightsRefIdeal.τ).loc Cert.WeightsRefIdeal.main_arg2) = m' ((c.tc : Thread Cert.WeightsRefIdeal.nD Cert.WeightsRefIdeal.τ).loc Cert.WeightsRefIdeal.main_arg2)
          ∧ r.2.mem ((c.tc : Thread Cert.WeightsRefIdeal.nD Cert.WeightsRefIdeal.τ).loc Cert.WeightsRefIdeal.main_arg3) = m' ((c.tc : Thread Cert.WeightsRefIdeal.nD Cert.WeightsRefIdeal.τ).loc Cert.WeightsRefIdeal.main_arg3)
          ∧ r.2.mem ((c.tc : Thread Cert.WeightsRefIdeal.nD Cert.WeightsRefIdeal.τ).loc Cert.WeightsRefIdeal.main_arg4) = m' ((c.tc : Thread Cert.WeightsRefIdeal.nD Cert.WeightsRefIdeal.τ).loc Cert.WeightsRefIdeal.main_arg4)
          ∧ r.2.mem ((c.tc : Thread Cert.WeightsRefIdeal.nD Cert.WeightsRefIdeal.τ).loc Cert.WeightsRefIdeal.main_arg5) = m' ((c.tc : Thread Cert.WeightsRefIdeal.nD Cert.WeightsRefIdeal.τ).loc Cert.WeightsRefIdeal.main_arg5)
          ∧ r.2.mem ((c.tc : Thread Cert.WeightsRefIdeal.nD Cert.WeightsRefIdeal.τ).loc Cert.WeightsRefIdeal.main_arg6) = m' ((c.tc : Thread Cert.WeightsRefIdeal.nD Cert.WeightsRefIdeal.τ).loc Cert.WeightsRefIdeal.main_arg6))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v38_0)) (v1 : (c : Dev Cert.ScanIdeal.nD) → Buf (Elt Ideal) ((c.tc : Thread Cert.ScanIdeal.nD Cert.ScanIdeal.τ).loc Cert.ScanIdeal.main_v38_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v38_0) = v0 c
          ∧ r.2.mem ((c.tc : Thread Cert.ScanIdeal.nD Cert.ScanIdeal.τ).loc Cert.ScanIdeal.main_v38_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v175) = v0 c
          ∧ r.2.mem ((c.tc : Thread Cert.ScanRefIdeal.nD Cert.ScanRefIdeal.τ).loc Cert.ScanRefIdeal.main_v169) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8))

def Claim : Prop :=
  ∃ (hMoe : Cert.Moe.Facts) (hMoeIdeal : Cert.MoeIdeal.Facts) (hMoeRefIdeal : Cert.MoeRefIdeal.Facts) (hDense : Cert.Dense.Facts) (hDenseIdeal : Cert.DenseIdeal.Facts) (hDenseRefIdeal : Cert.DenseRefIdeal.Facts) (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hInProjPos : Cert.InProjPos.Facts) (hInProjPosIdeal : Cert.InProjPosIdeal.Facts) (hInProjPosRefIdeal : Cert.InProjPosRefIdeal.Facts) (hRoute : Cert.Route.Facts) (hRouteIdeal : Cert.RouteIdeal.Facts) (hRouteRefIdeal : Cert.RouteRefIdeal.Facts) (hAda : Cert.Ada.Facts) (hAdaIdeal : Cert.AdaIdeal.Facts) (hAdaRefIdeal : Cert.AdaRefIdeal.Facts) (hWeights : Cert.Weights.Facts) (hWeightsIdeal : Cert.WeightsIdeal.Facts) (hWeightsRefIdeal : Cert.WeightsRefIdeal.Facts) (hScan : Cert.Scan.Facts) (hScanIdeal : Cert.ScanIdeal.Facts) (hScanRefIdeal : Cert.ScanRefIdeal.Facts) (hPre_finite_logits : Cert.Pre_finite_logits.Facts),
    quiescent_Moe (hMoe := hMoe)
    ∧ quiescent_MoeIdeal (hMoeIdeal := hMoeIdeal)
    ∧ quiescent_MoeRefIdeal (hMoeRefIdeal := hMoeRefIdeal)
    ∧ quiescent_Dense (hDense := hDense)
    ∧ quiescent_DenseIdeal (hDenseIdeal := hDenseIdeal)
    ∧ quiescent_DenseRefIdeal (hDenseRefIdeal := hDenseRefIdeal)
    ∧ quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjPos (hInProjPos := hInProjPos)
    ∧ quiescent_InProjPosIdeal (hInProjPosIdeal := hInProjPosIdeal)
    ∧ quiescent_InProjPosRefIdeal (hInProjPosRefIdeal := hInProjPosRefIdeal)
    ∧ quiescent_Route (hRoute := hRoute)
    ∧ quiescent_RouteIdeal (hRouteIdeal := hRouteIdeal)
    ∧ quiescent_RouteRefIdeal (hRouteRefIdeal := hRouteRefIdeal)
    ∧ quiescent_Ada (hAda := hAda)
    ∧ quiescent_AdaIdeal (hAdaIdeal := hAdaIdeal)
    ∧ quiescent_AdaRefIdeal (hAdaRefIdeal := hAdaRefIdeal)
    ∧ quiescent_Weights (hWeights := hWeights)
    ∧ quiescent_WeightsIdeal (hWeightsIdeal := hWeightsIdeal)
    ∧ quiescent_WeightsIdeal_pre_finite_logits (hWeightsIdeal := hWeightsIdeal) (hPre_finite_logits := hPre_finite_logits)
    ∧ quiescent_WeightsRefIdeal (hWeightsRefIdeal := hWeightsRefIdeal)
    ∧ quiescent_WeightsRefIdeal_pre_finite_logits (hWeightsRefIdeal := hWeightsRefIdeal) (hPre_finite_logits := hPre_finite_logits)
    ∧ quiescent_Scan (hScan := hScan)
    ∧ quiescent_ScanIdeal (hScanIdeal := hScanIdeal)
    ∧ quiescent_ScanRefIdeal (hScanRefIdeal := hScanRefIdeal)
    ∧ preserves_Moe_MoeIdeal
    ∧ algebraic_MoeIdeal_MoeRefIdeal (hMoeIdeal := hMoeIdeal) (hMoeRefIdeal := hMoeRefIdeal)
    ∧ preserves_Dense_DenseIdeal
    ∧ algebraic_DenseIdeal_DenseRefIdeal (hDenseIdeal := hDenseIdeal) (hDenseRefIdeal := hDenseRefIdeal)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_InProjPos_InProjPosIdeal
    ∧ algebraic_InProjPosIdeal_InProjPosRefIdeal (hInProjPosIdeal := hInProjPosIdeal) (hInProjPosRefIdeal := hInProjPosRefIdeal)
    ∧ preserves_Route_RouteIdeal
    ∧ algebraic_RouteIdeal_RouteRefIdeal (hRouteIdeal := hRouteIdeal) (hRouteRefIdeal := hRouteRefIdeal)
    ∧ preserves_Ada_AdaIdeal
    ∧ algebraic_AdaIdeal_AdaRefIdeal (hAdaIdeal := hAdaIdeal) (hAdaRefIdeal := hAdaRefIdeal)
    ∧ preserves_Weights_WeightsIdeal
    ∧ algebraic_WeightsIdeal_WeightsRefIdeal_pre_finite_logits (hWeightsIdeal := hWeightsIdeal) (hWeightsRefIdeal := hWeightsRefIdeal) (hPre_finite_logits := hPre_finite_logits)
    ∧ preserves_Scan_ScanIdeal
    ∧ algebraic_ScanIdeal_ScanRefIdeal (hScanIdeal := hScanIdeal) (hScanRefIdeal := hScanRefIdeal)
-- ==== Pre_finite_logits.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩
abbrev S40960x8 : Shape := ⟨2, ![40960, 8]⟩
abbrev S1x8 : Shape := ⟨2, ![1, 8]⟩

class Facts : Prop where
  slices_S2x6x8x1024_S1x1x8x1024_0_2_0_0 : S2x6x8x1024.Slices ![0, 2, 0, 0] S1x1x8x1024
  shapeCasts_S1x1x8x1024_S8x1024 : S1x1x8x1024.ShapeCasts S8x1024
  bcast_S8x1024_S1024x8x1024_1_2 : S8x1024.BroadcastsInDim S1024x8x1024 (![1, 2] : Fin 2 → Fin S1024x8x1024.rank)
  shapeCasts_S1024x8x1024_S8192x1024 : S1024x8x1024.ShapeCasts S8192x1024
  slices_S2x6x8x1024_S1x1x8x1024_1_2_0_0 : S2x6x8x1024.Slices ![1, 2, 0, 0] S1x1x8x1024
  bcast_S8x1024_S4096x8x1024_1_2 : S8x1024.BroadcastsInDim S4096x8x1024 (![1, 2] : Fin 2 → Fin S4096x8x1024.rank)
  shapeCasts_S4096x8x1024_S32768x1024 : S4096x8x1024.ShapeCasts S32768x1024
  concatenates_S8192x1024_S32768x1024_S40960x1024_d0 : Shape.Concatenates [S8192x1024, S32768x1024] S40960x1024 0
  bitsLt_bf16_f32 : FTy.bits .bf16 < FTy.bits .f32
  reducesTo_S40960x1024_S40960_d1 : S40960x1024.ReducesTo [1] S40960
  h_S_ : 0 < S_.numel
  bcast_S40960_S40960x1_0 : S40960.BroadcastsInDim S40960x1 (![0] : Fin 1 → Fin S40960x1.rank)
  bcast_S_S40960x1 : S_.BroadcastsInDim S40960x1 (![] : Fin 0 → Fin S40960x1.rank)
  bcast_S40960x1_S40960x1024_0_1 : S40960x1.BroadcastsInDim S40960x1024 (![0, 1] : Fin 2 → Fin S40960x1024.rank)
  bcast_S1024_S1x1024_1 : S1024.BroadcastsInDim S1x1024 (![1] : Fin 1 → Fin S1x1024.rank)
  bcast_S1x1024_S40960x1024_0_1 : S1x1024.BroadcastsInDim S40960x1024 (![0, 1] : Fin 2 → Fin S40960x1024.rank)
  slices_S2x6x8x1024_S1x1x8x1024_0_4_0_0 : S2x6x8x1024.Slices ![0, 4, 0, 0] S1x1x8x1024
  slices_S2x6x8x1024_S1x1x8x1024_1_4_0_0 : S2x6x8x1024.Slices ![1, 4, 0, 0] S1x1x8x1024
  bcast_S_S40960x1024 : S_.BroadcastsInDim S40960x1024 (![] : Fin 0 → Fin S40960x1024.rank)
  slices_S2x6x8x1024_S1x1x8x1024_0_3_0_0 : S2x6x8x1024.Slices ![0, 3, 0, 0] S1x1x8x1024
  slices_S2x6x8x1024_S1x1x8x1024_1_3_0_0 : S2x6x8x1024.Slices ![1, 3, 0, 0] S1x1x8x1024
  bcast_S8_S1x8_1 : S8.BroadcastsInDim S1x8 (![1] : Fin 1 → Fin S1x8.rank)
  bcast_S1x8_S40960x8_0_1 : S1x8.BroadcastsInDim S40960x8 (![0, 1] : Fin 2 → Fin S40960x8.rank)
  bcast_S_S40960x8 : S_.BroadcastsInDim S40960x8 (![] : Fin 0 → Fin S40960x8.rank)
  dot_S40960x1024_S1024x1024_S40960x1024_1_0_0_1_n_n_wf : DotDims.WF S40960x1024 S1024x1024 S40960x1024 [1] [0] [0] [1] [] []
  dot_S40960x1024_S1024x8_S40960x8_1_0_0_1_n_n_wf : DotDims.WF S40960x1024 S1024x8 S40960x8 [1] [0] [0] [1] [] []

variable [Facts]

def dot_S40960x1024_S1024x1024_S40960x1024_1_0_0_1_n_n : DotDims S40960x1024 S1024x1024 S40960x1024 where
  lhsContracting := [1]
  rhsContracting := [0]
  lhsNonContracting := [0]
  rhsNonContracting := [1]
  lhsBatch := []
  rhsBatch := []
  wf := dot_S40960x1024_S1024x1024_S40960x1024_1_0_0_1_n_n_wf
def dot_S40960x1024_S1024x8_S40960x8_1_0_0_1_n_n : DotDims S40960x1024 S1024x8 S40960x8 where
  lhsContracting := [1]
  rhsContracting := [0]
  lhsNonContracting := [0]
  rhsNonContracting := [1]
  lhsBatch := []
  rhsBatch := []
  wf := dot_S40960x1024_S1024x8_S40960x8_1_0_0_1_n_n_wf
def fn_part2 {F : FTy → Type} [FloatOps F] (main_arg5 : FVec F S1024x8 .f32) (main_arg6 : FVec F S8 .f32) (main_v37 : FVec F S40960x1024 .f32) (main_v41 : FVec F S8192x1024 .f32) (main_v43 : FVec F S8x1024 .f32) : IVec S40960x8 1 :=
  let main_v44 : FVec F S4096x8x1024 .f32 := broadcastInDim S4096x8x1024 ![1, 2] bcast_S8x1024_S4096x8x1024_1_2 main_v43
  let main_v45 : FVec F S32768x1024 .f32 := shapeCast S32768x1024 main_v44 shapeCasts_S4096x8x1024_S32768x1024
  let main_v46 : FVec F S40960x1024 .f32 := (fun a b => concatenate S40960x1024 0 [⟨S8192x1024, a⟩, ⟨S32768x1024, b⟩] concatenates_S8192x1024_S32768x1024_S40960x1024_d0) main_v41 main_v45
  let main_v47 : FVec F S40960x1024 .f32 := addf main_v37 main_v46
  let main_v48 : FVec F S40960x8 .f32 := (fun l r => Host.dotGeneral dot_S40960x1024_S1024x8_S40960x8_1_0_0_1_n_n none l r) main_v47 main_arg5
  let main_v49 : FVec F S1x8 .f32 := broadcastInDim S1x8 ![1] bcast_S8_S1x8_1 main_arg6
  let main_v50 : FVec F S40960x8 .f32 := broadcastInDim S40960x8 ![0, 1] bcast_S1x8_S40960x8_0_1 main_v49
  let main_v51 : FVec F S40960x8 .f32 := addf main_v48 main_v50
  let main_v52 : FVec F S40960x8 .f32 := Host.absf main_v51
  let main_cst_3 : FVec F S_ .f32 := constant S_ .f32 0x7F800000#32
  let main_v53 : FVec F S40960x8 .f32 := broadcastInDim S40960x8 ![] bcast_S_S40960x8 main_cst_3
  let main_v54 : IVec S40960x8 1 := cmpf .olt main_v52 main_v53
  main_v54

def fn_part1 {F : FTy → Type} [FloatOps F] (main_arg2 : FVec F S2x6x8x1024 .f32) (main_arg4 : FVec F S1024 .f32) (main_arg5 : FVec F S1024x8 .f32) (main_arg6 : FVec F S8 .f32) (main_v12 : FVec F S40960x1024 .f32) (main_v20 : FVec F S40960x1 .f32) : IVec S40960x8 1 :=
  let main_v21 : FVec F S40960x1024 .f32 := broadcastInDim S40960x1024 ![0, 1] bcast_S40960x1_S40960x1024_0_1 main_v20
  let main_v22 : FVec F S40960x1024 .f32 := mulf main_v12 main_v21
  let main_v23 : FVec F S1x1024 .f32 := broadcastInDim S1x1024 ![1] bcast_S1024_S1x1024_1 main_arg4
  let main_v24 : FVec F S40960x1024 .f32 := broadcastInDim S40960x1024 ![0, 1] bcast_S1x1024_S40960x1024_0_1 main_v23
  let main_v25 : FVec F S40960x1024 .f32 := mulf main_v22 main_v24
  let main_v26 : FVec F S1x1x8x1024 .f32 := (extractStridedSlice S1x1x8x1024 ![0, 4, 0, 0] · slices_S2x6x8x1024_S1x1x8x1024_0_4_0_0) main_arg2
  let main_v27 : FVec F S8x1024 .f32 := shapeCast S8x1024 main_v26 shapeCasts_S1x1x8x1024_S8x1024
  let main_v28 : FVec F S1024x8x1024 .f32 := broadcastInDim S1024x8x1024 ![1, 2] bcast_S8x1024_S1024x8x1024_1_2 main_v27
  let main_v29 : FVec F S8192x1024 .f32 := shapeCast S8192x1024 main_v28 shapeCasts_S1024x8x1024_S8192x1024
  let main_v30 : FVec F S1x1x8x1024 .f32 := (extractStridedSlice S1x1x8x1024 ![1, 4, 0, 0] · slices_S2x6x8x1024_S1x1x8x1024_1_4_0_0) main_arg2
  let main_v31 : FVec F S8x1024 .f32 := shapeCast S8x1024 main_v30 shapeCasts_S1x1x8x1024_S8x1024
  let main_v32 : FVec F S4096x8x1024 .f32 := broadcastInDim S4096x8x1024 ![1, 2] bcast_S8x1024_S4096x8x1024_1_2 main_v31
  let main_v33 : FVec F S32768x1024 .f32 := shapeCast S32768x1024 main_v32 shapeCasts_S4096x8x1024_S32768x1024
  let main_v34 : FVec F S40960x1024 .f32 := (fun a b => concatenate S40960x1024 0 [⟨S8192x1024, a⟩, ⟨S32768x1024, b⟩] concatenates_S8192x1024_S32768x1024_S40960x1024_d0) main_v29 main_v33
  let main_cst_2 : FVec F S_ .f32 := constant S_ .f32 0x3F800000#32
  let main_v35 : FVec F S40960x1024 .f32 := broadcastInDim S40960x1024 ![] bcast_S_S40960x1024 main_cst_2
  let main_v36 : FVec F S40960x1024 .f32 := addf main_v35 main_v34
  let main_v37 : FVec F S40960x1024 .f32 := mulf main_v25 main_v36
  let main_v38 : FVec F S1x1x8x1024 .f32 := (extractStridedSlice S1x1x8x1024 ![0, 3, 0, 0] · slices_S2x6x8x1024_S1x1x8x1024_0_3_0_0) main_arg2
  let main_v39 : FVec F S8x1024 .f32 := shapeCast S8x1024 main_v38 shapeCasts_S1x1x8x1024_S8x1024
  let main_v40 : FVec F S1024x8x1024 .f32 := broadcastInDim S1024x8x1024 ![1, 2] bcast_S8x1024_S1024x8x1024_1_2 main_v39
  let main_v41 : FVec F S8192x1024 .f32 := shapeCast S8192x1024 main_v40 shapeCasts_S1024x8x1024_S8192x1024
  let main_v42 : FVec F S1x1x8x1024 .f32 := (extractStridedSlice S1x1x8x1024 ![1, 3, 0, 0] · slices_S2x6x8x1024_S1x1x8x1024_1_3_0_0) main_arg2
  let main_v43 : FVec F S8x1024 .f32 := shapeCast S8x1024 main_v42 shapeCasts_S1x1x8x1024_S8x1024
  fn_part2 (F := F) main_arg5 main_arg6 main_v37 main_v41 main_v43

def fn {F : FTy → Type} [FloatOps F] (main_arg0 : FVec F S40960x1024 .f32) (main_arg1 : FVec F S40960x1024 .bf16) (main_arg2 : FVec F S2x6x8x1024 .f32) (main_arg3 : FVec F S1024x1024 .f32) (main_arg4 : FVec F S1024 .f32) (main_arg5 : FVec F S1024x8 .f32) (main_arg6 : FVec F S8 .f32) : IVec S40960x8 1 :=
  let main_v0 : FVec F S1x1x8x1024 .f32 := (extractStridedSlice S1x1x8x1024 ![0, 2, 0, 0] · slices_S2x6x8x1024_S1x1x8x1024_0_2_0_0) main_arg2
  let main_v1 : FVec F S8x1024 .f32 := shapeCast S8x1024 main_v0 shapeCasts_S1x1x8x1024_S8x1024
  let main_v2 : FVec F S1024x8x1024 .f32 := broadcastInDim S1024x8x1024 ![1, 2] bcast_S8x1024_S1024x8x1024_1_2 main_v1
  let main_v3 : FVec F S8192x1024 .f32 := shapeCast S8192x1024 main_v2 shapeCasts_S1024x8x1024_S8192x1024
  let main_v4 : FVec F S1x1x8x1024 .f32 := (extractStridedSlice S1x1x8x1024 ![1, 2, 0, 0] · slices_S2x6x8x1024_S1x1x8x1024_1_2_0_0) main_arg2
  let main_v5 : FVec F S8x1024 .f32 := shapeCast S8x1024 main_v4 shapeCasts_S1x1x8x1024_S8x1024
  let main_v6 : FVec F S4096x8x1024 .f32 := broadcastInDim S4096x8x1024 ![1, 2] bcast_S8x1024_S4096x8x1024_1_2 main_v5
  let main_v7 : FVec F S32768x1024 .f32 := shapeCast S32768x1024 main_v6 shapeCasts_S4096x8x1024_S32768x1024
  let main_v8 : FVec F S40960x1024 .f32 := (fun a b => concatenate S40960x1024 0 [⟨S8192x1024, a⟩, ⟨S32768x1024, b⟩] concatenates_S8192x1024_S32768x1024_S40960x1024_d0) main_v3 main_v7
  let main_v9 : FVec F S40960x1024 .f32 := (extf .f32 · bitsLt_bf16_f32) main_arg1
  let main_v10 : FVec F S40960x1024 .f32 := (fun l r => Host.dotGeneral dot_S40960x1024_S1024x1024_S40960x1024_1_0_0_1_n_n none l r) main_v9 main_arg3
  let main_v11 : FVec F S40960x1024 .f32 := mulf main_v8 main_v10
  let main_v12 : FVec F S40960x1024 .f32 := addf main_arg0 main_v11
  let main_v13 : FVec F S40960x1024 .f32 := mulf main_v12 main_v12
  let main_cst : FVec F S_ .f32 := constant S_ .f32 0x00000000#32
  let main_v14 : FVec F S40960 .f32 := (fun x v => Host.reduceAdd x v reducesTo_S40960x1024_S40960_d1 h_S_) main_v13 main_cst
  let main_v15 : FVec F S40960x1 .f32 := broadcastInDim S40960x1 ![0] bcast_S40960_S40960x1_0 main_v14
  let main_cst_0 : FVec F S_ .f32 := constant S_ .f32 0x44800000#32
  let main_v16 : FVec F S40960x1 .f32 := broadcastInDim S40960x1 ![] bcast_S_S40960x1 main_cst_0
  let main_v17 : FVec F S40960x1 .f32 := Host.divf main_v15 main_v16
  let main_cst_1 : FVec F S_ .f32 := constant S_ .f32 0x358637BD#32
  let main_v18 : FVec F S40960x1 .f32 := broadcastInDim S40960x1 ![] bcast_S_S40960x1 main_cst_1
  let main_v19 : FVec F S40960x1 .f32 := addf main_v17 main_v18
  let main_v20 : FVec F S40960x1 .f32 := Host.rsqrt main_v19
  fn_part1 (F := F) main_arg2 main_arg4 main_arg5 main_arg6 main_v12 main_v20
-- ==== Moe.lean ====
abbrev S40960x1024 : Shape := ⟨2, ![40960, 1024]⟩
abbrev S40960x128 : Shape := ⟨2, ![40960, 128]⟩
abbrev S2x6x8x1024 : Shape := ⟨4, ![2, 6, 8, 1024]⟩
abbrev S8x1024x1408 : Shape := ⟨3, ![8, 1024, 1408]⟩
abbrev S8x1408x1024 : Shape := ⟨3, ![8, 1408, 1024]⟩
abbrev S512x1024 : Shape := ⟨2, ![512, 1024]⟩
abbrev S512x128 : Shape := ⟨2, ![512, 128]⟩
abbrev S1x6x8x1024 : Shape := ⟨4, ![1, 6, 8, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩

abbrev nBuf : Space → Nat
  | .hbm => 11
  | .vmem => 17
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S40960x128, .f32⟩
  | .hbm, ⟨3, _⟩ => ⟨S2x6x8x1024, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S8x1024x1408, .bf16⟩
  | .hbm, ⟨8, _⟩ => ⟨S8x1024x1408, .bf16⟩
  | .hbm, ⟨9, _⟩ => ⟨S8x1408x1024, .bf16⟩
  | .hbm, ⟨10, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x6x8x1024, .f32⟩
  | .local _ .vmem, ⟨7, _⟩ => ⟨S1x6x8x1024, .f32⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1408x1024, .bf16⟩
  | .local _ .vmem, ⟨13, _⟩ => ⟨S1x1408x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![80, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S40960x1024 : Shape := ⟨2, ![40960, 1024]⟩
abbrev S40960x128 : Shape := ⟨2, ![40960, 128]⟩
abbrev S2x6x8x1024 : Shape := ⟨4, ![2, 6, 8, 1024]⟩
abbrev S8x1024x1408 : Shape := ⟨3, ![8, 1024, 1408]⟩
abbrev S8x1408x1024 : Shape := ⟨3, ![8, 1408, 1024]⟩
abbrev S40960x8x1408 : Shape := ⟨3, ![40960, 8, 1408]⟩
abbrev S_ : Shape := ⟨0, ![]⟩
abbrev S8x40960x1024 : Shape := ⟨3, ![8, 40960, 1024]⟩
abbrev S40960x8 : Shape := ⟨2, ![40960, 8]⟩
abbrev S8x40960 : Shape := ⟨2, ![8, 40960]⟩
abbrev S8x40960x1 : Shape := ⟨3, ![8, 40960, 1]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S40960x128, .f32⟩
  | .hbm, ⟨3, _⟩ => ⟨S2x6x8x1024, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S40960x1024, .f32⟩
  | .hbm, ⟨8, _⟩ => ⟨S40960x8x1408, .f32⟩
  | .hbm, ⟨9, _⟩ => ⟨S40960x8x1408, .f32⟩
  | .hbm, ⟨10, _⟩ => ⟨S40960x8x1408, .f32⟩
  | .hbm, ⟨11, _⟩ => ⟨S_, .f32⟩
  | .hbm, ⟨12, _⟩ => ⟨S40960x8x1408, .f32⟩
  | .hbm, ⟨13, _⟩ => ⟨S40960x8x1408, .f32⟩
  | .hbm, ⟨14, _⟩ => ⟨S_, .f32⟩
  | .hbm, ⟨15, _⟩ => ⟨S40960x8x1408, .f32⟩
  | .hbm, ⟨16, _⟩ => ⟨S40960x8x1408, .f32⟩
  | .hbm, ⟨17, _⟩ => ⟨S40960x8x1408, .f32⟩
  | .hbm, ⟨18, _⟩ => ⟨S40960x8x1408, .f32⟩
  | .hbm, ⟨19, _⟩ => ⟨S40960x8x1408, .f32⟩
  | .hbm, ⟨20, _⟩ => ⟨S8x40960x1024, .f32⟩
  | .hbm, ⟨21, _⟩ => ⟨S40960x8, .f32⟩
  | .hbm, ⟨22, _⟩ => ⟨S8x40960, .f32⟩
  | .hbm, ⟨23, _⟩ => ⟨S8x40960x1, .f32⟩
  | .hbm, ⟨24, _⟩ => ⟨S8x40960x1024, .f32⟩
  | .hbm, ⟨25, _⟩ => ⟨S8x40960x1024, .f32⟩
  | .hbm, ⟨26, _⟩ => ⟨S_, .f32⟩
  | .hbm, ⟨27, _⟩ => ⟨S40960x1024, .f32⟩
  | .hbm, ⟨28, _⟩ => ⟨S1x1x8x1024, .f32⟩
  | .hbm, ⟨29, _⟩ => ⟨S8x1024, .f32⟩
  | .hbm, ⟨30, _⟩ => ⟨S1024x8x1024, .f32⟩
  | .hbm, ⟨31, _⟩ => ⟨S8192x1024, .f32⟩
  | .hbm, ⟨32, _⟩ => ⟨S1x1x8x1024, .f32⟩
  | .hbm, ⟨33, _⟩ => ⟨S8x1024, .f32⟩
  | .hbm, ⟨34, _⟩ => ⟨S4096x8x1024, .f32⟩
  | .hbm, ⟨35, _⟩ => ⟨S32768x1024, .f32⟩
  | .hbm, ⟨36, _⟩ => ⟨S40960x1024, .f32⟩
  | .hbm, ⟨37, _⟩ => ⟨S40960x1024, .f32⟩
  | .hbm, ⟨38, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Dense.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x6x8x1024 : Shape := ⟨4, ![1, 6, 8, 1024]⟩
abbrev S512x2816 : Shape := ⟨2, ![512, 2816]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 14
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x8x1024, .f32⟩
  | .local _ .vmem, ⟨5, _⟩ => ⟨S1x6x8x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32 : BitVec 32 := 0#32
  let c11_i32 : BitVec 32 := 11#32
  let v42 : BitVec 32 := Scalar.addi c0_i32 c11_i32
  let c1_i32 : BitVec 32 := 1#32
  ⟨c0_i32, v42, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v56 : BitVec 32 := Scalar.muli arg11 c256_i32
  v56
def k0_off1 (k0_t1 : Fin k0_t1_loop.trips) : Fin 2 → Nat :=
  let c0_31 : Index := 0#32
  let c0_i32 : BitVec 32 := 0#32
  let c1_i32 : BitVec 32 := 1#32
  let arg11 : BitVec 32 := Scf.iv c0_i32 c1_i32 k0_t1
  let c256_i32 : BitVec 32 := 256#32
  let v56 : BitVec 32 := Scalar.muli arg11 c256_i32
  let v57 : BitVec 32 := v56
  let v58 : Index := Scalar.indexCast v57
  ![0, v58.toNat]
def k0_off2 (k0_t1 : Fin k0_t1_loop.trips) : Fin 2 → Nat :=
  let c0_35 : Index := 0#32
  let c0_i32 : BitVec 32 := 0#32
  let c1_i32 : BitVec 32 := 1#32
  let arg11 : BitVec 32 := Scf.iv c0_i32 c1_i32 k0_t1
  let c256_i32 : BitVec 32 := 256#32
  let v56 : BitVec 32 := Scalar.muli arg11 c256_i32
  let v57 : BitVec 32 := v56
  let v70 : Index := Scalar.indexCast v57
  ![0, v70.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DenseRefIdeal.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩
abbrev S40960x2816 : Shape := ⟨2, ![40960, 2816]⟩

abbrev nBuf : Space → Nat
  | .hbm => 84
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1x8x1024, .f32⟩
  | .hbm, ⟨9, _⟩ => ⟨S8x1024, .f32⟩
  | .hbm, ⟨10, _⟩ => ⟨S1024x8x1024, .f32⟩
  | .hbm, ⟨11, _⟩ => ⟨S8192x1024, .f32⟩
  | .hbm, ⟨12, _⟩ => ⟨S1x1x8x1024, .f32⟩
  | .hbm, ⟨13, _⟩ => ⟨S8x1024, .f32⟩
  | .hbm, ⟨14, _⟩ => ⟨S4096x8x1024, .f32⟩
  | .hbm, ⟨15, _⟩ => ⟨S32768x1024, .f32⟩
  | .hbm, ⟨16, _⟩ => ⟨S40960x1024, .f32⟩
  | .hbm, ⟨17, _⟩ => ⟨S40960x1024, .f32⟩
  | .hbm, ⟨18, _⟩ => ⟨S40960x1024, .f32⟩
  | .hbm, ⟨19, _⟩ => ⟨S40960x1024, .f32⟩
  | .hbm, ⟨20, _⟩ => ⟨S40960x1024, .f32⟩
  | .hbm, ⟨21, _⟩ => ⟨S40960x1024, .f32⟩
  | .hbm, ⟨22, _⟩ => ⟨S_, .f32⟩
  | .hbm, ⟨23, _⟩ => ⟨S40960, .f32⟩
  | .hbm, ⟨24, _⟩ => ⟨S40960x1, .f32⟩
  | .hbm, ⟨25, _⟩ => ⟨S_, .f32⟩
  | .hbm, ⟨26, _⟩ => ⟨S40960x1, .f32⟩
  | .hbm, ⟨27, _⟩ => ⟨S40960x1, .f32⟩
  | .hbm, ⟨28, _⟩ => ⟨S_, .f32⟩
  | .hbm, ⟨29, _⟩ => ⟨S40960x1, .f32⟩
  | .hbm, ⟨30, _⟩ => ⟨S40960x1, .f32⟩
  | .hbm, ⟨31, _⟩ => ⟨S40960x1, .f32⟩
  | .hbm, ⟨32, _⟩ => ⟨S40960x1024, .f32⟩
  | .hbm, ⟨33, _⟩ => ⟨S40960x1024, .f32⟩
  | .hbm, ⟨34, _⟩ => ⟨S1x1024, .f32⟩
  | .hbm, ⟨35, _⟩ => ⟨S40960x1024, .f32⟩
  | .hbm, ⟨36, _⟩ => ⟨S40960x1024, .f32⟩
  | .hbm, ⟨37, _⟩ => ⟨S1x1x8x1024, .f32⟩
  | .hbm, ⟨38, _⟩ => ⟨S8x1024, .f32⟩
  | .hbm, ⟨39, _⟩ => ⟨S1024x8x1024, .f32⟩
  | .hbm, ⟨40, _⟩ => ⟨S8192x1024, .f32⟩
  | .hbm, ⟨41, _⟩ => ⟨S1x1x8x1024, .f32⟩
  | .hbm, ⟨42, _⟩ => ⟨S8x1024, .f32⟩
  | .hbm, ⟨43, _⟩ => ⟨S4096x8x1024, .f32⟩
  | .hbm, ⟨44, _⟩ => ⟨S32768x1024, .f32⟩
  | .hbm, ⟨45, _⟩ => ⟨S40960x1024, .f32⟩
  | .hbm, ⟨46, _⟩ => ⟨S_, .f32⟩
  | .hbm, ⟨47, _⟩ => ⟨S40960x1024, .f32⟩
  | .hbm, ⟨48, _⟩ => ⟨S40960x1024, .f32⟩
  | .hbm, ⟨49, _⟩ => ⟨S40960x1024, .f32⟩
  | .hbm, ⟨50, _⟩ => ⟨S1x1x8x1024, .f32⟩
  | .hbm, ⟨51, _⟩ => ⟨S8x1024, .f32⟩
  | .hbm, ⟨52, _⟩ => ⟨S1024x8x1024, .f32⟩
  | .hbm, ⟨53, _⟩ => ⟨S8192x1024, .f32⟩
  | .hbm, ⟨54, _⟩ => ⟨S1x1x8x1024, .f32⟩
  | .hbm, ⟨55, _⟩ => ⟨S8x1024, .f32⟩
  | .hbm, ⟨56, _⟩ => ⟨S4096x8x1024, .f32⟩
  | .hbm, ⟨57, _⟩ => ⟨S32768x1024, .f32⟩
  | .hbm, ⟨58, _⟩ => ⟨S40960x1024, .f32⟩
  | .hbm, ⟨59, _⟩ => ⟨S40960x1024, .f32⟩
  | .hbm, ⟨60, _⟩ => ⟨S1x1x8x1024, .f32⟩
  | .hbm, ⟨61, _⟩ => ⟨S8x1024, .f32⟩
  | .hbm, ⟨62, _⟩ => ⟨S1024x8x1024, .f32⟩
  | .hbm, ⟨63, _⟩ => ⟨S8192x1024, .f32⟩
  | .hbm, ⟨64, _⟩ => ⟨S1x1x8x1024, .f32⟩
  | .hbm, ⟨65, _⟩ => ⟨S8x1024, .f32⟩
  | .hbm, ⟨66, _⟩ => ⟨S4096x8x1024, .f32⟩
  | .hbm, ⟨67, _⟩ => ⟨S32768x1024, .f32⟩
  | .hbm, ⟨68, _⟩ => ⟨S40960x1024, .f32⟩
  | .hbm, ⟨69, _⟩ => ⟨S40960x2816, .f32⟩
  | .hbm, ⟨70, _⟩ => ⟨S40960x2816, .f32⟩
  | .hbm, ⟨71, _⟩ => ⟨S40960x2816, .f32⟩
  | .hbm, ⟨72, _⟩ => ⟨S_, .f32⟩
  | .hbm, ⟨73, _⟩ => ⟨S40960x2816, .f32⟩
  | .hbm, ⟨74, _⟩ => ⟨S40960x2816, .f32⟩
  | .hbm, ⟨75, _⟩ => ⟨S_, .f32⟩
  | .hbm, ⟨76, _⟩ => ⟨S40960x2816, .f32⟩
  | .hbm, ⟨77, _⟩ => ⟨S40960x2816, .f32⟩
  | .hbm, ⟨78, _⟩ => ⟨S40960x2816, .f32⟩
  | .hbm, ⟨79, _⟩ => ⟨S40960x2816, .f32⟩
  | .hbm, ⟨80, _⟩ => ⟨S40960x2816, .f32⟩
  | .hbm, ⟨81, _⟩ => ⟨S40960x1024, .f32⟩
  | .hbm, ⟨82, _⟩ => ⟨S40960x1024, .f32⟩
  | .hbm, ⟨83, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Norm.lean ====
abbrev S40960x1024 : Shape := ⟨2, ![40960, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S40960x1024, .f32⟩
  | .hbm, ⟨1, _⟩ => ⟨S1024, .f32⟩
  | .hbm, ⟨2, _⟩ => ⟨S1x1024, .f32⟩
  | .hbm, ⟨3, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S40960x1024 : Shape := ⟨2, ![40960, 1024]⟩
abbrev S1024 : Shape := ⟨1, ![1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S1024, .f32⟩
  | .hbm, ⟨2, _⟩ => ⟨S40960x1024, .f32⟩
  | .hbm, ⟨3, _⟩ => ⟨S_, .f32⟩
  | .hbm, ⟨4, _⟩ => ⟨S40960, .f32⟩
  | .hbm, ⟨5, _⟩ => ⟨S40960x1, .f32⟩
  | .hbm, ⟨6, _⟩ => ⟨S_, .f32⟩
  | .hbm, ⟨7, _⟩ => ⟨S40960x1, .f32⟩
  | .hbm, ⟨8, _⟩ => ⟨S40960x1, .f32⟩
  | .hbm, ⟨9, _⟩ => ⟨S_, .f32⟩
  | .hbm, ⟨10, _⟩ => ⟨S40960x1, .f32⟩
  | .hbm, ⟨11, _⟩ => ⟨S40960x1, .f32⟩
  | .hbm, ⟨12, _⟩ => ⟨S40960x1, .f32⟩
  | .hbm, ⟨13, _⟩ => ⟨S40960x1024, .f32⟩
  | .hbm, ⟨14, _⟩ => ⟨S40960x1024, .f32⟩
  | .hbm, ⟨15, _⟩ => ⟨S1x1024, .f32⟩
  | .hbm, ⟨16, _⟩ => ⟨S40960x1024, .f32⟩
  | .hbm, ⟨17, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InProj.lean ====
abbrev S40960x1024 : Shape := ⟨2, ![40960, 1024]⟩
abbrev S2x6x8x1024 : Shape := ⟨4, ![2, 6, 8, 1024]⟩
abbrev S1024 : Shape := ⟨1, ![1024]⟩
abbrev S1024x1536 : Shape := ⟨2, ![1024, 1536]⟩
abbrev S1x1024 : Shape := ⟨2, ![1, 1024]⟩
abbrev S40960x1536 : Shape := ⟨2, ![40960, 1536]⟩
abbrev S512x1024 : Shape := ⟨2, ![512, 1024]⟩
abbrev S1x6x8x1024 : Shape := ⟨4, ![1, 6, 8, 1024]⟩
abbrev S512x1536 : Shape := ⟨2, ![512, 1536]⟩
abbrev S512 : Shape := ⟨1, ![512]⟩
abbrev S512x1 : Shape := ⟨2, ![512, 1]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩

abbrev nBuf : Space → Nat
  | .hbm => 7
  | .vmem => 8
  | .smem => 0
  | _ => 0

abbrev bufTy : (tb : Table) → Fin (tcTables nBuf tb) → BufTy
  | .hbm, ⟨0, _⟩ => ⟨S40960x1024, .f32⟩
  | .hbm, ⟨1, _⟩ => ⟨S2x6x8x1024, .f32⟩
  | .hbm, ⟨2, _⟩ => ⟨S1024, .f32⟩
  | .hbm, ⟨3, _⟩ => ⟨S1024x1536, .f32⟩
  | .hbm, ⟨4, _⟩ => ⟨S1024x1536, .bf16⟩
  | .hbm, ⟨5, _⟩ => ⟨S1x1024, .f32⟩
  | .hbm, ⟨6, _⟩ => ⟨S40960x1536, .f32⟩
  | .local _ .vmem, ⟨0, _⟩ => ⟨S512x1024, .f32⟩
  | .local _ .vmem, ⟨1, _⟩ => ⟨S512x1024, .f32⟩
  | .local _ .vmem, ⟨2, _⟩ => ⟨S1x6x8x1024, .f32⟩
  | .local _ .vmem, ⟨3, _⟩ => ⟨S1x6x8x1024, .f32⟩
  | .local _ .vmem, ⟨4, _⟩ => ⟨S1x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S40960x1024 : Shape := ⟨2, ![40960, 1024]⟩
abbrev S2x6x8x1024 : Shape := ⟨4, ![2, 6, 8, 1024]⟩
abbrev S1024 : Shape := ⟨1, ![1024]⟩
abbrev S1024x1536 : Shape := ⟨2, ![1024, 1536]⟩
abbrev S_ : Shape := ⟨0, ![]⟩
abbrev S40960 : Shape := ⟨1, ![40960]⟩
abbrev S40960x1 : Shape := ⟨2, ![40960, 1]⟩
abbrev S1x1024 : Shape := ⟨2, ![1, 1024]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩
abbrev S40960x1536 : Shape := ⟨2, ![40960, 1536]⟩

abbrev nBuf : Space → Nat
  | .hbm => 44
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S2x6x8x1024, .f32⟩
  | .hbm, ⟨2, _⟩ => ⟨S1024, .f32⟩
  | .hbm, ⟨3, _⟩ => ⟨S1024x1536, .f32⟩
  | .hbm, ⟨4, _⟩ => ⟨S40960x1024, .f32⟩
  | .hbm, ⟨5, _⟩ => ⟨S_, .f32⟩
  | .hbm, ⟨6, _⟩ => ⟨S40960, .f32⟩
  | .hbm, ⟨7, _⟩ => ⟨S40960x1, .f32⟩
  | .hbm, ⟨8, _⟩ => ⟨S_, .f32⟩
  | .hbm, ⟨9, _⟩ => ⟨S40960x1, .f32⟩
  | .hbm, ⟨10, _⟩ => ⟨S40960x1, .f32⟩
  | .hbm, ⟨11, _⟩ => ⟨S_, .f32⟩
  | .hbm, ⟨12, _⟩ => ⟨S40960x1, .f32⟩
  | .hbm, ⟨13, _⟩ => ⟨S40960x1, .f32⟩
  | .hbm, ⟨14, _⟩ => ⟨S40960x1, .f32⟩
  | .hbm, ⟨15, _⟩ => ⟨S40960x1024, .f32⟩
  | .hbm, ⟨16, _⟩ => ⟨S40960x1024, .f32⟩
  | .hbm, ⟨17, _⟩ => ⟨S1x1024, .f32⟩
  | .hbm, ⟨18, _⟩ => ⟨S40960x1024, .f32⟩
  | .hbm, ⟨19, _⟩ => ⟨S40960x1024, .f32⟩
  | .hbm, ⟨20, _⟩ => ⟨S1x1x8x1024, .f32⟩
  | .hbm, ⟨21, _⟩ => ⟨S8x1024, .f32⟩
  | .hbm, ⟨22, _⟩ => ⟨S1024x8x1024, .f32⟩
  | .hbm, ⟨23, _⟩ => ⟨S8192x1024, .f32⟩
  | .hbm, ⟨24, _⟩ => ⟨S1x1x8x1024, .f32⟩
  | .hbm, ⟨25, _⟩ => ⟨S8x1024, .f32⟩
  | .hbm, ⟨26, _⟩ => ⟨S4096x8x1024, .f32⟩
  | .hbm, ⟨27, _⟩ => ⟨S32768x1024, .f32⟩
  | .hbm, ⟨28, _⟩ => ⟨S40960x1024, .f32⟩
  | .hbm, ⟨29, _⟩ => ⟨S_, .f32⟩
  | .hbm, ⟨30, _⟩ => ⟨S40960x1024, .f32⟩
  | .hbm, ⟨31, _⟩ => ⟨S40960x1024, .f32⟩
  | .hbm, ⟨32, _⟩ => ⟨S40960x1024, .f32⟩
  | .hbm, ⟨33, _⟩ => ⟨S1x1x8x1024, .f32⟩
  | .hbm, ⟨34, _⟩ => ⟨S8x1024, .f32⟩
  | .hbm, ⟨35, _⟩ => ⟨S1024x8x1024, .f32⟩
  | .hbm, ⟨36, _⟩ => ⟨S8192x1024, .f32⟩
  | .hbm, ⟨37, _⟩ => ⟨S1x1x8x1024, .f32⟩
  | .hbm, ⟨38, _⟩ => ⟨S8x1024, .f32⟩
  | .hbm, ⟨39, _⟩ => ⟨S4096x8x1024, .f32⟩
  | .hbm, ⟨40, _⟩ => ⟨S32768x1024, .f32⟩
  | .hbm, ⟨41, _⟩ => ⟨S40960x1024, .f32⟩
  | .hbm, ⟨42, _⟩ => ⟨S40960x1024, .f32⟩
  | .hbm, ⟨43, _⟩ => ⟨S40960x1536, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== InProjPos.lean ====
abbrev S40960x1024 : Shape := ⟨2, ![40960, 1024]⟩
abbrev S2x6x8x1024 : Shape := ⟨4, ![2, 6, 8, 1024]⟩
abbrev S1024 : Shape := ⟨1, ![1024]⟩
abbrev S1024x1536 : Shape := ⟨2, ![1024, 1536]⟩
abbrev S256 : Shape := ⟨1, ![256]⟩
abbrev S_ : Shape := ⟨0, ![]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S16x512 : Shape := ⟨2, ![16, 512]⟩
abbrev S80x512 : Shape := ⟨2, ![80, 512]⟩
abbrev S80x1x512 : Shape := ⟨3, ![80, 1, 512]⟩
abbrev S64x8x512 : Shape := ⟨3, ![64, 8, 512]⟩
abbrev S512x512 : Shape := ⟨2, ![512, 512]⟩
abbrev S1x512x512 : Shape := ⟨3, ![1, 512, 512]⟩
abbrev S2x512x512 : Shape := ⟨3, ![2, 512, 512]⟩
abbrev S1x1024 : Shape := ⟨2, ![1, 1024]⟩
abbrev S40960x1536 : Shape := ⟨2, ![40960, 1536]⟩
abbrev S512x1024 : Shape := ⟨2, ![512, 1024]⟩
abbrev S1x1x512 : Shape := ⟨3, ![1, 1, 512]⟩
abbrev S1x6x8x1024 : Shape := ⟨4, ![1, 6, 8, 1024]⟩
abbrev S512x1536 : Shape := ⟨2, ![512, 1536]⟩
abbrev S1x512 : Shape := ⟨2, ![1, 512]⟩
abbrev S512 : Shape := ⟨1, ![512]⟩
abbrev S512x1 : Shape := ⟨2, ![512, 1]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩

abbrev nBuf : Space → Nat
  | .hbm => 47
  | .vmem => 14
  | .smem => 0
  | _ => 0

abbrev bufTy : (tb : Table) → Fin (tcTables nBuf tb) → BufTy
  | .hbm, ⟨0, _⟩ => ⟨S40960x1024, .f32⟩
  | .hbm, ⟨1, _⟩ => ⟨S2x6x8x1024, .f32⟩
  | .hbm, ⟨2, _⟩ => ⟨S1024, .f32⟩
  | .hbm, ⟨3, _⟩ => ⟨S1024x1536, .f32⟩
  | .hbm, ⟨4, _⟩ => ⟨S1024x1536, .bf16⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S64, .f32⟩
  | .hbm, ⟨16, _⟩ => ⟨S64x1, .f32⟩
  | .hbm, ⟨17, _⟩ => ⟨S1x256, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S64, .f32⟩
  | .hbm, ⟨22, _⟩ => ⟨S64x1, .f32⟩
  | .hbm, ⟨23, _⟩ => ⟨S1x256, .f32⟩
  | .hbm, ⟨24, _⟩ => ⟨S64x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S64x512, .f32⟩
  | .hbm, ⟨30, _⟩ => ⟨S64x256, .f32⟩
  | .hbm, ⟨31, _⟩ => ⟨S64x256, .f32⟩
  | .hbm, ⟨32, _⟩ => ⟨S64x512, .f32⟩
  | .hbm, ⟨33, _⟩ => ⟨S_, .f32⟩
  | .hbm, ⟨34, _⟩ => ⟨S16x512, .f32⟩
  | .hbm, ⟨35, _⟩ => ⟨S80x512, .f32⟩
  | .hbm, ⟨36, _⟩ => ⟨S80x1x512, .f32⟩
  | .hbm, ⟨37, _⟩ => ⟨S64x8x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S1x512x512, .f32⟩
  | .hbm, ⟨42, _⟩ => ⟨S1x512x512, .f32⟩
  | .hbm, ⟨43, _⟩ => ⟨S2x512x512, .f32⟩
  | .hbm, ⟨44, _⟩ => ⟨S1x1024, .f32⟩
  | .hbm, ⟨45, _⟩ => ⟨S40960x1536, .f32⟩
  | .hbm, ⟨46, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S1x1x512, .f32⟩
  | .local _ .vmem, ⟨3, _⟩ => ⟨S1x1x512, .f32⟩
  | .local _ .vmem, ⟨4, _⟩ => ⟨S1x512x512, .f32⟩
  | .local _ .vmem, ⟨5, _⟩ => ⟨S1x512x512, .f32⟩
  | .local _ .vmem, ⟨6, _⟩ => ⟨S1x6x8x1024, .f32⟩
  | .local _ .vmem, ⟨7, _⟩ => ⟨S1x6x8x1024, .f32⟩
  | .local _ .vmem, ⟨8, _⟩ => ⟨S1x1024, .f32⟩
  | .local _ .vmem, ⟨9, _⟩ => ⟨S1024x1536, .bf16⟩
  | .local _ .vmem, ⟨10, _⟩ => ⟨S512x1536, .f32⟩
  | .local _ .vmem, ⟨11, _⟩ => ⟨S512x1536, .f32⟩
  | .local _ .vmem, ⟨12, _⟩ => ⟨S512x1024, .f32⟩
  | .local _ .vmem, ⟨13, _⟩ => ⟨S512x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 4 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjPosRefIdeal.lean ====
abbrev S40960x1024 : Shape := ⟨2, ![40960, 1024]⟩
abbrev S2x6x8x1024 : Shape := ⟨4, ![2, 6, 8, 1024]⟩
abbrev S1024 : Shape := ⟨1, ![1024]⟩
abbrev S1024x1536 : Shape := ⟨2, ![1024, 1536]⟩
abbrev S32768x1024 : Shape := ⟨2, ![32768, 1024]⟩
abbrev S4096x8x1024 : Shape := ⟨3, ![4096, 8, 1024]⟩
abbrev S256 : Shape := ⟨1, ![256]⟩
abbrev S_ : Shape := ⟨0, ![]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S64x512 : Shape := ⟨2, ![64, 512]⟩
abbrev S64x1x512 : Shape := ⟨3, ![64, 1, 512]⟩
abbrev S64x64x512 : Shape := ⟨3, ![64, 64, 512]⟩
abbrev S1x64x512 : Shape := ⟨3, ![1, 64, 512]⟩
abbrev S64x64x1024 : Shape := ⟨3, ![64, 64, 1024]⟩
abbrev S4096x1024 : Shape := ⟨2, ![4096, 1024]⟩
abbrev S4096x1x1024 : Shape := ⟨3, ![4096, 1, 1024]⟩
abbrev S8192x1024 : Shape := ⟨2, ![8192, 1024]⟩
abbrev S40960 : Shape := ⟨1, ![40960]⟩
abbrev S40960x1 : Shape := ⟨2, ![40960, 1]⟩
abbrev S1x1024 : Shape := ⟨2, ![1, 1024]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S40960x1536 : Shape := ⟨2, ![40960, 1536]⟩

abbrev nBuf : Space → Nat
  | .hbm => 86
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S2x6x8x1024, .f32⟩
  | .hbm, ⟨2, _⟩ => ⟨S1024, .f32⟩
  | .hbm, ⟨3, _⟩ => ⟨S1024x1536, .f32⟩
  | .hbm, ⟨4, _⟩ => ⟨S32768x1024, .f32⟩
  | .hbm, ⟨5, _⟩ => ⟨S4096x8x1024, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S64, .f32⟩
  | .hbm, ⟨17, _⟩ => ⟨S64x1, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64, .f32⟩
  | .hbm, ⟨23, _⟩ => ⟨S64x1, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S64x512, .f32⟩
  | .hbm, ⟨31, _⟩ => ⟨S64x256, .f32⟩
  | .hbm, ⟨32, _⟩ => ⟨S64x256, .f32⟩
  | .hbm, ⟨33, _⟩ => ⟨S64x512, .f32⟩
  | .hbm, ⟨34, _⟩ => ⟨S64x1x512, .f32⟩
  | .hbm, ⟨35, _⟩ => ⟨S64x64x512, .f32⟩
  | .hbm, ⟨36, _⟩ => ⟨S1x64x512, .f32⟩
  | .hbm, ⟨37, _⟩ => ⟨S64x64x512, .f32⟩
  | .hbm, ⟨38, _⟩ => ⟨S64x64x1024, .f32⟩
  | .hbm, ⟨39, _⟩ => ⟨S4096x1024, .f32⟩
  | .hbm, ⟨40, _⟩ => ⟨S4096x1x1024, .f32⟩
  | .hbm, ⟨41, _⟩ => ⟨S4096x8x1024, .f32⟩
  | .hbm, ⟨42, _⟩ => ⟨S4096x8x1024, .f32⟩
  | .hbm, ⟨43, _⟩ => ⟨S32768x1024, .f32⟩
  | .hbm, ⟨44, _⟩ => ⟨S8192x1024, .f32⟩
  | .hbm, ⟨45, _⟩ => ⟨S40960x1024, .f32⟩
  | .hbm, ⟨46, _⟩ => ⟨S40960x1024, .f32⟩
  | .hbm, ⟨47, _⟩ => ⟨S_, .f32⟩
  | .hbm, ⟨48, _⟩ => ⟨S40960, .f32⟩
  | .hbm, ⟨49, _⟩ => ⟨S40960x1, .f32⟩
  | .hbm, ⟨50, _⟩ => ⟨S_, .f32⟩
  | .hbm, ⟨51, _⟩ => ⟨S40960x1, .f32⟩
  | .hbm, ⟨52, _⟩ => ⟨S40960x1, .f32⟩
  | .hbm, ⟨53, _⟩ => ⟨S_, .f32⟩
  | .hbm, ⟨54, _⟩ => ⟨S40960x1, .f32⟩
  | .hbm, ⟨55, _⟩ => ⟨S40960x1, .f32⟩
  | .hbm, ⟨56, _⟩ => ⟨S40960x1, .f32⟩
  | .hbm, ⟨57, _⟩ => ⟨S40960x1024, .f32⟩
  | .hbm, ⟨58, _⟩ => ⟨S40960x1024, .f32⟩
  | .hbm, ⟨59, _⟩ => ⟨S1x1024, .f32⟩
  | .hbm, ⟨60, _⟩ => ⟨S40960x1024, .f32⟩
  | .hbm, ⟨61, _⟩ => ⟨S40960x1024, .f32⟩
  | .hbm, ⟨62, _⟩ => ⟨S1x1x8x1024, .f32⟩
  | .hbm, ⟨63, _⟩ => ⟨S8x1024, .f32⟩
  | .hbm, ⟨64, _⟩ => ⟨S1024x8x1024, .f32⟩
  | .hbm, ⟨65, _⟩ => ⟨S8192x1024, .f32⟩
  | .hbm, ⟨66, _⟩ => ⟨S1x1x8x1024, .f32⟩
  | .hbm, ⟨67, _⟩ => ⟨S8x1024, .f32⟩
  | .hbm, ⟨68, _⟩ => ⟨S4096x8x1024, .f32⟩
  | .hbm, ⟨69, _⟩ => ⟨S32768x1024, .f32⟩
  | .hbm, ⟨70, _⟩ => ⟨S40960x1024, .f32⟩
  | .hbm, ⟨71, _⟩ => ⟨S_, .f32⟩
  | .hbm, ⟨72, _⟩ => ⟨S40960x1024, .f32⟩
  | .hbm, ⟨73, _⟩ => ⟨S40960x1024, .f32⟩
  | .hbm, ⟨74, _⟩ => ⟨S40960x1024, .f32⟩
  | .hbm, ⟨75, _⟩ => ⟨S1x1x8x1024, .f32⟩
  | .hbm, ⟨76, _⟩ => ⟨S8x1024, .f32⟩
  | .hbm, ⟨77, _⟩ => ⟨S1024x8x1024, .f32⟩
  | .hbm, ⟨78, _⟩ => ⟨S8192x1024, .f32⟩
  | .hbm, ⟨79, _⟩ => ⟨S1x1x8x1024, .f32⟩
  | .hbm, ⟨80, _⟩ => ⟨S8x1024, .f32⟩
  | .hbm, ⟨81, _⟩ => ⟨S4096x8x1024, .f32⟩
  | .hbm, ⟨82, _⟩ => ⟨S32768x1024, .f32⟩
  | .hbm, ⟨83, _⟩ => ⟨S40960x1024, .f32⟩
  | .hbm, ⟨84, _⟩ => ⟨S40960x1024, .f32⟩
  | .hbm, ⟨85, _⟩ => ⟨S40960x1536, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩

abbrev nD : Nat := 1
abbrev τ : Topo := Topo.v7x

variable {F : FTy → Type} [FloatOps F]
-- ==== Route.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S40960x128 : Shape := ⟨2, ![40960, 128]⟩
abbrev S512x1024 : Shape := ⟨2, ![512, 1024]⟩
abbrev S1x6x8x1024 : Shape := ⟨4, ![1, 6, 8, 1024]⟩
abbrev S512x128 : Shape := ⟨2, ![512, 128]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S1024x1024, .bf16⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x1024, .f32⟩
  | .hbm, ⟨22, _⟩ => ⟨S40960x1024, .f32⟩
  | .hbm, ⟨23, _⟩ => ⟨S40960x1024, .bf16⟩
  | .hbm, ⟨24, _⟩ => ⟨S40960x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x8x1024, .f32⟩
  | .local _ .vmem, ⟨5, _⟩ => ⟨S1x6x8x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouteRefIdeal.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S1x1x8x1024, .f32⟩
  | .hbm, ⟨8, _⟩ => ⟨S8x1024, .f32⟩
  | .hbm, ⟨9, _⟩ => ⟨S1024x8x1024, .f32⟩
  | .hbm, ⟨10, _⟩ => ⟨S8192x1024, .f32⟩
  | .hbm, ⟨11, _⟩ => ⟨S1x1x8x1024, .f32⟩
  | .hbm, ⟨12, _⟩ => ⟨S8x1024, .f32⟩
  | .hbm, ⟨13, _⟩ => ⟨S4096x8x1024, .f32⟩
  | .hbm, ⟨14, _⟩ => ⟨S32768x1024, .f32⟩
  | .hbm, ⟨15, _⟩ => ⟨S40960x1024, .f32⟩
  | .hbm, ⟨16, _⟩ => ⟨S40960x1024, .f32⟩
  | .hbm, ⟨17, _⟩ => ⟨S40960x1024, .f32⟩
  | .hbm, ⟨18, _⟩ => ⟨S40960x1024, .f32⟩
  | .hbm, ⟨19, _⟩ => ⟨S40960x1024, .f32⟩
  | .hbm, ⟨20, _⟩ => ⟨S40960x1024, .f32⟩
  | .hbm, ⟨21, _⟩ => ⟨S_, .f32⟩
  | .hbm, ⟨22, _⟩ => ⟨S40960, .f32⟩
  | .hbm, ⟨23, _⟩ => ⟨S40960x1, .f32⟩
  | .hbm, ⟨24, _⟩ => ⟨S_, .f32⟩
  | .hbm, ⟨25, _⟩ => ⟨S40960x1, .f32⟩
  | .hbm, ⟨26, _⟩ => ⟨S40960x1, .f32⟩
  | .hbm, ⟨27, _⟩ => ⟨S_, .f32⟩
  | .hbm, ⟨28, _⟩ => ⟨S40960x1, .f32⟩
  | .hbm, ⟨29, _⟩ => ⟨S40960x1, .f32⟩
  | .hbm, ⟨30, _⟩ => ⟨S40960x1, .f32⟩
  | .hbm, ⟨31, _⟩ => ⟨S40960x1024, .f32⟩
  | .hbm, ⟨32, _⟩ => ⟨S40960x1024, .f32⟩
  | .hbm, ⟨33, _⟩ => ⟨S1x1024, .f32⟩
  | .hbm, ⟨34, _⟩ => ⟨S40960x1024, .f32⟩
  | .hbm, ⟨35, _⟩ => ⟨S40960x1024, .f32⟩
  | .hbm, ⟨36, _⟩ => ⟨S1x1x8x1024, .f32⟩
  | .hbm, ⟨37, _⟩ => ⟨S8x1024, .f32⟩
  | .hbm, ⟨38, _⟩ => ⟨S1024x8x1024, .f32⟩
  | .hbm, ⟨39, _⟩ => ⟨S8192x1024, .f32⟩
  | .hbm, ⟨40, _⟩ => ⟨S1x1x8x1024, .f32⟩
  | .hbm, ⟨41, _⟩ => ⟨S8x1024, .f32⟩
  | .hbm, ⟨42, _⟩ => ⟨S4096x8x1024, .f32⟩
  | .hbm, ⟨43, _⟩ => ⟨S32768x1024, .f32⟩
  | .hbm, ⟨44, _⟩ => ⟨S40960x1024, .f32⟩
  | .hbm, ⟨45, _⟩ => ⟨S_, .f32⟩
  | .hbm, ⟨46, _⟩ => ⟨S40960x1024, .f32⟩
  | .hbm, ⟨47, _⟩ => ⟨S40960x1024, .f32⟩
  | .hbm, ⟨48, _⟩ => ⟨S40960x1024, .f32⟩
  | .hbm, ⟨49, _⟩ => ⟨S1x1x8x1024, .f32⟩
  | .hbm, ⟨50, _⟩ => ⟨S8x1024, .f32⟩
  | .hbm, ⟨51, _⟩ => ⟨S1024x8x1024, .f32⟩
  | .hbm, ⟨52, _⟩ => ⟨S8192x1024, .f32⟩
  | .hbm, ⟨53, _⟩ => ⟨S1x1x8x1024, .f32⟩
  | .hbm, ⟨54, _⟩ => ⟨S8x1024, .f32⟩
  | .hbm, ⟨55, _⟩ => ⟨S4096x8x1024, .f32⟩
  | .hbm, ⟨56, _⟩ => ⟨S32768x1024, .f32⟩
  | .hbm, ⟨57, _⟩ => ⟨S40960x1024, .f32⟩
  | .hbm, ⟨58, _⟩ => ⟨S40960x1024, .f32⟩
  | .hbm, ⟨59, _⟩ => ⟨S40960x1024, .bf16⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Ada.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Weights.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S40960x128 : Shape := ⟨2, ![40960, 128]⟩
abbrev S512x1024 : Shape := ⟨2, ![512, 1024]⟩
abbrev S1x6x8x1024 : Shape := ⟨4, ![1, 6, 8, 1024]⟩
abbrev S512x128 : Shape := ⟨2, ![512, 128]⟩
abbrev S1x1x8x1024 : Shape := ⟨4, ![1, 1, 8, 1024]⟩
abbrev S8x1024 : Shape := ⟨2, ![8, 1024]⟩
abbrev S64x8x1024 : Shape := ⟨3, ![64, 8, 1024]⟩
abbrev S1x8x1024 : Shape := ⟨3, ![1, 8, 1024]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S1024x1024, .bf16⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x1024, .f32⟩
  | .hbm, ⟨22, _⟩ => ⟨S40960x1024, .f32⟩
  | .hbm, ⟨23, _⟩ => ⟨S40960x1024, .bf16⟩
  | .hbm, ⟨24, _⟩ => ⟨S40960x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x8x1024, .f32⟩
  | .local _ .vmem, ⟨5, _⟩ => ⟨S1x6x8x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WeightsRefIdeal.lean ====
abbrev S40960x1024 : Shape := ⟨2, ![40960, 1024]⟩
abbrev S2x6x8x1024 : Shape := ⟨4, ![2, 6, 8, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1x1x8x1024 : Shape := ⟨4, ![1, 1, 8, 1024]⟩
abbrev S8x1024 : Shape := ⟨2, ![8, 1024]⟩
abbrev S1024x8x1024 : Shape := ⟨3, ![1024, 8, 1024]⟩
abbrev S8192x1024 : Shape := ⟨2, ![8192, 1024]⟩
abbrev S4096x8x1024 : Shape := ⟨3, ![4096, 8, 1024]⟩
abbrev S32768x1024 : Shape := ⟨2, ![32768, 1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩
abbrev S40960x8 : Shape := ⟨2, ![40960, 8]⟩
abbrev S1x8 : Shape := ⟨2, ![1, 8]⟩
abbrev S40960x2 : Shape := ⟨2, ![40960, 2]⟩
abbrev S40960x2x1 : Shape := ⟨3, ![40960, 2, 1]⟩
abbrev S1x1x8 : Shape := ⟨3, ![1, 1, 8]⟩
abbrev S40960x2x8 : Shape := ⟨3, ![40960, 2, 8]⟩
abbrev S40960x128 : Shape := ⟨2, ![40960, 128]⟩

abbrev nBuf : Space → Nat
  | .hbm => 93
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .bf16⟩
  | .hbm, ⟨2, _⟩ => ⟨S2x6x8x1024, .f32⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S1x1x8x1024, .f32⟩
  | .hbm, ⟨8, _⟩ => ⟨S8x1024, .f32⟩
  | .hbm, ⟨9, _⟩ => ⟨S1024x8x1024, .f32⟩
  | .hbm, ⟨10, _⟩ => ⟨S8192x1024, .f32⟩
  | .hbm, ⟨11, _⟩ => ⟨S1x1x8x1024, .f32⟩
  | .hbm, ⟨12, _⟩ => ⟨S8x1024, .f32⟩
  | .hbm, ⟨13, _⟩ => ⟨S4096x8x1024, .f32⟩
  | .hbm, ⟨14, _⟩ => ⟨S32768x1024, .f32⟩
  | .hbm, ⟨15, _⟩ => ⟨S40960x1024, .f32⟩
  | .hbm, ⟨16, _⟩ => ⟨S40960x1024, .f32⟩
  | .hbm, ⟨17, _⟩ => ⟨S40960x1024, .f32⟩
  | .hbm, ⟨18, _⟩ => ⟨S40960x1024, .f32⟩
  | .hbm, ⟨19, _⟩ => ⟨S40960x1024, .f32⟩
  | .hbm, ⟨20, _⟩ => ⟨S40960x1024, .f32⟩
  | .hbm, ⟨21, _⟩ => ⟨S_, .f32⟩
  | .hbm, ⟨22, _⟩ => ⟨S40960, .f32⟩
  | .hbm, ⟨23, _⟩ => ⟨S40960x1, .f32⟩
  | .hbm, ⟨24, _⟩ => ⟨S_, .f32⟩
  | .hbm, ⟨25, _⟩ => ⟨S40960x1, .f32⟩
  | .hbm, ⟨26, _⟩ => ⟨S40960x1, .f32⟩
  | .hbm, ⟨27, _⟩ => ⟨S_, .f32⟩
  | .hbm, ⟨28, _⟩ => ⟨S40960x1, .f32⟩
  | .hbm, ⟨29, _⟩ => ⟨S40960x1, .f32⟩
  | .hbm, ⟨30, _⟩ => ⟨S40960x1, .f32⟩
  | .hbm, ⟨31, _⟩ => ⟨S40960x1024, .f32⟩
  | .hbm, ⟨32, _⟩ => ⟨S40960x1024, .f32⟩
  | .hbm, ⟨33, _⟩ => ⟨S1x1024, .f32⟩
  | .hbm, ⟨34, _⟩ => ⟨S40960x1024, .f32⟩
  | .hbm, ⟨35, _⟩ => ⟨S40960x1024, .f32⟩
  | .hbm, ⟨36, _⟩ => ⟨S1x1x8x1024, .f32⟩
  | .hbm, ⟨37, _⟩ => ⟨S8x1024, .f32⟩
  | .hbm, ⟨38, _⟩ => ⟨S1024x8x1024, .f32⟩
  | .hbm, ⟨39, _⟩ => ⟨S8192x1024, .f32⟩
  | .hbm, ⟨40, _⟩ => ⟨S1x1x8x1024, .f32⟩
  | .hbm, ⟨41, _⟩ => ⟨S8x1024, .f32⟩
  | .hbm, ⟨42, _⟩ => ⟨S4096x8x1024, .f32⟩
  | .hbm, ⟨43, _⟩ => ⟨S32768x1024, .f32⟩
  | .hbm, ⟨44, _⟩ => ⟨S40960x1024, .f32⟩
  | .hbm, ⟨45, _⟩ => ⟨S_, .f32⟩
  | .hbm, ⟨46, _⟩ => ⟨S40960x1024, .f32⟩
  | .hbm, ⟨47, _⟩ => ⟨S40960x1024, .f32⟩
  | .hbm, ⟨48, _⟩ => ⟨S40960x1024, .f32⟩
  | .hbm, ⟨49, _⟩ => ⟨S1x1x8x1024, .f32⟩
  | .hbm, ⟨50, _⟩ => ⟨S8x1024, .f32⟩
  | .hbm, ⟨51, _⟩ => ⟨S1024x8x1024, .f32⟩
  | .hbm, ⟨52, _⟩ => ⟨S8192x1024, .f32⟩
  | .hbm, ⟨53, _⟩ => ⟨S1x1x8x1024, .f32⟩
  | .hbm, ⟨54, _⟩ => ⟨S8x1024, .f32⟩
  | .hbm, ⟨55, _⟩ => ⟨S4096x8x1024, .f32⟩
  | .hbm, ⟨56, _⟩ => ⟨S32768x1024, .f32⟩
  | .hbm, ⟨57, _⟩ => ⟨S40960x1024, .f32⟩
  | .hbm, ⟨58, _⟩ => ⟨S40960x1024, .f32⟩
  | .hbm, ⟨59, _⟩ => ⟨S40960x8, .f32⟩
  | .hbm, ⟨60, _⟩ => ⟨S1x8, .f32⟩
  | .hbm, ⟨61, _⟩ => ⟨S40960x8, .f32⟩
  | .hbm, ⟨62, _⟩ => ⟨S40960x8, .f32⟩
  | .hbm, ⟨63, _⟩ => ⟨S40960x2, .f32⟩
  | .hbm, ⟨64, _⟩ => ⟨S40960x2, .i32⟩
  | .hbm, ⟨65, _⟩ => ⟨S_, .f32⟩
  | .hbm, ⟨66, _⟩ => ⟨S40960, .f32⟩
  | .hbm, ⟨67, _⟩ => ⟨S_, .f32⟩
  | .hbm, ⟨68, _⟩ => ⟨S40960, .f32⟩
  | .hbm, ⟨69, _⟩ => ⟨S40960, .f32⟩
  | .hbm, ⟨70, _⟩ => ⟨S40960x1, .f32⟩
  | .hbm, ⟨71, _⟩ => ⟨S40960x2, .f32⟩
  | .hbm, ⟨72, _⟩ => ⟨S40960x2, .f32⟩
  | .hbm, ⟨73, _⟩ => ⟨S40960x2, .f32⟩
  | .hbm, ⟨74, _⟩ => ⟨S_, .f32⟩
  | .hbm, ⟨75, _⟩ => ⟨S40960, .f32⟩
  | .hbm, ⟨76, _⟩ => ⟨S40960x1, .f32⟩
  | .hbm, ⟨77, _⟩ => ⟨S40960x2, .f32⟩
  | .hbm, ⟨78, _⟩ => ⟨S40960x2, .f32⟩
  | .hbm, ⟨79, _⟩ => ⟨S40960x2x1, .i32⟩
  | .hbm, ⟨80, _⟩ => ⟨S1x1x8, .i32⟩
  | .hbm, ⟨81, _⟩ => ⟨S40960x2x8, .i32⟩
  | .hbm, ⟨82, _⟩ => ⟨S40960x2x8, .i32⟩
  | .hbm, ⟨83, _⟩ => ⟨S40960x2x8, .i1⟩
  | .hbm, ⟨84, _⟩ => ⟨S40960x2x8, .f32⟩
  | .hbm, ⟨85, _⟩ => ⟨S40960x2x1, .f32⟩
  | .hbm, ⟨86, _⟩ => ⟨S40960x2x8, .f32⟩
  | .hbm, ⟨87, _⟩ => ⟨S40960x2x8, .f32⟩
  | .hbm, ⟨88, _⟩ => ⟨S_, .f32⟩
  | .hbm, ⟨89, _⟩ => ⟨S40960x8, .f32⟩
  | .hbm, ⟨90, _⟩ => ⟨S_, .i32⟩
  | .hbm, ⟨91, _⟩ => ⟨S_, .f32⟩
  | .hbm, ⟨92, _⟩ => ⟨S40960x128, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_values : Ref sig .tc := ⟨.hbm, 63, rfl⟩
abbrev main_indices : Ref sig .tc := ⟨.hbm, 64, rfl⟩
abbrev main_cst_3 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_c : Ref sig .tc := ⟨.hbm, 90, rfl⟩
abbrev main_call1_v0 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Scan.lean ====
abbrev S40960x1536 : Shape := ⟨2, ![40960, 1536]⟩
abbrev S8x512 : Shape := ⟨2, ![8, 512]⟩
abbrev S4x512 : Shape := ⟨2, ![4, 512]⟩
abbrev S512 : Shape := ⟨1, ![512]⟩
abbrev S8x64x64 : Shape := ⟨3, ![8, 64, 64]⟩
abbrev S2x4x64x64 : Shape := ⟨4, ![2, 4, 64, 64]⟩
abbrev S4x4 : Shape := ⟨2, ![4, 4]⟩
abbrev S_ : Shape := ⟨0, ![]⟩
abbrev S2x4x64x1x64 : Shape := ⟨5, ![2, 4, 64, 1, 64]⟩
abbrev S4x1x4x1 : Shape := ⟨4, ![4, 1, 4, 1]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x256x512 : Shape := ⟨3, ![2, 256, 512]⟩
abbrev S1x8x512 : Shape := ⟨3, ![1, 8, 512]⟩
abbrev S2x8x512 : Shape := ⟨3, ![2, 8, 512]⟩
abbrev S1x512 : Shape := ⟨2, ![1, 512]⟩
abbrev S40960x512 : Shape := ⟨2, ![40960, 512]⟩
abbrev S5x8x512 : Shape := ⟨3, ![5, 8, 512]⟩
abbrev S512x512 : Shape := ⟨2, ![512, 512]⟩
abbrev S16x512 : Shape := ⟨2, ![16, 512]⟩
abbrev S536x512 : Shape := ⟨2, ![536, 512]⟩
abbrev S512x256 : Shape := ⟨2, ![512, 256]⟩
abbrev S1x256x512 : Shape := ⟨3, ![1, 256, 512]⟩
abbrev S256x512 : Shape := ⟨2, ![256, 512]⟩

abbrev nBuf : Space → Nat
  | .hbm => 52
  | .vmem => 22
  | .smem => 0
  | _ => 0

abbrev bufTy : (tb : Table) → Fin (tcTables nBuf tb) → BufTy
  | .hbm, ⟨0, _⟩ => ⟨S40960x1536, .f32⟩
  | .hbm, ⟨1, _⟩ => ⟨S8x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S2x4x64x64, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S2x4x64x1x64, .f32⟩
  | .hbm, ⟨18, _⟩ => ⟨S4x1x4x1, .f32⟩
  | .hbm, ⟨19, _⟩ => ⟨S1x4x1x4x1, .f32⟩
  | .hbm, ⟨20, _⟩ => ⟨S2x4x64x4x64, .f32⟩
  | .hbm, ⟨21, _⟩ => ⟨S2x4x64x4x64, .f32⟩
  | .hbm, ⟨22, _⟩ => ⟨S2x4x64x4x64, .f32⟩
  | .hbm, ⟨23, _⟩ => ⟨S2x256x256, .f32⟩
  | .hbm, ⟨24, _⟩ => ⟨S2x4x64x64, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S2x4x64x1x64, .f32⟩
  | .hbm, ⟨33, _⟩ => ⟨S4x1x4x1, .f32⟩
  | .hbm, ⟨34, _⟩ => ⟨S1x4x1x4x1, .f32⟩
  | .hbm, ⟨35, _⟩ => ⟨S2x4x64x4x64, .f32⟩
  | .hbm, ⟨36, _⟩ => ⟨S2x4x64x4x64, .f32⟩
  | .hbm, ⟨37, _⟩ => ⟨S2x4x64x4x64, .f32⟩
  | .hbm, ⟨38, _⟩ => ⟨S2x256x256, .f32⟩
  | .hbm, ⟨39, _⟩ => ⟨S2x256x512, .f32⟩
  | .hbm, ⟨40, _⟩ => ⟨S2x256x512, .bf16⟩
  | .hbm, ⟨41, _⟩ => ⟨S1x8x512, .f32⟩
  | .hbm, ⟨42, _⟩ => ⟨S_, .f32⟩
  | .hbm, ⟨43, _⟩ => ⟨S1x8x512, .f32⟩
  | .hbm, ⟨44, _⟩ => ⟨S1x8x512, .f32⟩
  | .hbm, ⟨45, _⟩ => ⟨S2x8x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S40960x512, .f32⟩
  | .hbm, ⟨51, _⟩ => ⟨S5x8x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S8x512, .f32⟩
  | .local _ .vmem, ⟨5, _⟩ => ⟨S8x512, .f32⟩
  | .local _ .vmem, ⟨6, _⟩ => ⟨S4x512, .f32⟩
  | .local _ .vmem, ⟨7, _⟩ => ⟨S1x512, .f32⟩
  | .local _ .vmem, ⟨8, _⟩ => ⟨S2x256x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x8x512, .f32⟩
  | .local _ .vmem, ⟨13, _⟩ => ⟨S1x8x512, .f32⟩
  | .local _ .vmem, ⟨14, _⟩ => ⟨S512x512, .f32⟩
  | .local _ .vmem, ⟨15, _⟩ => ⟨S512x512, .f32⟩
  | .local _ .vmem, ⟨16, _⟩ => ⟨S1x8x512, .f32⟩
  | .local _ .vmem, ⟨17, _⟩ => ⟨S1x8x512, .f32⟩
  | .local _ .vmem, ⟨18, _⟩ => ⟨S536x512, .f32⟩
  | .local _ .vmem, ⟨19, _⟩ => ⟨S512x512, .f32⟩
  | .local _ .vmem, ⟨20, _⟩ => ⟨S512x512, .f32⟩
  | .local _ .vmem, ⟨21, _⟩ => ⟨S8x512, .f32⟩
  | _, _ => ⟨S40960x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32_47 : BitVec 32 := 0#32
  let c64_i32 : BitVec 32 := 64#32
  let v109 : BitVec 32 := Scalar.addi c0_i32_47 c64_i32
  let c1_i32 : BitVec 32 := 1#32
  ⟨c0_i32_47, v109, c1_i32⟩
def k0_mult1 (k0_t1 : Fin k0_t1_loop.trips) : BitVec 32 :=
  let c0_i32_47 : BitVec 32 := 0#32
  let c1_i32 : BitVec 32 := 1#32
  let arg17 : BitVec 32 := Scf.iv c0_i32_47 c1_i32 k0_t1
  let c8_i32 : BitVec 32 := 8#32
  let v117 : BitVec 32 := Scalar.muli arg17 c8_i32
  v117
def k0_off1 (k0_t1 : Fin k0_t1_loop.trips) : Fin 2 → Nat :=
  let c0_i32_47 : BitVec 32 := 0#32
  let c1_i32 : BitVec 32 := 1#32
  let arg17 : BitVec 32 := Scf.iv c0_i32_47 c1_i32 k0_t1
  let c8_i32 : BitVec 32 := 8#32
  let v117 : BitVec 32 := Scalar.muli arg17 c8_i32
  let v118 : BitVec 32 := v117
  let v119 : Index := Scalar.indexCast v118
  let c0_54 : Index := 0#32
  ![v119.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c5119_i32 : BitVec 32 := 5119#32
  let v2 : BitVec 32 := Scalar.minsi v1 c5119_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 1 := Scalar.cmpi .sge arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ScanRefIdeal.lean ====
abbrev S40960x1536 : Shape := ⟨2, ![40960, 1536]⟩
abbrev S8x512 : Shape := ⟨2, ![8, 512]⟩
abbrev S4x512 : Shape := ⟨2, ![4, 512]⟩
abbrev S512 : Shape := ⟨1, ![512]⟩
abbrev S8x64x64 : Shape := ⟨3, ![8, 64, 64]⟩
abbrev S40960x512 : Shape := ⟨2, ![40960, 512]⟩
abbrev S8192x512 : Shape := ⟨2, ![8192, 512]⟩
abbrev S4x256x8x512 : Shape := ⟨4, ![4, 256, 8, 512]⟩
abbrev S4x8x256x512 : Shape := ⟨4, ![4, 8, 256, 512]⟩
abbrev S32x256x512 : Shape := ⟨3, ![32, 256, 512]⟩
abbrev S_ : Shape := ⟨0, ![]⟩
abbrev S32x259x512 : Shape := ⟨3, ![32, 259, 512]⟩
abbrev S1x512 : Shape := ⟨2, ![1, 512]⟩
abbrev S1x1x512 : Shape := ⟨3, ![1, 1, 512]⟩
abbrev S32x256x8x64 : Shape := ⟨4, ![32, 256, 8, 64]⟩
abbrev S8x64x32x256 : Shape := ⟨4, ![8, 64, 32, 256]⟩
abbrev S32768x512 : Shape := ⟨2, ![32768, 512]⟩
abbrev S4096x8x512 : Shape := ⟨3, ![4096, 8, 512]⟩
abbrev S8x4096x512 : Shape := ⟨3, ![8, 4096, 512]⟩
abbrev S8x4099x512 : Shape := ⟨3, ![8, 4099, 512]⟩
abbrev S8x4096x8x64 : Shape := ⟨4, ![8, 4096, 8, 64]⟩
abbrev S8x64x8x4096 : Shape := ⟨4, ![8, 64, 8, 4096]⟩
abbrev S32x4096x512 : Shape := ⟨3, ![32, 4096, 512]⟩
abbrev S40x4096x512 : Shape := ⟨3, ![40, 4096, 512]⟩
abbrev S32x512 : Shape := ⟨2, ![32, 512]⟩
abbrev S40x512 : Shape := ⟨2, ![40, 512]⟩
abbrev S4096x40x512 : Shape := ⟨3, ![4096, 40, 512]⟩
abbrev S1x40x512 : Shape := ⟨3, ![1, 40, 512]⟩
abbrev S32x1x512 : Shape := ⟨3, ![32, 1, 512]⟩
abbrev S8x1x512 : Shape := ⟨3, ![8, 1, 512]⟩
abbrev S5x8x512 : Shape := ⟨3, ![5, 8, 512]⟩

abbrev nBuf : Space → Nat
  | .hbm => 256
  | .vmem => 0
  | .smem => 0
  | _ => 0

abbrev hbmTy0_0 (i : Nat) : BufTy := match i % 128 with
  | 0 => ⟨S40960x1536, .f32⟩
  | 1 => ⟨S8x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S40960x512, .f32⟩
  | 10 => ⟨S8192x512, .f32⟩
  | 11 => ⟨S4x256x8x512, .f32⟩
  | 12 => ⟨S4x8x256x512, .f32⟩
  | 13 => ⟨S32x256x512, .f32⟩
  | 14 => ⟨S_, .i32⟩
  | 15 => ⟨S_, .f32⟩
  | 16 => ⟨S32x259x512, .f32⟩
  | 17 => ⟨S32x256x512, .f32⟩
  | 18 => ⟨S1x512, .f32⟩
  | 19 => ⟨S512, .f32⟩
  | 20 => ⟨S1x1x512, .f32⟩
  | 21 => ⟨S32x256x512, .f32⟩
  | 22 => ⟨S32x256x512, .f32⟩
  | 23 => ⟨S1x1x512, .f32⟩
  | 24 => ⟨S32x256x512, .f32⟩
  | 25 => ⟨S32x256x512, .f32⟩
  | 26 => ⟨S32x256x512, .f32⟩
  | 27 => ⟨S1x512, .f32⟩
  | 28 => ⟨S512, .f32⟩
  | 29 => ⟨S1x1x512, .f32⟩
  | 30 => ⟨S32x256x512, .f32⟩
  | 31 => ⟨S32x256x512, .f32⟩
  | 32 => ⟨S32x256x512, .f32⟩
  | 33 => ⟨S32x256x512, .f32⟩
  | 34 => ⟨S1x512, .f32⟩
  | 35 => ⟨S512, .f32⟩
  | 36 => ⟨S1x1x512, .f32⟩
  | 37 => ⟨S32x256x512, .f32⟩
  | 38 => ⟨S32x256x512, .f32⟩
  | 39 => ⟨S32x256x512, .f32⟩
  | 40 => ⟨S32x256x512, .f32⟩
  | 41 => ⟨S1x512, .f32⟩
  | 42 => ⟨S512, .f32⟩
  | 43 => ⟨S1x1x512, .f32⟩
  | 44 => ⟨S32x256x512, .f32⟩
  | 45 => ⟨S32x256x512, .f32⟩
  | 46 => ⟨S32x256x512, .f32⟩
  | 47 => ⟨S32x256x8x64, .f32⟩
  | 48 => ⟨S8x64x32x256, .f32⟩
  | 49 => ⟨S32x256x8x64, .f32⟩
  | 50 => ⟨S32x256x512, .f32⟩
  | 51 => ⟨S1x1x512, .f32⟩
  | 52 => ⟨S32x256x512, .f32⟩
  | 53 => ⟨S32x256x512, .f32⟩
  | 54 => ⟨S32x256x512, .f32⟩
  | 55 => ⟨S32x256x512, .f32⟩
  | 56 => ⟨S_, .f32⟩
  | 57 => ⟨S32x256x512, .f32⟩
  | 58 => ⟨S32x256x512, .f32⟩
  | 59 => ⟨S_, .f32⟩
  | 60 => ⟨S32x256x512, .f32⟩
  | 61 => ⟨S32x256x512, .f32⟩
  | 62 => ⟨S8x64x32x256, .f32⟩
  | 63 => ⟨S32x256x8x64, .f32⟩
  | 64 => ⟨S32x256x512, .f32⟩
  | 65 => ⟨S1x1x512, .f32⟩
  | 66 => ⟨S32x256x512, .f32⟩
  | 67 => ⟨S32x256x512, .f32⟩
  | 68 => ⟨S32x256x512, .f32⟩
  | 69 => ⟨S32x256x512, .f32⟩
  | 70 => ⟨S_, .f32⟩
  | 71 => ⟨S32x256x512, .f32⟩
  | 72 => ⟨S32x256x512, .f32⟩
  | 73 => ⟨S_, .f32⟩
  | 74 => ⟨S32x256x512, .f32⟩
  | 75 => ⟨S32x256x512, .f32⟩
  | 76 => ⟨S_, .f32⟩
  | 77 => ⟨S32x256x512, .f32⟩
  | 78 => ⟨S32x256x512, .f32⟩
  | 79 => ⟨S512, .f32⟩
  | 80 => ⟨S_, .f32⟩
  | 81 => ⟨S512, .f32⟩
  | 82 => ⟨S512, .f32⟩
  | 83 => ⟨S512, .f32⟩
  | 84 => ⟨S512, .f32⟩
  | 85 => ⟨S512, .i1⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S1x1x512, .f32⟩
  | 95 => ⟨S32x256x512, .f32⟩
  | 96 => ⟨S32x256x512, .f32⟩
  | 97 => ⟨S32x256x512, .f32⟩
  | 98 => ⟨S_, .f32⟩
  | 99 => ⟨S32x256x512, .f32⟩
  | 100 => ⟨S32x256x512, .f32⟩
  | 101 => ⟨S32x256x512, .f32⟩
  | 102 => ⟨S32x256x512, .f32⟩
  | 103 => ⟨S32x256x512, .f32⟩
  | 104 => ⟨S32x256x512, .f32⟩
  | 105 => ⟨S32x256x512, .f32⟩
  | 106 => ⟨S40960x512, .f32⟩
  | 107 => ⟨S32768x512, .f32⟩
  | 108 => ⟨S4096x8x512, .f32⟩
  | 109 => ⟨S8x4096x512, .f32⟩
  | 110 => ⟨S_, .i32⟩
  | 111 => ⟨S_, .f32⟩
  | 112 => ⟨S8x4099x512, .f32⟩
  | 113 => ⟨S8x4096x512, .f32⟩
  | 114 => ⟨S1x512, .f32⟩
  | 115 => ⟨S512, .f32⟩
  | 116 => ⟨S1x1x512, .f32⟩
  | 117 => ⟨S8x4096x512, .f32⟩
  | 118 => ⟨S8x4096x512, .f32⟩
  | 119 => ⟨S1x1x512, .f32⟩
  | 120 => ⟨S8x4096x512, .f32⟩
  | 121 => ⟨S8x4096x512, .f32⟩
  | 122 => ⟨S8x4096x512, .f32⟩
  | 123 => ⟨S1x512, .f32⟩
  | 124 => ⟨S512, .f32⟩
  | 125 => ⟨S1x1x512, .f32⟩
  | 126 => ⟨S8x4096x512, .f32⟩
  | 127 => ⟨S8x4096x512, .f32⟩
  | _ => ⟨S40960x1536, .f32⟩

abbrev hbmTy0_1 (i : Nat) : BufTy := match i % 128 with
  | 0 => ⟨S8x4096x512, .f32⟩
  | 1 => ⟨S8x4096x512, .f32⟩
  | 2 => ⟨S1x512, .f32⟩
  | 3 => ⟨S512, .f32⟩
  | 4 => ⟨S1x1x512, .f32⟩
  | 5 => ⟨S8x4096x512, .f32⟩
  | 6 => ⟨S8x4096x512, .f32⟩
  | 7 => ⟨S8x4096x512, .f32⟩
  | 8 => ⟨S8x4096x512, .f32⟩
  | 9 => ⟨S1x512, .f32⟩
  | 10 => ⟨S512, .f32⟩
  | 11 => ⟨S1x1x512, .f32⟩
  | 12 => ⟨S8x4096x512, .f32⟩
  | 13 => ⟨S8x4096x512, .f32⟩
  | 14 => ⟨S8x4096x512, .f32⟩
  | 15 => ⟨S8x4096x8x64, .f32⟩
  | 16 => ⟨S8x64x8x4096, .f32⟩
  | 17 => ⟨S8x4096x8x64, .f32⟩
  | 18 => ⟨S8x4096x512, .f32⟩
  | 19 => ⟨S1x1x512, .f32⟩
  | 20 => ⟨S8x4096x512, .f32⟩
  | 21 => ⟨S8x4096x512, .f32⟩
  | 22 => ⟨S8x4096x512, .f32⟩
  | 23 => ⟨S8x4096x512, .f32⟩
  | 24 => ⟨S_, .f32⟩
  | 25 => ⟨S8x4096x512, .f32⟩
  | 26 => ⟨S8x4096x512, .f32⟩
  | 27 => ⟨S_, .f32⟩
  | 28 => ⟨S8x4096x512, .f32⟩
  | 29 => ⟨S8x4096x512, .f32⟩
  | 30 => ⟨S8x64x8x4096, .f32⟩
  | 31 => ⟨S8x4096x8x64, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S512, .f32⟩
  | 48 => ⟨S_, .f32⟩
  | 49 => ⟨S512, .f32⟩
  | 50 => ⟨S512, .f32⟩
  | 51 => ⟨S512, .f32⟩
  | 52 => ⟨S512, .f32⟩
  | 53 => ⟨S512, .i1⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S1x1x512, .f32⟩
  | 63 => ⟨S8x4096x512, .f32⟩
  | 64 => ⟨S8x4096x512, .f32⟩
  | 65 => ⟨S8x4096x512, .f32⟩
  | 66 => ⟨S_, .f32⟩
  | 67 => ⟨S8x4096x512, .f32⟩
  | 68 => ⟨S8x4096x512, .f32⟩
  | 69 => ⟨S8x4096x512, .f32⟩
  | 70 => ⟨S8x4096x512, .f32⟩
  | 71 => ⟨S8x4096x512, .f32⟩
  | 72 => ⟨S8x4096x512, .f32⟩
  | 73 => ⟨S8x4096x512, .f32⟩
  | 74 => ⟨S_, .i32⟩
  | 75 => ⟨S_, .f32⟩
  | 76 => ⟨S32x4096x512, .f32⟩
  | 77 => ⟨S40x4096x512, .f32⟩
  | 78 => ⟨S_, .i32⟩
  | 79 => ⟨S_, .f32⟩
  | 80 => ⟨S32x4096x512, .f32⟩
  | 81 => ⟨S40x4096x512, .f32⟩
  | 82 => ⟨S_, .f32⟩
  | 83 => ⟨S32x512, .f32⟩
  | 84 => ⟨S40x512, .f32⟩
  | 85 => ⟨S4096x40x512, .f32⟩
  | 86 => ⟨S4096x40x512, .f32⟩
  | 87 => ⟨S_, .f32⟩
  | 88 => ⟨S4096x40x512, .f32⟩
  | 89 => ⟨S_, .i32⟩
  | 90 => ⟨S4096x40x512, .f32⟩
  | 91 => ⟨S4096x40x512, .f32⟩
  | 92 => ⟨S_, .i32⟩
  | 93 => ⟨S40x512, .f32⟩
  | 94 => ⟨S4096x40x512, .f32⟩
  | 95 => ⟨S_, .i32⟩
  | 96 => ⟨S_, .i1⟩
  | 97 => ⟨S_, .i32⟩
  | 98 => ⟨S_, .i32⟩
  | 99 => ⟨S1x40x512, .f32⟩
  | 100 => ⟨S40x512, .f32⟩
  | 101 => ⟨S_, .i32⟩
  | 102 => ⟨S_, .i32⟩
  | 103 => ⟨S1x40x512, .f32⟩
  | 104 => ⟨S40x512, .f32⟩
  | 105 => ⟨S40x512, .f32⟩
  | 106 => ⟨S40x512, .f32⟩
  | 107 => ⟨S1x40x512, .f32⟩
  | 108 => ⟨S_, .i32⟩
  | 109 => ⟨S_, .i32⟩
  | 110 => ⟨S4096x40x512, .f32⟩
  | 111 => ⟨S_, .i32⟩
  | 112 => ⟨S_, .i32⟩
  | 113 => ⟨S40x4096x512, .f32⟩
  | 114 => ⟨S32x256x512, .f32⟩
  | 115 => ⟨S8x4096x512, .f32⟩
  | 116 => ⟨S32x1x512, .f32⟩
  | 117 => ⟨S32x512, .f32⟩
  | 118 => ⟨S8x1x512, .f32⟩
  | 119 => ⟨S8x512, .f32⟩
  | 120 => ⟨S40x512, .f32⟩
  | 121 => ⟨S5x8x512, .f32⟩
  | 122 => ⟨S4x8x256x512, .f32⟩
  | 123 => ⟨S4x256x8x512, .f32⟩
  | 124 => ⟨S8192x512, .f32⟩
  | 125 => ⟨S4096x8x512, .f32⟩
  | 126 => ⟨S32768x512, .f32⟩
  | 127 => ⟨S40960x512, .f32⟩
  | _ => ⟨S40960x1536, .f32⟩

abbrev hbmTy (i : Nat) : BufTy := match i / 128 with
  | 0 => hbmTy0_0 i
  | 1 => hbmTy0_1 i
  | _ => ⟨S40960x1536, .f32⟩

abbrev bufTy : (tb : Table) → Fin (tcTables nBuf tb) → BufTy
  | .hbm, ⟨i, _⟩ => hbmTy i
  | _, _ => ⟨S40960x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst : Ref sig .tc := ⟨.hbm, 56, rfl⟩
abbrev main_v45 : Ref sig .tc := ⟨.hbm, 57, rfl⟩
abbrev main_v46 : Ref sig .tc := ⟨.hbm, 58, rfl⟩
abbrev main_cst_0 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_1 : Ref sig .tc := ⟨.hbm, 70, rfl⟩
abbrev main_v57 : Ref sig .tc := ⟨.hbm, 71, rfl⟩
abbrev main_v58 : Ref sig .tc := ⟨.hbm, 72, rfl⟩
abbrev main_cst_2 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_5 : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_6 : Ref sig .tc := ⟨.hbm, 152, rfl⟩
abbrev main_v120 : Ref sig .tc := ⟨.hbm, 153, rfl⟩
abbrev main_v121 : Ref sig .tc := ⟨.hbm, 154, rfl⟩
abbrev main_cst_7 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_8 : Ref sig .tc := ⟨.hbm, 166, rfl⟩
abbrev main_v132 : Ref sig .tc := ⟨.hbm, 167, rfl⟩
abbrev main_v133 : Ref sig .tc := ⟨.hbm, 168, rfl⟩
abbrev main_cst_9 : Ref sig .tc := ⟨.hbm, 169, rfl⟩
abbrev main_v134 : Ref sig .tc := ⟨.hbm, 170, rfl⟩
abbrev main_v135 : Ref sig .tc := ⟨.hbm, 171, rfl⟩
abbrev main_cst_10 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_call3_cst : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_v6 : Ref sig .tc := ⟨.hbm, 183, rfl⟩
abbrev main_call3_v7 : Ref sig .tc := ⟨.hbm, 184, rfl⟩
abbrev main_call3_v8 : Ref sig .tc := ⟨.hbm, 185, rfl⟩
abbrev main_call3_v9 : Ref sig .tc := ⟨.hbm, 186, rfl⟩
abbrev main_call3_v10 : Ref sig .tc := ⟨.hbm, 187, rfl⟩
abbrev main_call3_v11 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_11 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_c_12 : Ref sig .tc := ⟨.hbm, 202, rfl⟩
abbrev main_call4_v0 : Ref sig .tc := ⟨.hbm, 203, rfl⟩
abbrev main_v151 : Ref sig .tc := ⟨.hbm, 204, rfl⟩
abbrev main_v152 : Ref sig .tc := ⟨.hbm, 205, rfl⟩
abbrev main_c_13 : Ref sig .tc := ⟨.hbm, 206, rfl⟩
abbrev main_call5_v0 : Ref sig .tc := ⟨.hbm, 207, rfl⟩
abbrev main_v153 : Ref sig .tc := ⟨.hbm, 208, rfl⟩
abbrev main_v154 : Ref sig .tc := ⟨.hbm, 209, rfl⟩
abbrev main_cst_14 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_15 : Ref sig .tc := ⟨.hbm, 215, rfl⟩
abbrev main_v159 : Ref sig .tc := ⟨.hbm, 216, rfl⟩
abbrev main_c_16 : Ref sig .tc := ⟨.hbm, 217, rfl⟩
abbrev main_v160_0 : Ref sig .tc := ⟨.hbm, 218, rfl⟩
abbrev main_v160_1 : Ref sig .tc := ⟨.hbm, 219, rfl⟩
abbrev main_v160_2 : Ref sig .tc := ⟨.hbm, 220, rfl⟩
abbrev main_v160_3 : Ref sig .tc := ⟨.hbm, 221, rfl⟩
abbrev main_v160_4 : Ref sig .tc := ⟨.hbm, 222, rfl⟩
abbrev main_while0c_c_21 : Ref sig .tc := ⟨.hbm, 223, rfl⟩
abbrev main_while0c_v176 : Ref sig .tc := ⟨.hbm, 224, rfl⟩
abbrev main_while0b_call6_c : Ref sig .tc := ⟨.hbm, 225, rfl⟩
abbrev main_while0b_call6_c_0 : Ref sig .tc := ⟨.hbm, 226, rfl⟩
abbrev main_while0b_call6_v0 : Ref sig .tc := ⟨.hbm, 227, rfl⟩
abbrev main_while0b_v176 : Ref sig .tc := ⟨.hbm, 228, rfl⟩
abbrev main_while0b_call7_c : Ref sig .tc := ⟨.hbm, 229, rfl⟩
abbrev main_while0b_call7_c_0 : Ref sig .tc := ⟨.hbm, 230, rfl⟩
abbrev main_while0b_call7_v0 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_call8_v0 : Ref sig .tc := ⟨.hbm, 235, rfl⟩
abbrev main_while0b_call8_c : Ref sig .tc := ⟨.hbm, 236, rfl⟩
abbrev main_while0b_call8_c_0 : Ref sig .tc := ⟨.hbm, 237, rfl⟩
abbrev main_while0b_v180 : Ref sig .tc := ⟨.hbm, 238, rfl⟩
abbrev main_while0b_c_21 : Ref sig .tc := ⟨.hbm, 239, rfl⟩
abbrev main_while0b_v181 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩

abbrev nD : Nat := 1
abbrev τ : Topo := Topo.v7x

variable {F : FTy → Type} [FloatOps F]

abbrev main_while0_count : Scf.Loop 32 := ⟨0#32, 4096#32, 1#32⟩
-- ==== Proof.ScanFrame.lean ====
/- The frame of the forward recurrence, in the kernel: eighty tiles in order, with the carry row between them. -/
module

public import proofs.«01_k».proof.Proof.ScanBody
public import Idealize.ShloMosaic.Lib.Claim

@[expose] public section

set_option maxRecDepth 16384

noncomputable section

namespace Cert.Scan.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scan.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From what the launch leaves to the arguments: none of them is changed. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-- The pieces a tile that starts afresh writes fill the carry row. -/
theorem scover0_A_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S8x512.size (by sl_kernel_rfl) y

/-- The carry a tile that starts afresh leaves. -/
def sout0_A_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) : Vec F S8x512 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The pieces a tile that goes on writes fill the carry row. -/
theorem scover0_B_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1 S8x512.size (by sl_kernel_rfl) y

/-- The carry a tile that goes on leaves. -/
def sout0_B_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) : Vec F S8x512 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1)

/-- The carry after tile `n`: by recursion over the tiles, each afresh or from the one before. -/
def outsAt0 (c : Dev nD) : (n : ℕ) → n < cfg0.N → Vec F S8x512 .f32
  | 0, hn => sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : ((n + 1) % 80 = 0 ∨ (n + 1) % 80 = 4 ∨ (n + 1) % 80 = 8 ∨ (n + 1) % 80 = 12 ∨ (n + 1) % 80 = 16) then
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))

/-- The carry after a tile that starts afresh. -/
theorem outsAt0_A (c : Dev nD) (t : Fin cfg0.N) (h0 : (t.val % 80 = 0 ∨ t.val % 80 = 4 ∨ t.val % 80 = 8 ∨ t.val % 80 = 12 ∨ t.val % 80 = 16)) :
    outsAt0 m c t.val t.isLt = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans rfl

/-- The carry after a tile that goes on. -/
theorem outsAt0_B (c : Dev nD) (t : Fin cfg0.N) (h0 : ¬(t.val % 80 = 0 ∨ t.val % 80 = 4 ∨ t.val % 80 = 8 ∨ t.val % 80 = 12 ∨ t.val % 80 = 16)) :
    outsAt0 m c t.val t.isLt = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans rfl

/-- What the region holds of its own before tile `n`: the carry row at what the tile before left, the other scratch at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r))

/-- Before the first tile the carry row holds anything. -/
theorem PhiS_zero (c : Dev nD) (n : ℕ) (h : n ≤ cfg0.N) (hz : n = 0) : PhiS m c n h = Pipeline.ΦA spec0 c := by
  subst hz; rfl

/-- After a tile the carry row holds that tile's carry. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r)) := rfl

/-- Before a tile that is not the first the carry row holds the last tile's carry. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)))) ∗ (∃ r, prngReg c r)) := by
  cases n with
  | zero => exact absurd rfl hz
  | succ n => rfl

/-- The two results: of their contents nothing is said here. -/
def forgets0 : Fin 12 → Bool := fun w => w.val == 10 || w.val == 11

/-- The data of the launch: the arrays as the region finds them, each input's block at each tile, and the carry row between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- The region's own buffers at a tile's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a tile leaves in input 0's block: the block. -/
theorem after0_0 (c : Dev nD) (t : Fin cfg0.N) : (dats m 0 c).after 0 t = iblk m c 0 t := by dsimp only [dats]
/-- What a tile leaves in input 1's block: the block. -/
theorem after0_1 (c : Dev nD) (t : Fin cfg0.N) : (dats m 0 c).after 1 t = iblk m c 1 t := by dsimp only [dats]
/-- What a tile leaves in input 2's block: the block. -/
theorem after0_2 (c : Dev nD) (t : Fin cfg0.N) : (dats m 0 c).after 2 t = iblk m c 2 t := by dsimp only [dats]
/-- What a tile leaves in input 3's block: the block. -/
theorem after0_3 (c : Dev nD) (t : Fin cfg0.N) : (dats m 0 c).after 3 t = iblk m c 3 t := by dsimp only [dats]
/-- What a tile leaves in input 4's block: the block. -/
theorem after0_4 (c : Dev nD) (t : Fin cfg0.N) : (dats m 0 c).after 4 t = iblk m c 4 t := by dsimp only [dats]
/-- What a tile leaves in input 5's block: the block. -/
theorem after0_5 (c : Dev nD) (t : Fin cfg0.N) : (dats m 0 c).after 5 t = iblk m c 5 t := by dsimp only [dats]
/-- What a tile leaves in input 6's block: the block. -/
theorem after0_6 (c : Dev nD) (t : Fin cfg0.N) : (dats m 0 c).after 6 t = iblk m c 6 t := by dsimp only [dats]
/-- What a tile leaves in input 7's block: the block. -/
theorem after0_7 (c : Dev nD) (t : Fin cfg0.N) : (dats m 0 c).after 7 t = iblk m c 7 t := by dsimp only [dats]
/-- What a tile leaves in input 8's block: the block. -/
theorem after0_8 (c : Dev nD) (t : Fin cfg0.N) : (dats m 0 c).after 8 t = iblk m c 8 t := by dsimp only [dats]
/-- What a tile leaves in input 9's block: the block. -/
theorem after0_9 (c : Dev nD) (t : Fin cfg0.N) : (dats m 0 c).after 9 t = iblk m c 9 t := by dsimp only [dats]

/-- What a tile finds in input 0's block: the block. -/
theorem before0_0 (c : Dev nD) (t : Fin cfg0.N) (d) : (dats m 0 c).before 0 t d = iblk m c 0 t :=
  before0_0_of m (dats m 0 c) (A_eq m c 0) (after0_0 m c) t d
/-- What a tile finds in input 1's block: the block. -/
theorem before0_1 (c : Dev nD) (t : Fin cfg0.N) (d) : (dats m 0 c).before 1 t d = iblk m c 1 t :=
  before0_1_of m (dats m 0 c) (A_eq m c 1) (after0_1 m c) t d
/-- What a tile finds in input 2's block: the block. -/
theorem before0_2 (c : Dev nD) (t : Fin cfg0.N) (d) : (dats m 0 c).before 2 t d = iblk m c 2 t :=
  before0_2_of m (dats m 0 c) (A_eq m c 2) (after0_2 m c) t d
/-- What a tile finds in input 3's block: the block. -/
theorem before0_3 (c : Dev nD) (t : Fin cfg0.N) (d) : (dats m 0 c).before 3 t d = iblk m c 3 t :=
  before0_3_of m (dats m 0 c) (A_eq m c 3) (after0_3 m c) t d
/-- What a tile finds in input 4's block: the block. -/
theorem before0_4 (c : Dev nD) (t : Fin cfg0.N) (d) : (dats m 0 c).before 4 t d = iblk m c 4 t :=
  before0_4_of m (dats m 0 c) (A_eq m c 4) (after0_4 m c) t d
/-- What a tile finds in input 5's block: the block. -/
theorem before0_5 (c : Dev nD) (t : Fin cfg0.N) (d) : (dats m 0 c).before 5 t d = iblk m c 5 t :=
  before0_5_of m (dats m 0 c) (A_eq m c 5) (after0_5 m c) t d
/-- What a tile finds in input 6's block: the block. -/
theorem before0_6 (c : Dev nD) (t : Fin cfg0.N) (d) : (dats m 0 c).before 6 t d = iblk m c 6 t :=
  before0_6_of m (dats m 0 c) (A_eq m c 6) (after0_6 m c) t d
/-- What a tile finds in input 7's block: the block. -/
theorem before0_7 (c : Dev nD) (t : Fin cfg0.N) (d) : (dats m 0 c).before 7 t d = iblk m c 7 t :=
  before0_7_of m (dats m 0 c) (A_eq m c 7) (after0_7 m c) t d
/-- What a tile finds in input 8's block: the block. -/
theorem before0_8 (c : Dev nD) (t : Fin cfg0.N) (d) : (dats m 0 c).before 8 t d = iblk m c 8 t :=
  before0_8_of m (dats m 0 c) (A_eq m c 8) (after0_8 m c) t d
/-- What a tile finds in input 9's block: the block. -/
theorem before0_9 (c : Dev nD) (t : Fin cfg0.N) (d) : (dats m 0 c).before 9 t d = iblk m c 9 t :=
  before0_9_of m (dats m 0 c) (A_eq m c 9) (after0_9 m c) t d

/-- What the body of a tile is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- What the body of a tile gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d))

set_option maxHeartbeats 12800000 in
/-- The body of every tile takes what it is given to what it gives back: afresh at the tiles named above, from the carry at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 80 := lt_of_lt_of_eq t.isLt (show cfg0.N = 80 from N_0)
  by_cases h0 : (t.val % 80 = 0 ∨ t.val % 80 = 4 ∨ t.val % 80 = 8 ∨ t.val % 80 = 12 ∨ t.val % 80 = 16)
  · by_cases hz : t.val = 0
    · rw [PhiS_castSucc m c t, PhiS_zero m c _ _ hz, PhiA0_eq]
      rw [outsAt0_A m c t h0]
      unfold sout0_A_3
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      rw [outsAt0_A m c t h0]
      unfold sout0_A_3
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexists _; iexact HS3
      iintro ⟨H0, H1, H2, H3, H4, H5, H6, H7, H8, H9, H10, H11, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases hz : t.val = 0
    · exfalso; have hN : t.val < 80 := lt_of_lt_of_eq t.isLt (show cfg0.N = 80 from N_0); omega
    · rw [PhiS_castSucc m c t, PhiS_pos m c _ _ hz]
      rw [outsAt0_B m c t h0]
      unfold sout0_B_3
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body the launch calls at a tile is the kernel's. -/
theorem defs₀_row (t : Fin cfg0.N) :
    defs₀ (F := F) .tc cfg0.body (cfg0.bodyArgs t (cfg0.slots t)) = bodyAt0 t := by
  unfold defs₀; rw [Defs.onTc_tc]

/-- The same for the launch, which lists the windows. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch's buffers are those before the first tile. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a tile the carry's value may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexact HS2
    iexists _; iexact HS3
  iexact Hg

/-- After the last tile the launch takes its buffers back. -/
theorem hout (c : Dev nD) : (dats m 0 c).Φ (Fin.last cfg0.N) ⊢ Pipeline.ΦA spec0 c :=
  Phi_out m c _ (by rw [Fin.val_last]; have : cfg0.N = 80 := N_0; omega)

set_option backward.isDefEq.respectTransparency.types false in
/-- Every run of the call ends, leaves the arrays it only reads as the region found them, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run of the call ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The frame of the call: every run ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Scan.Tiles

end
-- ==== Proof.ScanIdealBody.lean ====
/- The body of a tile of the forward recurrence, run once as a tile that starts its carry afresh and once as one that goes on, in the kernel over the extended reals. -/
module

public import proofs.«01_k».proof.Proof.Gen.ScanIdeal.Frame
public import proofs.«01_k».proof.Proof.Gen.ScanIdeal.Skeleton
public import proofs.«01_k».proof.Proof.Gen.ScanIdeal.Loops

@[expose] public section

set_option maxRecDepth 16384

noncomputable section

namespace Cert.ScanIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition by which a tile starts its carry afresh. -/
abbrev cond0_0 (i : grid0.Coords) : Prop := (Scalar.cmpi .ne (Scalar.extui (Scalar.select (Scalar.cmpi .slt (BitVec.ofNat 32 (i 0).val) 16#32) (Scalar.cmpi .eq (Scalar.remsi (BitVec.ofNat 32 (i 0).val) 4#32) 0#32) (Scalar.cmpi .eq (BitVec.ofNat 32 (i 0).val) 16#32))) 0#32) = 1#1
/-- The carry is started afresh at the first tile of each of the four groups of prompts and at the first tile of the samples, and nowhere else. -/
theorem hcond0_0 : ∀ t : Fin cfg0.N, cond0_0 (grid0.coords t) ↔ (t.val % 80 = 0 ∨ t.val % 80 = 4 ∨ t.val % 80 = 8 ∨ t.val % 80 = 12 ∨ t.val % 80 = 16) :=
  (by decide +kernel : ∀ t : Fin grid0.N, cond0_0 (grid0.coords t) ↔ (t.val % 80 = 0 ∨ t.val % 80 = 4 ∨ t.val % 80 = 8 ∨ t.val % 80 = 12 ∨ t.val % 80 = 16))

/-- The block of window 0 at a tile. -/
abbrev ms0_0 (t : Fin cfg0.N) : Memref sig .tc .vmem S512x512 .f32 := win0_0.stage (cfg0.slots t 0)
/-- It is a whole buffer. -/
abbrev hs0_0 (t : Fin cfg0.N) : (ms0_0 t).IsWhole := hstage0_0 ((cfg0.slots t 0).cast nbuf0_0)
/-- The block of window 1 at a tile. -/
abbrev ms0_1 (t : Fin cfg0.N) : Memref sig .tc .vmem S16x512 .f32 := win0_1.stage (cfg0.slots t 1)
/-- It is a whole buffer. -/
abbrev hs0_1 (t : Fin cfg0.N) : (ms0_1 t).IsWhole := hstage0_1 ((cfg0.slots t 1).cast nbuf0_1)
/-- The block of window 2 at a tile. -/
abbrev ms0_2 (t : Fin cfg0.N) : Memref sig .tc .vmem S8x512 .f32 := win0_2.stage (cfg0.slots t 2)
/-- It is a whole buffer. -/
abbrev hs0_2 (t : Fin cfg0.N) : (ms0_2 t).IsWhole := hstage0_2 ((cfg0.slots t 2).cast nbuf0_2)
/-- The block of window 3 at a tile. -/
abbrev ms0_3 (t : Fin cfg0.N) : Memref sig .tc .vmem S4x512 .f32 := win0_3.stage (cfg0.slots t 3)
/-- It is a whole buffer. -/
abbrev hs0_3 (t : Fin cfg0.N) : (ms0_3 t).IsWhole := hstage0_3 ((cfg0.slots t 3).cast nbuf0_3)
/-- The block of window 4 at a tile. -/
abbrev ms0_4 (t : Fin cfg0.N) : Memref sig .tc .vmem S1x512 .f32 := win0_4.stage (cfg0.slots t 4)
/-- It is a whole buffer. -/
abbrev hs0_4 (t : Fin cfg0.N) : (ms0_4 t).IsWhole := hstage0_4 ((cfg0.slots t 4).cast nbuf0_4)
/-- The block of window 5 at a tile. -/
abbrev ms0_5 (t : Fin cfg0.N) : Memref sig .tc .vmem S2x256x512 .bf16 := win0_5.stage (cfg0.slots t 5)
/-- It is a whole buffer. -/
abbrev hs0_5 (t : Fin cfg0.N) : (ms0_5 t).IsWhole := hstage0_5 ((cfg0.slots t 5).cast nbuf0_5)
/-- The block of window 6 at a tile. -/
abbrev ms0_6 (t : Fin cfg0.N) : Memref sig .tc .vmem S1x512 .f32 := win0_6.stage (cfg0.slots t 6)
/-- It is a whole buffer. -/
abbrev hs0_6 (t : Fin cfg0.N) : (ms0_6 t).IsWhole := hstage0_6 ((cfg0.slots t 6).cast nbuf0_6)
/-- The block of window 7 at a tile. -/
abbrev ms0_7 (t : Fin cfg0.N) : Memref sig .tc .vmem S1x512 .f32 := win0_7.stage (cfg0.slots t 7)
/-- It is a whole buffer. -/
abbrev hs0_7 (t : Fin cfg0.N) : (ms0_7 t).IsWhole := hstage0_7 ((cfg0.slots t 7).cast nbuf0_7)
/-- The block of window 8 at a tile. -/
abbrev ms0_8 (t : Fin cfg0.N) : Memref sig .tc .vmem S1x512 .f32 := win0_8.stage (cfg0.slots t 8)
/-- It is a whole buffer. -/
abbrev hs0_8 (t : Fin cfg0.N) : (ms0_8 t).IsWhole := hstage0_8 ((cfg0.slots t 8).cast nbuf0_8)
/-- The block of window 9 at a tile. -/
abbrev ms0_9 (t : Fin cfg0.N) : Memref sig .tc .vmem S1x8x512 .f32 := win0_9.stage (cfg0.slots t 9)
/-- It is a whole buffer. -/
abbrev hs0_9 (t : Fin cfg0.N) : (ms0_9 t).IsWhole := hstage0_9 ((cfg0.slots t 9).cast nbuf0_9)
/-- The block of window 10 at a tile. -/
abbrev ms0_10 (t : Fin cfg0.N) : Memref sig .tc .vmem S512x512 .f32 := win0_10.stage (cfg0.slots t 10)
/-- It is a whole buffer. -/
abbrev hs0_10 (t : Fin cfg0.N) : (ms0_10 t).IsWhole := hstage0_10 ((cfg0.slots t 10).cast nbuf0_10)
/-- The block of window 11 at a tile. -/
abbrev ms0_11 (t : Fin cfg0.N) : Memref sig .tc .vmem S1x8x512 .f32 := win0_11.stage (cfg0.slots t 11)
/-- It is a whole buffer. -/
abbrev hs0_11 (t : Fin cfg0.N) : (ms0_11 t).IsWhole := hstage0_11 ((cfg0.slots t 11).cast nbuf0_11)
/-- Scratch buffer 0. -/
abbrev scM0_0 : Memref sig .tc .vmem S536x512 .f32 := Memref.whole cc0_scratch0
/-- Scratch buffer 1. -/
abbrev scM0_1 : Memref sig .tc .vmem S512x512 .f32 := Memref.whole cc0_scratch1
/-- Scratch buffer 2. -/
abbrev scM0_2 : Memref sig .tc .vmem S512x512 .f32 := Memref.whole cc0_scratch2
/-- Scratch buffer 3. -/
abbrev scM0_3 : Memref sig .tc .vmem S8x512 .f32 := Memref.whole cc0_scratch3
/-- The carry row. -/
abbrev VS0_3 : View sig .tc .vmem S8x512 .f32 := scM0_3.view

/-- The region's own buffers before the first tile: four scratch buffers with anything in them, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1000000 in
/-- The body of a tile that starts its carry afresh: from the inputs' blocks and anything in the outputs and the scratch, it runs to its end, leaves the inputs as they were, and writes the carry row by the pieces found here. -/
noncomputable def kernelRun0_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) :
    Σ' (L10 : List (View.Piece (Elt F) S512x512 .f32)) (L11 : List (View.Piece (Elt F) S1x8x512 .f32)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS3)) -∗ K ⟨⟩))
          ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_lru_fwd_eq_skeleton]; unfold cc0_lru_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

set_option maxHeartbeats 1000000 in
/-- The body of a tile that goes on from the carry `xs3` of the tile before it; the rest as at a tile that starts afresh. -/
noncomputable def kernelRun0_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) :
    Σ' (L10 : List (View.Piece (Elt F) S512x512 .f32)) (L11 : List (View.Piece (Elt F) S1x8x512 .f32)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS3)) -∗ K ⟨⟩))
          ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_lru_fwd_eq_skeleton]; unfold cc0_lru_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.ScanIdeal.Tiles

end
-- ==== Proof.ScanIdealFrame.lean ====
/- The frame of the forward recurrence, in the kernel over the extended reals: eighty tiles in order, with the carry row between them. -/
module

public import proofs.«01_k».proof.Proof.ScanIdealBody
public import Idealize.ShloMosaic.Lib.Claim

@[expose] public section

set_option maxRecDepth 16384

noncomputable section

namespace Cert.ScanIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a tile that starts afresh writes fill the carry row. -/
theorem scover0_A_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S8x512.size (by sl_kernel_rfl) y

/-- The carry a tile that starts afresh leaves. -/
def sout0_A_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) : Vec F S8x512 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The pieces a tile that goes on writes fill the carry row. -/
theorem scover0_B_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.2.1 S8x512.size (by sl_kernel_rfl) y

/-- The carry a tile that goes on leaves. -/
def sout0_B_3 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) : Vec F S8x512 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.2.1)

/-- The pieces a tile that starts afresh writes fill its block of the result rows. -/
theorem cover0_A_10 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S8x512.size (by sl_kernel_rfl) y

/-- The result rows a tile that starts afresh leaves. -/
def out0_A_10 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) : Vec F S512x512 .f32 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1

/-- The pieces a tile that starts afresh writes fill its block of the last state. -/
theorem cover0_A_11 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (y : S1x8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 S1x8x512.size (by sl_kernel_rfl) y

/-- The last state a tile that starts afresh leaves. -/
def out0_A_11 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) : Vec F S1x8x512 .f32 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1

/-- The pieces a tile that goes on writes fill its block of the result rows. -/
theorem cover0_B_10 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1 S8x512.size (by sl_kernel_rfl) y

/-- The result rows a tile that goes on leaves. -/
def out0_B_10 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) : Vec F S512x512 .f32 :=
  View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).1

/-- The pieces a tile that goes on writes fill its block of the last state. -/
theorem cover0_B_11 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) (y : S1x8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.1 S1x8x512.size (by sl_kernel_rfl) y

/-- The last state a tile that goes on leaves. -/
def out0_B_11 (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec F S512x512 .f32) (x1 : Vec F S16x512 .f32) (x2 : Vec F S8x512 .f32) (x3 : Vec F S4x512 .f32) (x4 : Vec F S1x512 .f32) (x5 : Vec F S2x256x512 .bf16) (x6 : Vec F S1x512 .f32) (x7 : Vec F S1x512 .f32) (x8 : Vec F S1x512 .f32) (x9 : Vec F S1x8x512 .f32) (xs3 : Vec F S8x512 .f32) : Vec F S1x8x512 .f32 :=
  View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3).2.1

/-- The carry after tile `n`: by recursion over the tiles, each afresh or from the one before. -/
def outsAt0 (c : Dev nD) : (n : ℕ) → n < cfg0.N → Vec F S8x512 .f32
  | 0, hn => sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : ((n + 1) % 80 = 0 ∨ (n + 1) % 80 = 4 ∨ (n + 1) % 80 = 8 ∨ (n + 1) % 80 = 12 ∨ (n + 1) % 80 = 16) then
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))

/-- The carry after a tile that starts afresh. -/
theorem outsAt0_A (c : Dev nD) (t : Fin cfg0.N) (h0 : (t.val % 80 = 0 ∨ t.val % 80 = 4 ∨ t.val % 80 = 8 ∨ t.val % 80 = 12 ∨ t.val % 80 = 16)) :
    outsAt0 m c t.val t.isLt = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans rfl

/-- The carry after a tile that goes on. -/
theorem outsAt0_B (c : Dev nD) (t : Fin cfg0.N) (h0 : ¬(t.val % 80 = 0 ∨ t.val % 80 = 4 ∨ t.val % 80 = 8 ∨ t.val % 80 = 12 ∨ t.val % 80 = 16)) :
    outsAt0 m c t.val t.isLt = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans rfl

/-- What tile `t` leaves in its block of the result rows. -/
def rows (c : Dev nD) (t : Fin cfg0.N) : Vec F S512x512 .f32 :=
  if h0 : (t.val % 80 = 0 ∨ t.val % 80 = 4 ∨ t.val % 80 = 8 ∨ t.val % 80 = 12 ∨ t.val % 80 = 16) then
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)
  else
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt))

/-- The result rows after a tile that starts afresh. -/
theorem rows_A (c : Dev nD) (t : Fin cfg0.N) (h0 : (t.val % 80 = 0 ∨ t.val % 80 = 4 ∨ t.val % 80 = 8 ∨ t.val % 80 = 12 ∨ t.val % 80 = 16)) :
    rows m c t = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := dif_pos h0

/-- The result rows after a tile that goes on. -/
theorem rows_B (c : Dev nD) (t : Fin cfg0.N) (h0 : ¬(t.val % 80 = 0 ∨ t.val % 80 = 4 ∨ t.val % 80 = 8 ∨ t.val % 80 = 12 ∨ t.val % 80 = 16)) :
    rows m c t = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := dif_neg h0

/-- What tile `t` leaves in its block of the last state. -/
def last (c : Dev nD) (t : Fin cfg0.N) : Vec F S1x8x512 .f32 :=
  if h0 : (t.val % 80 = 0 ∨ t.val % 80 = 4 ∨ t.val % 80 = 8 ∨ t.val % 80 = 12 ∨ t.val % 80 = 16) then
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)
  else
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt))

/-- The last state after a tile that starts afresh. -/
theorem last_A (c : Dev nD) (t : Fin cfg0.N) (h0 : (t.val % 80 = 0 ∨ t.val % 80 = 4 ∨ t.val % 80 = 8 ∨ t.val % 80 = 12 ∨ t.val % 80 = 16)) :
    last m c t = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := dif_pos h0

/-- The last state after a tile that goes on. -/
theorem last_B (c : Dev nD) (t : Fin cfg0.N) (h0 : ¬(t.val % 80 = 0 ∨ t.val % 80 = 4 ∨ t.val % 80 = 8 ∨ t.val % 80 = 12 ∨ t.val % 80 = 16)) :
    last m c t = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := dif_neg h0

/-- What the region holds of its own before tile `n`: the carry row at what the tile before left, the other scratch at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r))

/-- Before the first tile the carry row holds anything. -/
theorem PhiS_zero (c : Dev nD) (n : ℕ) (h : n ≤ cfg0.N) (hz : n = 0) : PhiS m c n h = Pipeline.ΦA spec0 c := by
  subst hz; rfl

/-- After a tile the carry row holds that tile's carry. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn))) ∗ (∃ r, prngReg c r)) := rfl

/-- Before a tile that is not the first the carry row holds the last tile's carry. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)))) ∗ (∃ r, prngReg c r)) := by
  cases n with
  | zero => exact absurd rfl hz
  | succ n => rfl

/-- The data of the launch: the arrays as the region finds them, each input's block at each tile, and the carry row between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => rows m c t
    | ⟨11, _⟩ => last m c t
  Φ t := PhiS m c t.val (Nat.le_of_lt_succ t.isLt)
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- The region's own buffers at a tile's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a tile leaves in input 0's block: the block. -/
theorem after0_0 (c : Dev nD) (t : Fin cfg0.N) : (dats m 0 c).after 0 t = iblk m c 0 t := by dsimp only [dats]
/-- What a tile leaves in input 1's block: the block. -/
theorem after0_1 (c : Dev nD) (t : Fin cfg0.N) : (dats m 0 c).after 1 t = iblk m c 1 t := by dsimp only [dats]
/-- What a tile leaves in input 2's block: the block. -/
theorem after0_2 (c : Dev nD) (t : Fin cfg0.N) : (dats m 0 c).after 2 t = iblk m c 2 t := by dsimp only [dats]
/-- What a tile leaves in input 3's block: the block. -/
theorem after0_3 (c : Dev nD) (t : Fin cfg0.N) : (dats m 0 c).after 3 t = iblk m c 3 t := by dsimp only [dats]
/-- What a tile leaves in input 4's block: the block. -/
theorem after0_4 (c : Dev nD) (t : Fin cfg0.N) : (dats m 0 c).after 4 t = iblk m c 4 t := by dsimp only [dats]
/-- What a tile leaves in input 5's block: the block. -/
theorem after0_5 (c : Dev nD) (t : Fin cfg0.N) : (dats m 0 c).after 5 t = iblk m c 5 t := by dsimp only [dats]
/-- What a tile leaves in input 6's block: the block. -/
theorem after0_6 (c : Dev nD) (t : Fin cfg0.N) : (dats m 0 c).after 6 t = iblk m c 6 t := by dsimp only [dats]
/-- What a tile leaves in input 7's block: the block. -/
theorem after0_7 (c : Dev nD) (t : Fin cfg0.N) : (dats m 0 c).after 7 t = iblk m c 7 t := by dsimp only [dats]
/-- What a tile leaves in input 8's block: the block. -/
theorem after0_8 (c : Dev nD) (t : Fin cfg0.N) : (dats m 0 c).after 8 t = iblk m c 8 t := by dsimp only [dats]
/-- What a tile leaves in input 9's block: the block. -/
theorem after0_9 (c : Dev nD) (t : Fin cfg0.N) : (dats m 0 c).after 9 t = iblk m c 9 t := by dsimp only [dats]
/-- What a tile leaves in its block of the result rows. -/
theorem after0_10 (c : Dev nD) (t : Fin cfg0.N) : (dats m 0 c).after 10 t = rows m c t := by dsimp only [dats]
/-- What a tile leaves in its block of the last states. -/
theorem after0_11 (c : Dev nD) (t : Fin cfg0.N) : (dats m 0 c).after 11 t = last m c t := by dsimp only [dats]

/-- What a tile finds in input 0's block: the block. -/
theorem before0_0 (c : Dev nD) (t : Fin cfg0.N) (d) : (dats m 0 c).before 0 t d = iblk m c 0 t :=
  before0_0_of m (dats m 0 c) (A_eq m c 0) (after0_0 m c) t d
/-- What a tile finds in input 1's block: the block. -/
theorem before0_1 (c : Dev nD) (t : Fin cfg0.N) (d) : (dats m 0 c).before 1 t d = iblk m c 1 t :=
  before0_1_of m (dats m 0 c) (A_eq m c 1) (after0_1 m c) t d
/-- What a tile finds in input 2's block: the block. -/
theorem before0_2 (c : Dev nD) (t : Fin cfg0.N) (d) : (dats m 0 c).before 2 t d = iblk m c 2 t :=
  before0_2_of m (dats m 0 c) (A_eq m c 2) (after0_2 m c) t d
/-- What a tile finds in input 3's block: the block. -/
theorem before0_3 (c : Dev nD) (t : Fin cfg0.N) (d) : (dats m 0 c).before 3 t d = iblk m c 3 t :=
  before0_3_of m (dats m 0 c) (A_eq m c 3) (after0_3 m c) t d
/-- What a tile finds in input 4's block: the block. -/
theorem before0_4 (c : Dev nD) (t : Fin cfg0.N) (d) : (dats m 0 c).before 4 t d = iblk m c 4 t :=
  before0_4_of m (dats m 0 c) (A_eq m c 4) (after0_4 m c) t d
/-- What a tile finds in input 5's block: the block. -/
theorem before0_5 (c : Dev nD) (t : Fin cfg0.N) (d) : (dats m 0 c).before 5 t d = iblk m c 5 t :=
  before0_5_of m (dats m 0 c) (A_eq m c 5) (after0_5 m c) t d
/-- What a tile finds in input 6's block: the block. -/
theorem before0_6 (c : Dev nD) (t : Fin cfg0.N) (d) : (dats m 0 c).before 6 t d = iblk m c 6 t :=
  before0_6_of m (dats m 0 c) (A_eq m c 6) (after0_6 m c) t d
/-- What a tile finds in input 7's block: the block. -/
theorem before0_7 (c : Dev nD) (t : Fin cfg0.N) (d) : (dats m 0 c).before 7 t d = iblk m c 7 t :=
  before0_7_of m (dats m 0 c) (A_eq m c 7) (after0_7 m c) t d
/-- What a tile finds in input 8's block: the block. -/
theorem before0_8 (c : Dev nD) (t : Fin cfg0.N) (d) : (dats m 0 c).before 8 t d = iblk m c 8 t :=
  before0_8_of m (dats m 0 c) (A_eq m c 8) (after0_8 m c) t d
/-- What a tile finds in input 9's block: the block. -/
theorem before0_9 (c : Dev nD) (t : Fin cfg0.N) (d) : (dats m 0 c).before 9 t d = iblk m c 9 t :=
  before0_9_of m (dats m 0 c) (A_eq m c 9) (after0_9 m c) t d

/-- What the body of a tile is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body of a tile gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 12800000 in
/-- The body of every tile takes what it is given to what it gives back: afresh at the tiles named above, from the carry at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 80 := lt_of_lt_of_eq t.isLt (show cfg0.N = 80 from N_0)
  by_cases h0 : (t.val % 80 = 0 ∨ t.val % 80 = 4 ∨ t.val % 80 = 8 ∨ t.val % 80 = 12 ∨ t.val % 80 = 16)
  · by_cases hz : t.val = 0
    · rw [PhiS_castSucc m c t, PhiS_zero m c _ _ hz, PhiA0_eq]
      rw [outsAt0_A m c t h0, rows_A m c t h0, last_A m c t h0]
      unfold sout0_A_3 out0_A_10 out0_A_11
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (cover0_A_10 c _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_eq_canon _ _ _ (cover0_A_11 c _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0, rows_A m c t h0, last_A m c t h0]
      unfold sout0_A_3 out0_A_10 out0_A_11
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexists _; iexact HS3
      iintro ⟨H0, H1, H2, H3, H4, H5, H6, H7, H8, H9, ⟨%e10, H10⟩, ⟨%e11, H11⟩, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (cover0_A_10 c _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_eq_canon _ _ _ (cover0_A_11 c _ _ _ _ _ _ _ _ _ _ _ _ _ _ _ _ _ _ _ _ _ _ _ _ _ _ _ _ _ _ _ _ _ _ _ _ _ _ _ _ _ _ _ _)
  · by_cases hz : t.val = 0
    · exfalso; have hN : t.val < 80 := lt_of_lt_of_eq t.isLt (show cfg0.N = 80 from N_0); omega
    · rw [PhiS_castSucc m c t, PhiS_pos m c _ _ hz]
      rw [outsAt0_B m c t h0, rows_B m c t h0, last_B m c t h0]
      unfold sout0_B_3 out0_B_10 out0_B_11
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, HS0, HS1, HS2, ⟨%es3, HS3⟩⟩
      isplitl [HS0 HS1 HS2 HS3 Hg]
      · isplitl [HS0 HS1 HS2 HS3]
        · isplitl [HS0]
          · iexact HS0
          isplitl [HS1]
          · iexact HS1
          isplitl [HS2]
          · iexact HS2
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (cover0_B_10 c _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_eq_canon _ _ _ (cover0_B_11 c _ _ _ _ _ _ _ _ _ _ _ _ _ _ _ _ _ _ _ _ _ _ _ _ _ _ _ _ _ _ _ _ _ _ _ _ _ _ _ _ _ _ _ _ _)

/-- The body the launch calls at a tile is the kernel's. -/
theorem defs₀_row (t : Fin cfg0.N) :
    defs₀ (F := F) .tc cfg0.body (cfg0.bodyArgs t (cfg0.slots t)) = bodyAt0 t := by
  unfold defs₀; rw [Defs.onTc_tc]

/-- The same for the launch, which lists the windows. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's buffers are those before the first tile. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a tile the carry's value may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexact HS2
    iexists _; iexact HS3
  iexact Hg

/-- After the last tile the launch takes its buffers back. -/
theorem hout (c : Dev nD) : (dats m 0 c).Φ (Fin.last cfg0.N) ⊢ Pipeline.ΦA spec0 c :=
  Phi_out m c _ (by rw [Fin.val_last]; have : cfg0.N = 80 := N_0; omega)

set_option backward.isDefEq.respectTransparency.types false in
/-- Every run of the call ends, leaves the arrays it only reads as the region found them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run of the call ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame of the call: every run ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.ScanIdeal.Tiles

end
-- ==== Proof.MoeRef.lean ====
module

public import proofs.«01_k».proof.Proof.Gen.MoeRefIdeal.Run
public import Idealize.ShloMosaic.Lib.Pipeline.ValueKit

/-! The expert layer of the reference, element by element. -/

set_option maxRecDepth 65536

@[expose] public section

noncomputable section

namespace Cert.MoeRefIdeal.Fin

open Cert.MoeRefIdeal Cert.MoeRefIdeal.Gen Idealize.ShloMosaic Idealize.ShloMosaic.TcCoe Idealize.SL.Sem

variable (x : FVec Ideal S40960x1024 .f32) (h : FVec Ideal S40960x1024 .bf16) (comb : FVec Ideal S40960x128 .f32) (mod : FVec Ideal S2x6x8x1024 .f32) (wg : FVec Ideal S8x1024x1408 .f32) (wu : FVec Ideal S8x1024x1408 .f32) (wd : FVec Ideal S8x1408x1024 .f32)

/-- The reference's result as its operations compose, over the arguments. -/
def REF (x : FVec Ideal S40960x1024 .f32) (h : FVec Ideal S40960x1024 .bf16) (comb : FVec Ideal S40960x128 .f32) (mod : FVec Ideal S2x6x8x1024 .f32) (wg : FVec Ideal S8x1024x1408 .f32) (wu : FVec Ideal S8x1024x1408 .f32) (wd : FVec Ideal S8x1408x1024 .f32) : FVec Ideal S40960x1024 .f32 :=
  addf x (mulf (concatenate S40960x1024 0 [⟨S8192x1024, (shapeCast _ (broadcastInDim S1024x8x1024 ![1, 2] bcast_S8x1024_S1024x8x1024_1_2 (shapeCast _ (extractStridedSlice S1x1x8x1024 ![0, 5, 0, 0] mod slices_S2x6x8x1024_S1x1x8x1024_0_5_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 5, 0, 0] mod slices_S2x6x8x1024_S1x1x8x1024_1_5_0_0) shapeCasts_S1x1x8x1024_S8x1024)) shapeCasts_S4096x8x1024_S32768x1024)⟩] concatenates_S8192x1024_S32768x1024_S40960x1024_d0) (Host.reduceAdd (mulf (broadcastInDim S8x40960x1024 ![0, 1, 2] bcast_S8x40960x1_S8x40960x1024_0_1_2 (broadcastInDim S8x40960x1 ![0, 1] bcast_S8x40960_S8x40960x1_0_1 (transpose S8x40960 [1, 0] (extractStridedSlice S40960x8 ![0, 0] comb slices_S40960x128_S40960x8_0_0) transposes_S40960x8_S8x40960_1_0))) (Host.dotGeneral dot_S40960x8x1408_S8x1408x1024_S8x40960x1024_2_1_0_2_1_0 none (mulf (mulf (Host.dotGeneral dot_S40960x1024_S8x1024x1408_S40960x8x1408_1_1_0_02_n_n none (extf .f32 h bitsLt_bf16_f32) wg) (Host.divf (broadcastInDim S40960x8x1408 ![] bcast_S_S40960x8x1408 (constant S_ .f32 0x3F800000#32)) (addf (broadcastInDim S40960x8x1408 ![] bcast_S_S40960x8x1408 (constant S_ .f32 0x3F800000#32)) (Host.exp (Host.negf (Host.dotGeneral dot_S40960x1024_S8x1024x1408_S40960x8x1408_1_1_0_02_n_n none (extf .f32 h bitsLt_bf16_f32) wg)))))) (Host.dotGeneral dot_S40960x1024_S8x1024x1408_S40960x8x1408_1_1_0_02_n_n none (extf .f32 h bitsLt_bf16_f32) wu)) wd)) (constant S_ .f32 0x00000000#32) reducesTo_S8x40960x1024_S40960x1024_d0 h_S_))

/-- The modulation row that a token's kind and sequence select: prompt tokens come first, `8` sequences run fastest. -/
def modAt (k : Fin 6) (mod : FVec Ideal S2x6x8x1024 .f32) (y : S40960x1024.Idx) : EReal :=
  mod (ix4 (if (y 0).val < 8192 then 0 else 1) k ⟨(y 0).val % 8, Nat.mod_lt _ (by decide)⟩ (y 1))

/-- Expert `e`'s gated hidden unit `f` of token `n`. -/
def act (h : FVec Ideal S40960x1024 .bf16) (wg wu : FVec Ideal S8x1024x1408 .f32) (n : Fin 40960) (e : Fin 8) (f : Fin 1408) : EReal :=
  (∑ d, h (ix2 n d) * wg (ix3 e d f)) * Ideal.logistic (∑ d, h (ix2 n d) * wg (ix3 e d f)) * ∑ d, h (ix2 n d) * wu (ix3 e d f)

/-- Expert `e`'s weighted contribution to one element of a token's row. -/
def part (h : FVec Ideal S40960x1024 .bf16) (comb : FVec Ideal S40960x128 .f32) (wg wu : FVec Ideal S8x1024x1408 .f32)
    (wd : FVec Ideal S8x1408x1024 .f32) (y : S40960x1024.Idx) (e : Fin 8) : EReal :=
  comb (ix2 (y 0) ⟨e.val, by omega⟩) * ∑ f, act h wg wu (y 0) e f * wd (ix3 e f (y 1))

/-- The reference's element: the stream plus the modulated sum over the experts. -/
theorem href (y : S40960x1024.Idx) :
    REF x h comb mod wg wu wd y = x y + modAt 5 mod y * ∑ e, part h comb wg wu wd y e := by
  have hy := (y 0).isLt
  pointwise [REF]
  unfold part act modAt
  congr 1
  congr 1
  by_cases h8 : (y 0).val < 8192
  · rw [dif_pos h8, if_pos h8]
  · rw [dif_neg h8, if_neg h8]
    congr 2
    exact Fin.ext (show ((y 0).val - 8192) % 8 = (y 0).val % 8 by omega)

end Cert.MoeRefIdeal.Fin

end
-- ==== Proof.MoeValue.lean ====
module

public import proofs.«01_k».proof.Proof.Gen.MoeIdeal.Value
public import proofs.«01_k».proof.Proof.MoeRef
public import Idealize.ShloMosaic.Lib.Pipeline.ValueKit
public import Idealize.ShloMosaic.Lib.Pipeline.ReadBack

/-! The expert call: eight visits to a tile of 512 rows, one per expert, add up the weighted experts' outputs; the
    last visit adds the modulated sum to the stream. -/

set_option maxRecDepth 16384

@[expose] public section

noncomputable section

namespace Cert.MoeIdeal.Fin

open Cert.MoeIdeal Cert.MoeIdeal.Gen Idealize.ShloMosaic Idealize.ShloMosaic.TcCoe Idealize.SL.Sem

/-- One visit's contribution to one element of the tile, from that visit's blocks. -/
def visit (i : grid0.Coords) (v3 : Vec Ideal S512x1024 .bf16) (v4 v7 : Vec Ideal S1x1024x1408 .bf16)
    (v14 : Vec Ideal S1x1408x1024 .bf16) (v17 : Vec Ideal S512x128 .f32) (y : S512x1024.Idx) : EReal :=
  v17 (ix2 (y 0) ⟨(i 1).val, lt_trans (i 1).isLt (by decide)⟩) *
    ∑ f : Fin 1408, ((∑ d : Fin 1024, v3 (ix2 (y 0) d) * v4 (ix3 0 d f)) * Ideal.logistic (∑ d : Fin 1024, v3 (ix2 (y 0) d) * v4 (ix3 0 d f))
      * ∑ d : Fin 1024, v3 (ix2 (y 0) d) * v7 (ix3 0 d f)) * v14 (ix3 0 f (y 1))

/-- The one-hot sum over the 128 lanes of a combine row picks the lane of the visit's expert. -/
theorem lane (g : Fin 128 → EReal) (k : Fin 128) :
    ∑ x : Fin 128, Scalar.select (IntOp.cmpi .eq (BitVec.ofNat 32 x.val) (BitVec.ofNat 32 k.val)) (g x) (0 : EReal) = g k := by
  rw [Finset.sum_eq_single k]
  · simp [Scalar.select, IntOp.cmpi]
  · intro x _ hx
    have : ¬ (BitVec.ofNat 32 x.val = BitVec.ofNat 32 k.val) := fun h => hx (Fin.ext (by
      have := congrArg BitVec.toNat h
      simp only [BitVec.toNat_ofNat] at this
      omega))
    have hb : (BitVec.ofNat 32 x.val == BitVec.ofNat 32 k.val) = false := beq_eq_false_iff_ne.mpr this
    simp only [Scalar.select, IntOp.cmpi, hb]
    rfl
  · simp

/-- The accumulating store adds the visit's contribution. -/
theorem hpay (i : grid0.Coords) (v3 : Vec Ideal S512x1024 .bf16) (v4 v7 : Vec Ideal S1x1024x1408 .bf16)
    (v14 : Vec Ideal S1x1408x1024 .bf16) (v17 : Vec Ideal S512x128 .f32) (v25 : Vec Ideal S512x1024 .f32) (y : S512x1024.Idx) :
    k0_pay3 i v3 v4 v7 v14 v17 v25 y = v25 y + visit i v3 v4 v7 v14 v17 y := by
  pointwise [k0_pay3]
  unfold visit
  rw [lane (fun x => v17 (ix2 (y 0) x)) ⟨(i 1).val, lt_trans (i 1).isLt (by decide)⟩]

/-- The tile starts at zero. -/
theorem hzero (y : S512x1024.Idx) : k0_pay2 (F := Ideal) y = 0 := by pointwise [k0_pay2]

/-- The last visit's store: the stream plus the modulation row times the accumulated tile. -/
theorem hlast (v35 : Vec Ideal S512x1024 .f32) (v36 : Vec Ideal S1x1x8x1024 .f32) (v38 : Vec Ideal S512x1024 .f32) (y : S512x1024.Idx) :
    k0_pay1 v35 v36 v38 y = v35 y + v36 (ix4 0 0 ⟨(y 0).val % 8, Nat.mod_lt _ (by decide)⟩ (y 1)) * v38 y := by
  pointwise [k0_pay1]
  rw [mul_comm]

variable (m : (ℓ : Loc nD τ sig) → Buf (Elt Ideal) ℓ)

/-- The blocks of the windows at point `t = 8 · tile + expert`. -/
theorem idx : ∀ t : Fin cfg0.N, win0_0.index t = ![t.val / 8, 0] ∧ win0_1.index t = ![t.val / 8, 0] ∧ win0_2.index t = ![t.val / 8, 0]
    ∧ win0_3.index t = ![if t.val / 8 < 16 then 0 else 1, 0, 0, 0] ∧ win0_4.index t = ![t.val % 8, 0, 0]
    ∧ win0_5.index t = ![t.val % 8, 0, 0] ∧ win0_6.index t = ![t.val % 8, 0, 0] ∧ win0_7.index t = ![t.val / 8, 0]
    ∧ (grid0.coords t 1).val = t.val % 8 :=
  (by decide +kernel : ∀ t : Fin grid0.N, win0_0.index t = ![t.val / 8, 0] ∧ win0_1.index t = ![t.val / 8, 0] ∧ win0_2.index t = ![t.val / 8, 0]
    ∧ win0_3.index t = ![if t.val / 8 < 16 then 0 else 1, 0, 0, 0] ∧ win0_4.index t = ![t.val % 8, 0, 0]
    ∧ win0_5.index t = ![t.val % 8, 0, 0] ∧ win0_6.index t = ![t.val % 8, 0, 0] ∧ win0_7.index t = ![t.val / 8, 0]
    ∧ (grid0.coords t 1).val = t.val % 8)

/-- The point of tile `t / 8`'s visit `s`. -/
def visitAt (t : Fin cfg0.N) (s : Fin 8) : Fin cfg0.N := ⟨8 * (t.val / 8) + s.val, by
  have h := t.isLt
  have hN : cfg0.N = 640 := N_0
  omega⟩

/-- The accumulator after a tile's last visit is the sum of the eight visits' contributions. -/
theorem acc (c : Dev nD) (t : Fin cfg0.N) (hf : t.val % 8 = 7) (y : S512x1024.Idx) :
    (outsAt0 m c t.val t.isLt).2 y = ∑ s : Fin 8, visit (grid0.coords (visitAt t s)) (iblk m c 1 (visitAt t s))
      (iblk m c 4 (visitAt t s)) (iblk m c 5 (visitAt t s)) (iblk m c 6 (visitAt t s)) (iblk m c 2 (visitAt t s)) y := by
  rw [Pipeline.eq_sum_fin_of_reset_step_apply_of_flush (fun n h => (outsAt0 m c n h).2) 8 (fun _ => 0)
    (fun p j => visit (grid0.coords p) (iblk m c 1 p) (iblk m c 4 p) (iblk m c 5 p) (iblk m c 6 p) (iblk m c 2 p) j)
    (fun t h j => by rw [outsAt0_A m c t h (by omega)]; frame_out; rw [hpay, hzero])
    (fun t h j => by
      by_cases h1 : t.val % 8 = 7
      · rw [outsAt0_C m c t h h1]; frame_out; rw [hpay, Idealize.ShloMosaic.read_unread_whole]
      · rw [outsAt0_B m c t h h1]; frame_out; rw [hpay, Idealize.ShloMosaic.read_unread_whole])
    t hf _, zero_add]
  rfl

/-- Visit `s` of a tile contributes expert `s`'s part of the reference's sum. -/
theorem visit_eq (c : Dev nD) (t : Fin cfg0.N) (s : Fin 8) (y : S512x1024.Idx) :
    visit (grid0.coords (visitAt t s)) (iblk m c 1 (visitAt t s))
      (iblk m c 4 (visitAt t s)) (iblk m c 5 (visitAt t s)) (iblk m c 6 (visitAt t s)) (iblk m c 2 (visitAt t s)) y
    = Cert.MoeRefIdeal.Fin.part (m ((c : Thread nD τ).loc main_arg1)) (m ((c : Thread nD τ).loc main_arg2))
       (m ((c : Thread nD τ).loc main_arg4)) (m ((c : Thread nD τ).loc main_arg5)) (m ((c : Thread nD τ).loc main_arg6))
        ((win0_7.rect t).emb y) s := by
  have hv : (visitAt t s).val = 8 * (t.val / 8) + s.val := rfl
  unfold visit Cert.MoeRefIdeal.Fin.part Cert.MoeRefIdeal.Fin.act
  have hi := idx (visitAt t s)
  rw [hv] at hi
  blk_point [iblk, idx t, hi]
  · show _ = (t.val / 8) * 512 + _
    omega
  · show _ = (t.val / 8) * 512 + _
    omega
  · exact (Nat.zero_add _).symm

/-- The modulation row that the last visit loads is the reference's row of that token. -/
theorem mod_eq (c : Dev nD) (t : Fin cfg0.N) (y : S512x1024.Idx) :
    View.ld (iblk m c 3 t) (Rect.unit ![0, 5, 0, 0] ![1, 1, 8, 1024] inb_S1x6x8x1024_S1x1x8x1024_0_5_0_0)
        (ix4 0 0 ⟨(y 0).val % 8, Nat.mod_lt _ (by decide)⟩ (y 1))
      = Cert.MoeRefIdeal.Fin.modAt 5 (m ((c : Thread nD τ).loc main_arg3)) ((win0_7.rect t).emb y) := by
  have hi := idx t
  have hy : (((win0_7.rect t).emb y) 0).val = t.val / 8 * 512 + (y 0).val := by
    blk_simp [idx t]
  have hb' : (y 0).val < 512 := (y 0).isLt
  unfold Cert.MoeRefIdeal.Fin.modAt
  by_cases hg : t.val / 8 < 16
  · rw [if_pos hg] at hi
    rw [if_pos (by omega)]
    blk_point [iblk, hi]
    · show _ = (t.val / 8 * 512 + (y 0).val) % 8
      omega
    · exact (Nat.zero_add _).symm
  · rw [if_neg hg] at hi
    rw [if_neg (by omega)]
    blk_point [iblk, hi]
    · show _ = (t.val / 8 * 512 + (y 0).val) % 8
      omega
    · exact (Nat.zero_add _).symm

/-- The kernel's result is the reference's. -/
theorem final (c : Dev nD) : (dats m 0 c).arrAt 7 cfg0.N
    = Cert.MoeRefIdeal.Fin.REF (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have h7 := (flush0_7 t).mp hf
  blk_simp
  rw [after0_7, outsAt0_C m c t (by omega) h7]
  frame_out
  have hacc := acc m c t h7 y
  rw [outsAt0_C m c t (by omega) h7] at hacc
  revert hacc
  frame_out
  intro hacc
  rw [hlast, hacc, Cert.MoeRefIdeal.Fin.href]
  simp only [visit_eq]
  rw [show View.ld (iblk m c 3 t) (Rect.unit ![0, 5, 0, 0] ![1, 1, 8, 1024] inb_S1x6x8x1024_S1x1x8x1024_0_5_0_0)
        (ix4 0 0 ⟨(y 0).val % 8, Nat.mod_lt _ (by decide)⟩ (y 1)) = _ from mod_eq m c t y]
  refine congrArg (· + _) ?_
  blk_point [iblk, idx t]

end Cert.MoeIdeal.Fin

end
-- ==== Proof.Rows.lean ====
module

public import Idealize.ShloMosaic.Lib.Pipeline.ValueKit

/-! The layer's mathematics on one token's row: projections, the RMS norm, the modulation and the gated unit. -/

@[expose] public section

noncomputable section

namespace Cert.Rows

open Idealize.ShloMosaic

/-- A row times a matrix. -/
def proj {K N : ℕ} (h : Fin K → EReal) (w : Fin K → Fin N → EReal) (j : Fin N) : EReal := ∑ k, h k * w k j

/-- The RMS norm of a row with gain `g`. -/
def norm (v g : Fin 1024 → EReal) (d : Fin 1024) : EReal :=
  v d * Ideal.rsqrt (Ideal.div (∑ j, v j * v j) (Ideal.ofBits .f32 0x44800000#32) + Ideal.ofBits .f32 0x358637BD#32) * g d

/-- Scale by one plus `sc`, shift by `sh`. -/
def modulate (v sc sh : Fin 1024 → EReal) (d : Fin 1024) : EReal := v d * (1 + sc d) + sh d

/-- The gated hidden units of a row. -/
def swiglu {N : ℕ} (h : Fin 1024 → EReal) (wg wu : Fin 1024 → Fin N → EReal) (f : Fin N) : EReal :=
  proj h wg f * Ideal.logistic (proj h wg f) * proj h wu f

/-- The stream after the mixed block's gated output projection. -/
def mixed (x h m2 : Fin 1024 → EReal) (ow : Fin 1024 → Fin 1024 → EReal) (d : Fin 1024) : EReal := x d + m2 d * proj h ow d

/-- The row the second half of the layer reads: the modulated norm of the mixed stream. -/
def normed (x h m2 m3 m4 g : Fin 1024 → EReal) (ow : Fin 1024 → Fin 1024 → EReal) : Fin 1024 → EReal :=
  modulate (norm (mixed x h m2 ow) g) m4 m3

/-- Output projection and dense feed-forward block of one row. -/
def dense (x h m2 m3 m4 m5 g : Fin 1024 → EReal) (ow : Fin 1024 → Fin 1024 → EReal) (wg wu : Fin 1024 → Fin 2816 → EReal)
    (wd : Fin 2816 → Fin 1024 → EReal) (d : Fin 1024) : EReal :=
  mixed x h m2 ow d + m5 d * proj (swiglu (normed x h m2 m3 m4 g ow) wg wu) wd d

/-- The modulation row `k` of token `n`: its kind (prompt tokens come first) and its sequence (eight, fastest) select it. -/
def modRow (mod : FVec Ideal ⟨4, ![2, 6, 8, 1024]⟩ .f32) (k : Fin 6) (n : Fin 40960) (d : Fin 1024) : EReal :=
  mod (ix4 (if n.val < 8192 then 0 else 1) k ⟨n.val % 8, Nat.mod_lt _ (by decide)⟩ d)

end Cert.Rows

end
-- ==== Proof.DenseRef.lean ====
module

public import proofs.«01_k».proof.Proof.Gen.DenseRefIdeal.Run
public import proofs.«01_k».proof.Proof.Rows

/-! The dense feed-forward call of the reference, row by row. -/

set_option maxRecDepth 1000000

@[expose] public section

noncomputable section

namespace Cert.DenseRefIdeal.Fin

open Cert.DenseRefIdeal Cert.DenseRefIdeal.Gen Cert.Rows Idealize.ShloMosaic Idealize.ShloMosaic.TcCoe Idealize.SL.Sem

/-- Modulation row 2 of every token, as the reference lays it out. -/
def PER2 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 2, 0, 0] mod slices_S2x6x8x1024_S1x1x8x1024_0_2_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 2, 0, 0] mod slices_S2x6x8x1024_S1x1x8x1024_1_2_0_0) shapeCasts_S1x1x8x1024_S8x1024)) shapeCasts_S4096x8x1024_S32768x1024)⟩] concatenates_S8192x1024_S32768x1024_S40960x1024_d0

/-- That row is the one the token's kind and sequence select. -/
theorem per2_apply (mod : FVec Ideal S2x6x8x1024 .f32) (n : Fin 40960) (d : Fin 1024) :
    PER2 mod (ix2 n d) = modRow mod 2 n d := by
  suffices key : ∀ y, PER2 mod y = modRow mod 2 (y 0) (y 1) from key _
  intro y
  have hn := (y 0).isLt
  pointwise [PER2]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 3 of every token, as the reference lays it out. -/
def PER3 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 3, 0, 0] mod slices_S2x6x8x1024_S1x1x8x1024_0_3_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 3, 0, 0] mod slices_S2x6x8x1024_S1x1x8x1024_1_3_0_0) shapeCasts_S1x1x8x1024_S8x1024)) shapeCasts_S4096x8x1024_S32768x1024)⟩] concatenates_S8192x1024_S32768x1024_S40960x1024_d0

/-- That row is the one the token's kind and sequence select. -/
theorem per3_apply (mod : FVec Ideal S2x6x8x1024 .f32) (n : Fin 40960) (d : Fin 1024) :
    PER3 mod (ix2 n d) = modRow mod 3 n d := by
  suffices key : ∀ y, PER3 mod y = modRow mod 3 (y 0) (y 1) from key _
  intro y
  have hn := (y 0).isLt
  pointwise [PER3]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 4 of every token, as the reference lays it out. -/
def PER4 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 4, 0, 0] mod slices_S2x6x8x1024_S1x1x8x1024_0_4_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 4, 0, 0] mod slices_S2x6x8x1024_S1x1x8x1024_1_4_0_0) shapeCasts_S1x1x8x1024_S8x1024)) shapeCasts_S4096x8x1024_S32768x1024)⟩] concatenates_S8192x1024_S32768x1024_S40960x1024_d0

/-- That row is the one the token's kind and sequence select. -/
theorem per4_apply (mod : FVec Ideal S2x6x8x1024 .f32) (n : Fin 40960) (d : Fin 1024) :
    PER4 mod (ix2 n d) = modRow mod 4 n d := by
  suffices key : ∀ y, PER4 mod y = modRow mod 4 (y 0) (y 1) from key _
  intro y
  have hn := (y 0).isLt
  pointwise [PER4]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 5 of every token, as the reference lays it out. -/
def PER5 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 5, 0, 0] mod slices_S2x6x8x1024_S1x1x8x1024_0_5_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 5, 0, 0] mod slices_S2x6x8x1024_S1x1x8x1024_1_5_0_0) shapeCasts_S1x1x8x1024_S8x1024)) shapeCasts_S4096x8x1024_S32768x1024)⟩] concatenates_S8192x1024_S32768x1024_S40960x1024_d0

/-- That row is the one the token's kind and sequence select. -/
theorem per5_apply (mod : FVec Ideal S2x6x8x1024 .f32) (n : Fin 40960) (d : Fin 1024) :
    PER5 mod (ix2 n d) = modRow mod 5 n d := by
  suffices key : ∀ y, PER5 mod y = modRow mod 5 (y 0) (y 1) from key _
  intro y
  have hn := (y 0).isLt
  pointwise [PER5]
  unfold modRow
  by_cases h8 : (y 0).val < 8192
  · rw [dif_pos h8, if_pos h8]
  · rw [dif_neg h8, if_neg h8]
    congr 2
    exact Fin.ext (show ((y 0).val - 8192) % 8 = (y 0).val % 8 by omega)

/-- The reference's RMS norm of a stream `v` with gain `g`. -/
def RMS (v : FVec Ideal S40960x1024 .f32) (g : FVec Ideal S1024 .f32) : FVec Ideal S40960x1024 .f32 :=
  mulf (mulf v (broadcastInDim S40960x1024 ![0, 1] bcast_S40960x1_S40960x1024_0_1 (Host.rsqrt (addf (Host.divf (broadcastInDim S40960x1 ![0] bcast_S40960_S40960x1_0 (Host.reduceAdd (mulf v v) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim S40960x1024 ![0, 1] bcast_S1x1024_S40960x1024_0_1 (broadcastInDim S1x1024 ![1] bcast_S1024_S1x1024_1 g))

/-- The norm of the stream is, row by row, the norm of that row. -/
theorem rms_apply (v : FVec Ideal S40960x1024 .f32) (g : FVec Ideal S1024 .f32) (n : Fin 40960) (d : Fin 1024) :
    RMS v g (ix2 n d) = norm (fun j => v (ix2 n j)) (fun j => g (ix1 j)) d := by
  pointwise [RMS]
  rfl

/-- The stream after the gated output projection. -/
def XM (x : FVec Ideal S40960x1024 .f32) (h : FVec Ideal S40960x1024 .bf16) (mod : FVec Ideal S2x6x8x1024 .f32)
    (ow : FVec Ideal S1024x1024 .f32) : FVec Ideal S40960x1024 .f32 :=
  addf x (mulf (PER2 mod) (Host.dotGeneral dot_S40960x1024_S1024x1024_S40960x1024_1_0_0_1_n_n none (extf .f32 h bitsLt_bf16_f32) ow))

/-- A row of it is the mixed block's row. -/
theorem xm_apply (x : FVec Ideal S40960x1024 .f32) (h : FVec Ideal S40960x1024 .bf16) (mod : FVec Ideal S2x6x8x1024 .f32)
    (ow : FVec Ideal S1024x1024 .f32) (n : Fin 40960) (d : Fin 1024) :
    XM x h mod ow (ix2 n d) = mixed (fun d => x (ix2 n d)) (fun d => h (ix2 n d)) (modRow mod 2 n) (fun k j => ow (ix2 k j)) d := by
  pointwise [XM]
  rw [per2_apply]
  rfl

/-- The modulated norm of the mixed stream. -/
def H2 (x : FVec Ideal S40960x1024 .f32) (h : FVec Ideal S40960x1024 .bf16) (mod : FVec Ideal S2x6x8x1024 .f32)
    (ow : FVec Ideal S1024x1024 .f32) (g : FVec Ideal S1024 .f32) : FVec Ideal S40960x1024 .f32 :=
  addf (mulf (RMS (XM x h mod ow) g) (addf (broadcastInDim S40960x1024 ![] bcast_S_S40960x1024 (constant S_ .f32 0x3F800000#32)) (PER4 mod))) (PER3 mod)

/-- A row of it is what the feed-forward block reads. -/
theorem h2_apply (x : FVec Ideal S40960x1024 .f32) (h : FVec Ideal S40960x1024 .bf16) (mod : FVec Ideal S2x6x8x1024 .f32)
    (ow : FVec Ideal S1024x1024 .f32) (g : FVec Ideal S1024 .f32) (n : Fin 40960) (d : Fin 1024) :
    H2 x h mod ow g (ix2 n d) = normed (fun d => x (ix2 n d)) (fun d => h (ix2 n d)) (modRow mod 2 n) (modRow mod 3 n)
      (modRow mod 4 n) (fun d => g (ix1 d)) (fun k j => ow (ix2 k j)) d := by
  pointwise [H2]
  rw [per3_apply, per4_apply, rms_apply]
  simp only [xm_apply]
  rfl

/-- The reference's result as its operations compose. -/
def REF (x : FVec Ideal S40960x1024 .f32) (h : FVec Ideal S40960x1024 .bf16) (mod : FVec Ideal S2x6x8x1024 .f32)
    (ow : FVec Ideal S1024x1024 .f32) (g : FVec Ideal S1024 .f32) (wg wu : FVec Ideal S1024x2816 .f32) (wd : FVec Ideal S2816x1024 .f32) :
    FVec Ideal S40960x1024 .f32 :=
  addf (XM x h mod ow) (mulf (PER5 mod) (Host.dotGeneral dot_S40960x2816_S2816x1024_S40960x1024_1_0_0_1_n_n none
    (mulf (mulf (Host.dotGeneral dot_S40960x1024_S1024x2816_S40960x2816_1_0_0_1_n_n none (H2 x h mod ow g) wg)
      (Host.divf (broadcastInDim S40960x2816 ![] bcast_S_S40960x2816 (constant S_ .f32 0x3F800000#32))
        (addf (broadcastInDim S40960x2816 ![] bcast_S_S40960x2816 (constant S_ .f32 0x3F800000#32))
          (Host.exp (Host.negf (Host.dotGeneral dot_S40960x1024_S1024x2816_S40960x2816_1_0_0_1_n_n none (H2 x h mod ow g) wg))))))
      (Host.dotGeneral dot_S40960x1024_S1024x2816_S40960x2816_1_0_0_1_n_n none (H2 x h mod ow g) wu)) wd))

/-- The reference's element is the dense block of its row. -/
theorem href (x : FVec Ideal S40960x1024 .f32) (h : FVec Ideal S40960x1024 .bf16) (mod : FVec Ideal S2x6x8x1024 .f32)
    (ow : FVec Ideal S1024x1024 .f32) (g : FVec Ideal S1024 .f32) (wg wu : FVec Ideal S1024x2816 .f32) (wd : FVec Ideal S2816x1024 .f32)
    (n : Fin 40960) (d : Fin 1024) :
    REF x h mod ow g wg wu wd (ix2 n d) = dense (fun d => x (ix2 n d)) (fun d => h (ix2 n d)) (modRow mod 2 n) (modRow mod 3 n)
      (modRow mod 4 n) (modRow mod 5 n) (fun d => g (ix1 d)) (fun k j => ow (ix2 k j)) (fun k j => wg (ix2 k j)) (fun k j => wu (ix2 k j))
      (fun k j => wd (ix2 k j)) d := by
  pointwise [REF]
  rw [per5_apply, xm_apply]
  simp only [h2_apply]
  rfl

/-- The reference's run leaves exactly that. -/
theorem run_eq (m : (ℓ : Loc nD τ sig) → Buf (Elt Ideal) ℓ) (c : Dev nD) : Value.res_main_v63 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.DenseRefIdeal.Fin

end
-- ==== Proof.TripPieces.lean ====
module

public import Idealize.ShloMosaic.Lib.Pipeline.ValueKit

/-! A buffer filled by a counted loop that stores one piece per trip, read as one function of the index. -/

@[expose] public section

namespace Idealize.ShloMosaic.View

variable {Val : EltTy → Type} {s : Shape} {e : EltTy}

/-- If every trip's piece agrees with `G` and the trips' rectangles cover `y`, the pieces read at `y` are `G y`. -/
theorem canon_trips [∀ e, Nonempty (Val e)] (n : ℕ) (pb : ℕ → List (Piece Val s e)) (pc : Fin n → Piece Val s e)
    (h0 : pb 0 = []) (hs : ∀ k : Fin n, pb (k.val + 1) = [pc k] ++ pb k.val) (G : s.Idx → Val e)
    (hG : ∀ (k : Fin n) (x : (pc k).1.shape.Idx), (pc k).2 x = G ((pc k).1.emb x)) (y : s.Idx)
    (hy : ∃ k : Fin n, y ∈ (pc k).1.set) : canon (pb n) y = G y := by
  have mem : ∀ j, j ≤ n → ∀ p, p ∈ pb j ↔ ∃ k : Fin n, k.val < j ∧ p = pc k := by
    intro j
    induction j with
    | zero => intro _ p; rw [h0]; simp
    | succ j ih =>
      intro hj p
      rw [hs ⟨j, hj⟩, List.mem_append, ih (by omega), List.mem_singleton]
      constructor
      · rintro (rfl | ⟨k, hk, rfl⟩)
        · exact ⟨⟨j, hj⟩, Nat.lt_succ_self _, rfl⟩
        · exact ⟨k, Nat.lt_succ_of_lt hk, rfl⟩
      · rintro ⟨k, hk, rfl⟩
        rcases Nat.lt_succ_iff_lt_or_eq.mp hk with h | h
        · exact .inr ⟨k, h, rfl⟩
        · exact .inl (by congr 1; exact Fin.ext h)
  refine canon_apply_of_pieces G _ (fun p hp x => ?_) y ?_
  · obtain ⟨k, -, rfl⟩ := (mem n le_rfl p).mp hp
    exact hG k x
  · obtain ⟨k, hk⟩ := hy
    exact ⟨pc k, (mem n le_rfl _).mpr ⟨k, k.isLt, rfl⟩, hk⟩

end Idealize.ShloMosaic.View

end
-- ==== Proof.DenseLoop.lean ====
module

public import proofs.«01_k».proof.Proof.Gen.DenseIdeal.Frame
public import proofs.«01_k».proof.Proof.TripPieces
public import proofs.«01_k».proof.Proof.Rows
public import Idealize.ShloMosaic.Lib.Pipeline.ReadBack
public import Idealize.ShloMosaic.Lib.WholeRead

/-! The dense feed-forward call's inner loop: eleven blocks of 256 hidden units, each stored once. -/

set_option maxRecDepth 16384

@[expose] public section

noncomputable section

namespace Cert.DenseIdeal.Fin

open Cert.DenseIdeal Cert.DenseIdeal.Gen Idealize.ShloMosaic Idealize.ShloMosaic.TcCoe Idealize.SL.Sem Cert.Rows

variable {F : FTy → Type} [FloatOps F]
variable (𝒱 : Variants) (c : Dev nD) (bd : Option 𝒱.V) (i : grid0.Coords) (arg1 : Memref sig .tc .vmem S512x1024 .f32) (harg1 : arg1.IsWhole) (arg2 : Memref sig .tc .vmem S512x1024 .bf16) (harg2 : arg2.IsWhole) (arg3 : Memref sig .tc .vmem S1x6x8x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S512x2816 .bf16) (harg10 : arg10.IsWhole) (v30 : FVec F S8x1024 .f32) (v31 : FVec F S64x8x1024 .f32) (v33 : FVec F S8x1024 .f32) (X_arg6 : BufTy.Contents (Elt F) arg6.view.ty) (X_arg7 : BufTy.Contents (Elt F) arg7.view.ty)

/-- What trip `k` stores: the gated hidden units of its block of columns. -/
theorem trip_piece (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 v30 v31 v33 X_arg6 X_arg7 k = [⟨Rect.unit (s := S512x2816) (k0_off2 k) S512x256.size (k0_off2_inb k),
      k0_pay1 v30 v31 v33
        (arg6.view.readAt (Elt F) (Rect.unit (s := S1024x2816) (k0_off1 k) S1024x256.size (k0_off1_inb k)).toLoadRect X_arg6)
        (arg7.view.readAt (Elt F) (Rect.unit (s := S1024x2816) (k0_off1 k) S1024x256.size (k0_off1_inb k)).toLoadRect X_arg7)⟩] := by
  unfold tripL_k0_t1 trip_k0_t1
  rfl

/-- The loop has eleven trips. -/
theorem trips_eq : k0_t1_loop.trips = 11 := by decide +kernel

/-- Trip `k` reads and stores columns `256 k …`. -/
theorem off_eq : ∀ k : Fin k0_t1_loop.trips, k0_off1 k = ![0, 256 * k.val] ∧ k0_off2 k = ![0, 256 * k.val] := by
  decide +kernel

/-- One block of gated hidden units, element by element. -/
theorem hpay1 (v30 : FVec Ideal S8x1024 .f32) (v31 : FVec Ideal S64x8x1024 .f32) (v33 : FVec Ideal S8x1024 .f32)
    (v59 v63 : Vec Ideal S1024x256 .bf16) (y : S512x256.Idx) : k0_pay1 v30 v31 v33 v59 v63 y
      = swiglu (fun d => v31 (ix3 ⟨(y 0).val / 8, by have : (y 0).val < 512 := (y 0).isLt; omega⟩ ⟨(y 0).val % 8, Nat.mod_lt _ (by decide)⟩ d)
          * v33 (ix2 ⟨(y 0).val % 8, Nat.mod_lt _ (by decide)⟩ d) + v30 (ix2 ⟨(y 0).val % 8, Nat.mod_lt _ (by decide)⟩ d))
        (fun k j => v59 (ix2 k j)) (fun k j => v63 (ix2 k j)) (y 1) := by
  pointwise [k0_pay1]
  rfl

/-- A column lies in the block its trip stores. -/
theorem covers (k : Fin k0_t1_loop.trips) (y : S512x2816.Idx) (hk : k.val = (y 1).val / 256) :
    y ∈ (Rect.unit (s := S512x2816) (k0_off2 k) S512x256.size (k0_off2_inb k)).set := by
  refine Rect.mem_set_unit.mpr fun b => ?_
  rw [congrFun (off_eq k).2 b]
  match b with
  | ⟨0, _⟩ => exact ⟨Nat.zero_le _, (Nat.zero_add 512).symm ▸ (y 0).isLt⟩
  | ⟨1, _⟩ =>
    show 256 * k.val ≤ (y 1).val ∧ (y 1).val < 256 * k.val + 256
    omega

/-- What the loop leaves in the scratch: every hidden unit of every row. -/
theorem acts (u30 : FVec Ideal S8x1024 .f32) (u31 : FVec Ideal S64x8x1024 .f32) (u33 : FVec Ideal S8x1024 .f32)
    (d6 d7 : S1024x2816.Idx → EReal) (y : S512x2816.Idx) :
    View.canon (pb_k0_t1 (F := Ideal) 𝒱 c bd i arg1 harg1 arg2 harg2 arg3 harg3 arg4 harg4 arg5 harg5 arg6 harg6 arg7 harg7 arg8 harg8 arg9 harg9 arg10 harg10 u30 u31 u33 (harg6.unread d6) (harg7.unread d7) k0_t1_loop.trips) y
      = swiglu (fun d => u31 (ix3 ⟨(y 0).val / 8, by have : (y 0).val < 512 := (y 0).isLt; omega⟩ ⟨(y 0).val % 8, Nat.mod_lt _ (by decide)⟩ d)
          * u33 (ix2 ⟨(y 0).val % 8, Nat.mod_lt _ (by decide)⟩ d) + u30 (ix2 ⟨(y 0).val % 8, Nat.mod_lt _ (by decide)⟩ d))
        (fun k j => d6 (ix2 k j)) (fun k j => d7 (ix2 k j)) (y 1) := by
  refine View.canon_trips k0_t1_loop.trips (pb_k0_t1 (F := Ideal) 𝒱 c bd i arg1 harg1 arg2 harg2 arg3 harg3 arg4 harg4 arg5 harg5 arg6 harg6 arg7 harg7 arg8 harg8 arg9 harg9 arg10 harg10 u30 u31 u33 (harg6.unread d6) (harg7.unread d7))
    (fun k => ⟨Rect.unit (s := S512x2816) (k0_off2 k) S512x256.size (k0_off2_inb k), k0_pay1 u30 u31 u33
        (arg6.view.readAt (Elt Ideal) (Rect.unit (s := S1024x2816) (k0_off1 k) S1024x256.size (k0_off1_inb k)).toLoadRect (harg6.unread d6))
        (arg7.view.readAt (Elt Ideal) (Rect.unit (s := S1024x2816) (k0_off1 k) S1024x256.size (k0_off1_inb k)).toLoadRect (harg7.unread d7))⟩)
    rfl (fun k => by rw [pb_k0_t1_succ, trip_piece])
    (fun y => swiglu (fun d => u31 (ix3 ⟨(y 0).val / 8, by have : (y 0).val < 512 := (y 0).isLt; omega⟩ ⟨(y 0).val % 8, Nat.mod_lt _ (by decide)⟩ d)
          * u33 (ix2 ⟨(y 0).val % 8, Nat.mod_lt _ (by decide)⟩ d) + u30 (ix2 ⟨(y 0).val % 8, Nat.mod_lt _ (by decide)⟩ d))
        (fun k j => d6 (ix2 k j)) (fun k j => d7 (ix2 k j)) (y 1)) (fun k x => ?_) y ?_
  · revert x
    intro (x : S512x256.Idx)
    show k0_pay1 _ _ _ _ _ x = _
    rw [hpay1]
    have hk : k.val < 11 := lt_of_lt_of_eq k.isLt trips_eq
    have hw : ∀ (a : Fin 1024) (j : Fin 256), (Rect.unit (s := S1024x2816) (k0_off1 k) S1024x256.size (k0_off1_inb k)).toLoadRect.idx (ix2 a j)
        = ix2 a ⟨256 * k.val + j.val, by omega⟩ := fun a j => by
      refine funext fun b => Fin.ext ?_
      have e := ValueKit.rect_emb_unit_val (s := S1024x2816) (k0_off1 k) S1024x256.size (k0_off1_inb k) (ix2 a j) b
      refine e.trans ((congrArg (· + ((ix2 a j : S1024x256.Idx) b).val) (congrFun (off_eq k).1 b)).trans ?_)
      match b with
      | ⟨0, _⟩ => exact Nat.zero_add _
      | ⟨1, _⟩ => rfl
    have hx1 : (x 1).val < 256 := (x 1).isLt
    have hx : (Rect.unit (s := S512x2816) (k0_off2 k) S512x256.size (k0_off2_inb k)).emb x
        = ix2 (x 0) ⟨256 * k.val + (x 1).val, by omega⟩ := by
      refine funext fun b => Fin.ext ?_
      have e := ValueKit.rect_emb_unit_val (s := S512x2816) (k0_off2 k) S512x256.size (k0_off2_inb k) x b
      refine e.trans ((congrArg (· + (x b).val) (congrFun (off_eq k).2 b)).trans ?_)
      match b with
      | ⟨0, _⟩ => exact Nat.zero_add _
      | ⟨1, _⟩ => rfl
    show _ = (fun y : S512x2816.Idx => swiglu _ _ _ (y 1)) ((Rect.unit (s := S512x2816) (k0_off2 k) S512x256.size (k0_off2_inb k)).emb x)
    rw [hx]
    have h6 : ∀ a j, View.readAt (Elt Ideal) arg6.view (Rect.unit (s := S1024x2816) (k0_off1 k) S1024x256.size (k0_off1_inb k)).toLoadRect
        (harg6.unread d6) (ix2 a j) = d6 (ix2 a ⟨256 * k.val + j.val, by omega⟩) := fun a j =>
      by
        rw [View.readAt_eq_ld, Memref.IsWhole.read_unread]
        exact congrArg d6 (hw a j)
    have h7 : ∀ a j, View.readAt (Elt Ideal) arg7.view (Rect.unit (s := S1024x2816) (k0_off1 k) S1024x256.size (k0_off1_inb k)).toLoadRect
        (harg7.unread d7) (ix2 a j) = d7 (ix2 a ⟨256 * k.val + j.val, by omega⟩) := fun a j =>
      by
        rw [View.readAt_eq_ld, Memref.IsWhole.read_unread]
        exact congrArg d7 (hw a j)
    rw [show (fun a j => _) = _ from funext fun a => funext fun j => h6 a j, show (fun a j => _) = _ from funext fun a => funext fun j => h7 a j]
    rfl
  · have hy1 : (y 1).val < 2816 := (y 1).isLt
    exact ⟨⟨(y 1).val / 256, by rw [trips_eq]; omega⟩, covers _ y rfl⟩

end Cert.DenseIdeal.Fin

end
-- ==== Proof.DenseValue.lean ====
module

public import proofs.«01_k».proof.Proof.Gen.DenseIdeal.Value
public import proofs.«01_k».proof.Proof.DenseRef
public import proofs.«01_k».proof.Proof.DenseLoop
public import Idealize.ShloMosaic.Lib.Pipeline.ValueKit
public import Idealize.ShloMosaic.Lib.Pipeline.ReadBack

/-! The dense feed-forward call: every tile of 512 rows holds the dense block of its rows. -/

set_option maxRecDepth 16384

@[expose] public section

noncomputable section

namespace Cert.DenseIdeal.Fin

open Cert.DenseIdeal Cert.DenseIdeal.Gen Cert.Rows Idealize.ShloMosaic Idealize.ShloMosaic.TcCoe Idealize.SL.Sem

/-- A row's place among the eight sequences. -/
def sq (r : Fin 512) : Fin 8 := ⟨r.val % 8, Nat.mod_lt _ (by decide)⟩

/-- The mixed stream of a tile. -/
theorem hpay3 (v0 : Vec Ideal S512x1024 .f32) (v1 : Vec Ideal S1x1x8x1024 .f32) (v3 : Vec Ideal S512x1024 .bf16)
    (v4 : Vec Ideal S1024x1024 .bf16) (y : S512x1024.Idx) : k0_pay3 v0 v1 v3 v4 y
      = mixed (fun d => v0 (ix2 (y 0) d)) (fun d => v3 (ix2 (y 0) d)) (fun d => v1 (ix4 0 0 (sq (y 0)) d)) (fun k j => v4 (ix2 k j)) (y 1) := by
  pointwise [k0_pay3]
  rw [mul_comm]
  exact congrArg (v0 · + _) (funext fun a => by match a with | ⟨0, _⟩ => rfl | ⟨1, _⟩ => rfl)

/-- Its norm, laid out sequence by sequence. -/
theorem hpay5 (v0 : Vec Ideal S512x1024 .f32) (v1 : Vec Ideal S1x1x8x1024 .f32) (v3 : Vec Ideal S512x1024 .bf16)
    (v4 : Vec Ideal S1024x1024 .bf16) (v13 : Vec Ideal S1x1024 .f32) (y : S64x8x1024.Idx) : k0_pay5 v0 v1 v3 v4 v13 y
      = norm (fun j => k0_pay3 v0 v1 v3 v4 (ix2 ⟨(y 0).val * 8 + (y 1).val, by
          have : (y 0).val < 64 := (y 0).isLt; have : (y 1).val < 8 := (y 1).isLt; omega⟩ j)) (fun j => v13 (ix2 0 j)) (y 2) := by
  pointwise [k0_pay5]
  rfl

/-- The shift row. -/
theorem hpay4 (v : Vec Ideal S1x1x8x1024 .f32) (y : S8x1024.Idx) : k0_pay4 v y = v (ix4 0 0 (y 0) (y 1)) := by
  pointwise [k0_pay4]

/-- The scale row, plus one. -/
theorem hpay6 (v : Vec Ideal S1x1x8x1024 .f32) (y : S8x1024.Idx) : k0_pay6 v y = 1 + v (ix4 0 0 (y 0) (y 1)) := by
  pointwise [k0_pay6]

/-- The last store of a tile. -/
theorem hpay2 (v12 : FVec Ideal S512x1024 .f32) (v43 : Vec Ideal S1x1x8x1024 .f32) (v45 : Vec Ideal S512x2816 .bf16)
    (v46 : Vec Ideal S2816x1024 .bf16) (y : S512x1024.Idx) : k0_pay2 v12 v43 v45 v46 y
      = v12 y + v43 (ix4 0 0 (sq (y 0)) (y 1)) * proj (fun k => v45 (ix2 (y 0) k)) (fun k j => v46 (ix2 k j)) (y 1) := by
  pointwise [k0_pay2]
  rw [mul_comm]
  rfl

/-- A tile's row of the block, from the tile's arrays. -/
theorem tile (v0 : Vec Ideal S512x1024 .f32) (v1 v5 v3' v4' : Vec Ideal S1x1x8x1024 .f32) (v3 : Vec Ideal S512x1024 .bf16)
    (v4 : Vec Ideal S1024x1024 .bf16) (v13 : Vec Ideal S1x1024 .f32) (wg wu : Vec Ideal S1024x2816 .bf16) (wd : Vec Ideal S2816x1024 .bf16)
    (v45 : Vec Ideal S512x2816 .bf16)
    (h : ∀ y : S512x2816.Idx, v45 y = swiglu (fun d => k0_pay5 v0 v1 v3 v4 v13 (ix3 ⟨(y 0).val / 8, by have : (y 0).val < 512 := (y 0).isLt; omega⟩ (sq (y 0)) d)
          * k0_pay6 v4' (ix2 (sq (y 0)) d) + k0_pay4 v3' (ix2 (sq (y 0)) d)) (fun k j => wg (ix2 k j)) (fun k j => wu (ix2 k j)) (y 1))
    (y : S512x1024.Idx) : k0_pay2 (k0_pay3 v0 v1 v3 v4) v5 v45 wd y
      = dense (fun d => v0 (ix2 (y 0) d)) (fun d => v3 (ix2 (y 0) d)) (fun d => v1 (ix4 0 0 (sq (y 0)) d)) (fun d => v3' (ix4 0 0 (sq (y 0)) d))
        (fun d => v4' (ix4 0 0 (sq (y 0)) d)) (fun d => v5 (ix4 0 0 (sq (y 0)) d)) (fun d => v13 (ix2 0 d)) (fun k j => v4 (ix2 k j))
        (fun k j => wg (ix2 k j)) (fun k j => wu (ix2 k j)) (fun k j => wd (ix2 k j)) (y 1) := by
  have hr : ∀ j : Fin 1024, (ix2 ⟨(y 0).val / 8 * 8 + (y 0).val % 8, by have : (y 0).val < 512 := (y 0).isLt; omega⟩ j : S512x1024.Idx)
      = ix2 (y 0) j := fun j => by
    congr 1
    exact Fin.ext (Nat.div_add_mod' _ _)
  rw [hpay2, hpay3]
  unfold dense
  congr 3
  funext f
  rw [h]
  refine congrArg (fun r => swiglu r _ _ f) (funext fun d => ?_)
  rw [hpay5, hpay6, hpay4]
  unfold normed modulate
  refine congrArg (· * _ + _) ?_
  refine congrArg (fun v => norm v _ d) (funext fun j => ?_)
  exact (congrArg (k0_pay3 v0 v1 v3 v4) (hr j)).trans (hpay3 v0 v1 v3 v4 _)

variable (m : (ℓ : Loc nD τ sig) → Buf (Elt Ideal) ℓ)

/-- The blocks of the windows at point `t`. -/
theorem idx : ∀ t : Fin cfg0.N, win0_0.index t = ![t.val, 0] ∧ win0_1.index t = ![t.val, 0]
    ∧ win0_2.index t = ![if t.val < 16 then 0 else 1, 0, 0, 0] ∧ win0_3.index t = ![0, 0] ∧ win0_4.index t = ![0, 0]
    ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![t.val, 0]
    ∧ win0_2.index t = ![if t.val < 16 then 0 else 1, 0, 0, 0] ∧ win0_3.index t = ![0, 0] ∧ win0_4.index t = ![0, 0]
    ∧ win0_5.index t = ![0, 0] ∧ win0_6.index t = ![0, 0] ∧ win0_7.index t = ![0, 0] ∧ win0_8.index t = ![t.val, 0])

/-- The token of row `r` of tile `t`. -/
def tok (t : Fin cfg0.N) (r : Fin 512) : Fin 40960 := ⟨t.val * 512 + r.val, by
  have h := t.isLt
  have hN : cfg0.N = 80 := N_0
  omega⟩

/-- Where the result's block of tile `t` lies in its array. -/
theorem emb_eq (t : Fin cfg0.N) (y : S512x1024.Idx) : (win0_8.rect t).emb y = ix2 (tok t (y 0)) (y 1) := by
  refine funext fun a => Fin.ext ?_
  match a with
  | ⟨0, _⟩ =>
    show (((win0_8.rect t).emb y) 0).val = t.val * 512 + (y 0).val
    blk_simp [idx t]
  | ⟨1, _⟩ =>
    show (((win0_8.rect t).emb y) 1).val = (y 1).val
    blk_simp [idx t]
    exact Nat.zero_add _

/-- The stream's rows. -/
theorem r0 (c : Dev nD) (t : Fin cfg0.N) (r : Fin 512) (d : Fin 1024) :
    iblk m c 0 t (ix2 r d) = m ((c : Thread nD τ).loc main_arg0) (ix2 (tok t r) d) := by
  blk_point [iblk, idx t]
  rfl

/-- The mixed block's rows. -/
theorem r1 (c : Dev nD) (t : Fin cfg0.N) (r : Fin 512) (d : Fin 1024) :
    iblk m c 1 t (ix2 r d) = m ((c : Thread nD τ).loc main_arg1) (ix2 (tok t r) d) := by
  blk_point [iblk, idx t]
  rfl

/-- The output projection. -/
theorem r3 (c : Dev nD) (t : Fin cfg0.N) (k : Fin 1024) (d : Fin 1024) :
    iblk m c 3 t (ix2 k d) = m ((c : Thread nD τ).loc main_arg3) (ix2 k d) := by
  blk_point [iblk, idx t]

/-- The norm's gain. -/
theorem r4 (c : Dev nD) (t : Fin cfg0.N) (d : Fin 1024) :
    iblk m c 4 t (ix2 0 d) = m ((c : Thread nD τ).loc main_arg4) (ix1 d) := by
  blk_point [iblk, idx t]

/-- The gate weight. -/
theorem r5 (c : Dev nD) (t : Fin cfg0.N) (k : Fin 1024) (d : Fin 2816) :
    iblk m c 5 t (ix2 k d) = m ((c : Thread nD τ).loc main_arg5) (ix2 k d) := by
  blk_point [iblk, idx t]

/-- The up weight. -/
theorem r6 (c : Dev nD) (t : Fin cfg0.N) (k : Fin 1024) (d : Fin 2816) :
    iblk m c 6 t (ix2 k d) = m ((c : Thread nD τ).loc main_arg6) (ix2 k d) := by
  blk_point [iblk, idx t]

/-- The down weight. -/
theorem r7 (c : Dev nD) (t : Fin cfg0.N) (k : Fin 2816) (d : Fin 1024) :
    iblk m c 7 t (ix2 k d) = m ((c : Thread nD τ).loc main_arg7) (ix2 k d) := by
  blk_point [iblk, idx t]

/-- Modulation row 2 as a tile loads it. -/
theorem mod2 (c : Dev nD) (t : Fin cfg0.N) (r : Fin 512) (d : Fin 1024) :
    View.ld (iblk m c 2 t) (Rect.unit ![0, 2, 0, 0] ![1, 1, 8, 1024] inb_S1x6x8x1024_S1x1x8x1024_0_2_0_0) (ix4 0 0 (sq r) d)
      = modRow (m ((c : Thread nD τ).loc main_arg2)) 2 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 3 as a tile loads it. -/
theorem mod3 (c : Dev nD) (t : Fin cfg0.N) (r : Fin 512) (d : Fin 1024) :
    View.ld (iblk m c 2 t) (Rect.unit ![0, 3, 0, 0] ![1, 1, 8, 1024] inb_S1x6x8x1024_S1x1x8x1024_0_3_0_0) (ix4 0 0 (sq r) d)
      = modRow (m ((c : Thread nD τ).loc main_arg2)) 3 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 4 as a tile loads it. -/
theorem mod4 (c : Dev nD) (t : Fin cfg0.N) (r : Fin 512) (d : Fin 1024) :
    View.ld (iblk m c 2 t) (Rect.unit ![0, 4, 0, 0] ![1, 1, 8, 1024] inb_S1x6x8x1024_S1x1x8x1024_0_4_0_0) (ix4 0 0 (sq r) d)
      = modRow (m ((c : Thread nD τ).loc main_arg2)) 4 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 5 as a tile loads it. -/
theorem mod5 (c : Dev nD) (t : Fin cfg0.N) (r : Fin 512) (d : Fin 1024) :
    View.ld (iblk m c 2 t) (Rect.unit ![0, 5, 0, 0] ![1, 1, 8, 1024] inb_S1x6x8x1024_S1x1x8x1024_0_5_0_0) (ix4 0 0 (sq r) d)
      = modRow (m ((c : Thread nD τ).loc main_arg2)) 5 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- The dense block of a tile's row is that of its token. -/
theorem row (c : Dev nD) (t : Fin cfg0.N) (r : Fin 512) (q : Fin 1024) :
    dense (fun d => iblk m c 0 t (ix2 r d)) (fun d => iblk m c 1 t (ix2 r d))
      (fun d => View.ld (iblk m c 2 t) (Rect.unit ![0, 2, 0, 0] ![1, 1, 8, 1024] inb_S1x6x8x1024_S1x1x8x1024_0_2_0_0) (ix4 0 0 (sq r) d))
      (fun d => View.ld (iblk m c 2 t) (Rect.unit ![0, 3, 0, 0] ![1, 1, 8, 1024] inb_S1x6x8x1024_S1x1x8x1024_0_3_0_0) (ix4 0 0 (sq r) d))
      (fun d => View.ld (iblk m c 2 t) (Rect.unit ![0, 4, 0, 0] ![1, 1, 8, 1024] inb_S1x6x8x1024_S1x1x8x1024_0_4_0_0) (ix4 0 0 (sq r) d))
      (fun d => View.ld (iblk m c 2 t) (Rect.unit ![0, 5, 0, 0] ![1, 1, 8, 1024] inb_S1x6x8x1024_S1x1x8x1024_0_5_0_0) (ix4 0 0 (sq r) d))
      (fun d => iblk m c 4 t (ix2 0 d)) (fun k j => iblk m c 3 t (ix2 k j)) (fun k j => iblk m c 5 t (ix2 k j))
      (fun k j => iblk m c 6 t (ix2 k j)) (fun k j => iblk m c 7 t (ix2 k j)) q
    = dense (fun d => m ((c : Thread nD τ).loc main_arg0) (ix2 (tok t r) d)) (fun d => m ((c : Thread nD τ).loc main_arg1) (ix2 (tok t r) d)) (modRow (m ((c : Thread nD τ).loc main_arg2)) 2 (tok t r))
      (modRow (m ((c : Thread nD τ).loc main_arg2)) 3 (tok t r)) (modRow (m ((c : Thread nD τ).loc main_arg2)) 4 (tok t r)) (modRow (m ((c : Thread nD τ).loc main_arg2)) 5 (tok t r)) (fun d => m ((c : Thread nD τ).loc main_arg4) (ix1 d))
      (fun k j => m ((c : Thread nD τ).loc main_arg3) (ix2 k j)) (fun k j => m ((c : Thread nD τ).loc main_arg5) (ix2 k j)) (fun k j => m ((c : Thread nD τ).loc main_arg6) (ix2 k j)) (fun k j => m ((c : Thread nD τ).loc main_arg7) (ix2 k j)) q := by
  simp only [r0, r1, r3, r4, r5, r6, r7, mod2, mod3, mod4, mod5]

/-- A whole read of a buffer reads its index. -/
theorem whole_idx (L : S512x2816.Idx → EReal) (y : S512x2816.Idx) :
    L ((Rect.unit (s := S512x2816) ![0, 0] ![512, 2816] inb_S512x2816_S512x2816_0_0).toLoadRect.idx y) = L y := by
  refine congrArg L (funext fun a => Fin.ext ((ValueKit.rect_emb_unit_val (s := S512x2816) ![0, 0] ![512, 2816] inb_S512x2816_S512x2816_0_0 y a).trans ?_))
  match a with
  | ⟨0, _⟩ => exact Nat.zero_add _
  | ⟨1, _⟩ => exact Nat.zero_add _

/-- One element of a tile after its point. -/
theorem point (c : Dev nD) (t : Fin cfg0.N) (y : S512x1024.Idx) : (dats m 0 c).after 8 t y
    = Cert.DenseRefIdeal.Fin.REF (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5))
       (m ((c : Thread nD τ).loc main_arg6)) (m ((c : Thread nD τ).loc main_arg7)) (ix2 (tok t (y 0)) (y 1)) := by
  refine Eq.trans ?_ (Cert.DenseRefIdeal.Fin.href _ _ _ _ _ _ _ _ (tok t (y 0)) (y 1)).symm
  rw [after0_8]
  unfold outsAt0
  frame_out
  rw [View.readCov_eq_canon']
  refine (tile (iblk m c 0 t) (View.ld (iblk m c 2 t) (Rect.unit ![0, 2, 0, 0] ![1, 1, 8, 1024] inb_S1x6x8x1024_S1x1x8x1024_0_2_0_0))
    (View.ld (iblk m c 2 t) (Rect.unit ![0, 5, 0, 0] ![1, 1, 8, 1024] inb_S1x6x8x1024_S1x1x8x1024_0_5_0_0))
    (View.ld (iblk m c 2 t) (Rect.unit ![0, 3, 0, 0] ![1, 1, 8, 1024] inb_S1x6x8x1024_S1x1x8x1024_0_3_0_0))
    (View.ld (iblk m c 2 t) (Rect.unit ![0, 4, 0, 0] ![1, 1, 8, 1024] inb_S1x6x8x1024_S1x1x8x1024_0_4_0_0))
    (iblk m c 1 t) (iblk m c 3 t) (iblk m c 4 t) (iblk m c 5 t) (iblk m c 6 t) _ _ (fun y => ?_) y).trans ?_
  · refine (whole_idx _ y).trans ?_
    exact acts _ _ _ _ _ _ _ _ _ _ _ _ _ _ _ _ _ _ _ _ _ _ _ _ _ _ _ _ _ _
  · exact row m c t (y 0) (y 1)

/-- The kernel's result is the reference's. -/
theorem final (c : Dev nD) : (dats m 0 c).arrAt 8 cfg0.N
    = Cert.DenseRefIdeal.Fin.REF (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5))
       (m ((c : Thread nD τ).loc main_arg6)) (m ((c : Thread nD τ).loc main_arg7)) := by
  refine (dats m 0 c).arrAt_eq_of_covers 8 _ (by decide +kernel) fun t hf y => ?_
  blk_simp
  exact (point m c t y).trans (congrArg _ (emb_eq t y).symm)

end Cert.DenseIdeal.Fin

end
-- ==== Proof.NormValue.lean ====
module

public import proofs.«01_k».proof.Proof.Gen.NormIdeal.Value
public import proofs.«01_k».proof.Proof.Gen.NormRefIdeal.Run
public import Idealize.ShloMosaic.Lib.Pipeline.ValueKit

/-! The final RMS norm: every tile of 512 rows of the kernel's result is the reference's norm of the same rows. -/

set_option maxRecDepth 16384

@[expose] public section

noncomputable section

namespace Cert.NormIdeal.Fin

open Cert.NormIdeal Cert.NormIdeal.Gen Idealize.ShloMosaic Idealize.ShloMosaic.TcCoe Idealize.SL.Sem

/-- The reference's norm of a stream `x` with the weight row `w`, as its operations compose. -/
def REF (x : FVec Ideal S40960x1024 .f32) (w : FVec Ideal S1024 .f32) : FVec Ideal S40960x1024 .f32 :=
  open Cert.NormRefIdeal Cert.NormRefIdeal.Facts Cert.NormRefIdeal.Gen in
  mulf (mulf x (broadcastInDim Cert.NormRefIdeal.S40960x1024 ![0, 1] bcast_S40960x1_S40960x1024_0_1 (Host.rsqrt (addf (Host.divf (broadcastInDim S40960x1 ![0] bcast_S40960_S40960x1_0 (Host.reduceAdd (mulf x x) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim Cert.NormRefIdeal.S40960x1024 ![0, 1] bcast_S1x1024_S40960x1024_0_1 (broadcastInDim Cert.NormRefIdeal.S1x1024 ![1] bcast_S1024_S1x1024_1 w))

variable (m : (ℓ : Loc nD τ sig) → Buf (Elt Ideal) ℓ)

/-- The blocks of the three windows at point `t`: rows `512 t …` of the stream and of the result, the whole weight row. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- One element of the tile written at point `t` is the reference's element at its place in the whole array. -/
theorem point (c : Dev nD) (t : Fin cfg0.N) (y : S512x1024.Idx) :
    k0_pay1 (iblk m c 0 t) (iblk m c 1 t) y
      = REF (m ((c : Thread nD τ).loc main_arg0)) (m ((c : Thread nD τ).loc main_arg1)) ((win0_2.rect t).emb y) := by
  pointwise [k0_pay1, REF]
  blk_point [iblk, V, idx t]
  all_goals exact (Nat.zero_add _).symm

/-- The kernel's result is the reference's norm of its two arguments. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Fin

end
-- ==== Proof.InProjRef.lean ====
module

public import proofs.«01_k».proof.Proof.Gen.InProjRefIdeal.Run
public import proofs.«01_k».proof.Proof.Rows

/-! The input projection of the reference, row by row. -/

set_option maxRecDepth 1000000

@[expose] public section

noncomputable section

namespace Cert.InProjRefIdeal.Fin

open Cert.InProjRefIdeal Cert.InProjRefIdeal.Gen Cert.Rows Idealize.ShloMosaic Idealize.ShloMosaic.TcCoe Idealize.SL.Sem

/-- Modulation row 0 of every token, as the reference lays it out. -/
def PER0 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 0, 0, 0] mod slices_S2x6x8x1024_S1x1x8x1024_0_0_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 0, 0, 0] mod slices_S2x6x8x1024_S1x1x8x1024_1_0_0_0) shapeCasts_S1x1x8x1024_S8x1024)) shapeCasts_S4096x8x1024_S32768x1024)⟩] concatenates_S8192x1024_S32768x1024_S40960x1024_d0

/-- Row 0 of a token is the row its kind and sequence select. -/
theorem per0_apply (mod : FVec Ideal S2x6x8x1024 .f32) (n : Fin 40960) (d : Fin 1024) :
    PER0 mod (ix2 n d) = modRow mod 0 n d := by
  suffices key : ∀ y, PER0 mod y = modRow mod 0 (y 0) (y 1) from key _
  intro y
  have hn := (y 0).isLt
  pointwise [PER0]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 1 of every token, as the reference lays it out. -/
def PER1 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 1, 0, 0] mod slices_S2x6x8x1024_S1x1x8x1024_0_1_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 1, 0, 0] mod slices_S2x6x8x1024_S1x1x8x1024_1_1_0_0) shapeCasts_S1x1x8x1024_S8x1024)) shapeCasts_S4096x8x1024_S32768x1024)⟩] concatenates_S8192x1024_S32768x1024_S40960x1024_d0

/-- Row 1 of a token is the row its kind and sequence select. -/
theorem per1_apply (mod : FVec Ideal S2x6x8x1024 .f32) (n : Fin 40960) (d : Fin 1024) :
    PER1 mod (ix2 n d) = modRow mod 1 n d := by
  suffices key : ∀ y, PER1 mod y = modRow mod 1 (y 0) (y 1) from key _
  intro y
  have hn := (y 0).isLt
  pointwise [PER1]
  unfold modRow
  by_cases h8 : (y 0).val < 8192
  · rw [dif_pos h8, if_pos h8]
  · rw [dif_neg h8, if_neg h8]
    congr 2
    exact Fin.ext (show ((y 0).val - 8192) % 8 = (y 0).val % 8 by omega)

/-- The reference's RMS norm of a stream `v` with gain `g`. -/
def RMS (v : FVec Ideal S40960x1024 .f32) (g : FVec Ideal S1024 .f32) : FVec Ideal S40960x1024 .f32 :=
  mulf (mulf v (broadcastInDim S40960x1024 ![0, 1] bcast_S40960x1_S40960x1024_0_1 (Host.rsqrt (addf (Host.divf (broadcastInDim S40960x1 ![0] bcast_S40960_S40960x1_0 (Host.reduceAdd (mulf v v) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim S40960x1024 ![0, 1] bcast_S1x1024_S40960x1024_0_1 (broadcastInDim S1x1024 ![1] bcast_S1024_S1x1024_1 g))

/-- The norm of the stream is, row by row, the norm of that row. -/
theorem rms_apply (v : FVec Ideal S40960x1024 .f32) (g : FVec Ideal S1024 .f32) (n : Fin 40960) (d : Fin 1024) :
    RMS v g (ix2 n d) = norm (fun j => v (ix2 n j)) (fun j => g (ix1 j)) d := by
  pointwise [RMS]
  rfl

/-- The modulated norm of a stream. -/
def H (x : FVec Ideal S40960x1024 .f32) (mod : FVec Ideal S2x6x8x1024 .f32) (g : FVec Ideal S1024 .f32) : FVec Ideal S40960x1024 .f32 :=
  addf (mulf (RMS x g) (addf (broadcastInDim S40960x1024 ![] bcast_S_S40960x1024 (constant S_ .f32 0x3F800000#32)) (PER1 mod))) (PER0 mod)

/-- A row of it is the modulated norm of the stream's row. -/
theorem h_apply (x : FVec Ideal S40960x1024 .f32) (mod : FVec Ideal S2x6x8x1024 .f32) (g : FVec Ideal S1024 .f32) (n : Fin 40960) (d : Fin 1024) :
    H x mod g (ix2 n d) = modulate (norm (fun d => x (ix2 n d)) (fun d => g (ix1 d))) (modRow mod 1 n) (modRow mod 0 n) d := by
  pointwise [H]
  rw [per0_apply, per1_apply, rms_apply]
  rfl

/-- The projection of a stream, as the reference's operations compose. -/
def REF (x : FVec Ideal S40960x1024 .f32) (mod : FVec Ideal S2x6x8x1024 .f32) (g : FVec Ideal S1024 .f32)
    (w : FVec Ideal S1024x1536 .f32) : FVec Ideal S40960x1536 .f32 :=
  Host.dotGeneral dot_S40960x1024_S1024x1536_S40960x1536_1_0_0_1_n_n none (H x mod g) w

/-- Its element is the projection of the row's modulated norm. -/
theorem href (x : FVec Ideal S40960x1024 .f32) (mod : FVec Ideal S2x6x8x1024 .f32) (g : FVec Ideal S1024 .f32)
    (w : FVec Ideal S1024x1536 .f32) (n : Fin 40960) (j : Fin 1536) :
    REF x mod g w (ix2 n j) = proj (modulate (norm (fun d => x (ix2 n d)) (fun d => g (ix1 d))) (modRow mod 1 n) (modRow mod 0 n))
      (fun k j => w (ix2 k j)) j := by
  pointwise [REF]
  simp only [h_apply]
  rfl

end Cert.InProjRefIdeal.Fin

end
-- ==== Proof.InProjValue.lean ====
module

public import proofs.«01_k».proof.Proof.Gen.InProjIdeal.Value
public import proofs.«01_k».proof.Proof.InProjRef
public import Idealize.ShloMosaic.Lib.Pipeline.ValueKit
public import Idealize.ShloMosaic.Lib.Pipeline.ReadBack

/-! The input projection of a later layer: every tile of 512 rows holds the projection of its rows. -/

set_option maxRecDepth 16384

@[expose] public section

noncomputable section

namespace Cert.InProjIdeal.Fin

open Cert.InProjIdeal Cert.InProjIdeal.Gen Cert.Rows Idealize.ShloMosaic Idealize.ShloMosaic.TcCoe Idealize.SL.Sem

/-- A row's place among the eight sequences. -/
def sq (r : Fin 512) : Fin 8 := ⟨r.val % 8, Nat.mod_lt _ (by decide)⟩

/-- A tile's row, from the tile's arrays. -/
theorem tile_at (v0 : Vec Ideal S512x1024 .f32) (v1 : Vec Ideal S1x1024 .f32) (v15 v17 : Vec Ideal S1x1x8x1024 .f32)
    (v30 : Vec Ideal S1024x1536 .bf16) (r : Fin 512) (j : Fin 1536) : k0_pay1 v0 v1 v15 v17 v30 (ix2 r j)
      = proj (modulate (norm (fun d => v0 (ix2 r d)) (fun d => v1 (ix2 0 d))) (fun d => v15 (ix4 0 0 (sq r) d))
          (fun d => v17 (ix4 0 0 (sq r) d))) (fun k j => v30 (ix2 k j)) j := by
  pointwise [k0_pay1]
  rfl

variable (m : (ℓ : Loc nD τ sig) → Buf (Elt Ideal) ℓ)

/-- The blocks of the windows at point `t`. -/
theorem idx : ∀ t : Fin cfg0.N, win0_0.index t = ![t.val, 0] ∧ win0_1.index t = ![if t.val < 16 then 0 else 1, 0, 0, 0] ∧ win0_2.index t = ![0, 0] ∧ win0_3.index t = ![0, 0] ∧ win0_4.index t = ![t.val, 0] :=
  (by decide +kernel : ∀ t : Fin grid0.N, win0_0.index t = ![t.val, 0] ∧ win0_1.index t = ![if t.val < 16 then 0 else 1, 0, 0, 0] ∧ win0_2.index t = ![0, 0] ∧ win0_3.index t = ![0, 0] ∧ win0_4.index t = ![t.val, 0])

/-- The token of row `r` of tile `t`. -/
def tok (t : Fin cfg0.N) (r : Fin 512) : Fin 40960 := ⟨t.val * 512 + r.val, by
  have h := t.isLt
  have hN : cfg0.N = 80 := N_0
  omega⟩

/-- Where window 4's block of tile `t` lies in its array. -/
theorem emb_eq (t : Fin cfg0.N) (y : S512x1536.Idx) : (win0_4.rect t).emb y = ix2 (tok t (y 0)) (y 1) := by
  refine funext fun a => Fin.ext ?_
  match a with
  | ⟨0, _⟩ =>
    show (((win0_4.rect t).emb y) 0).val = t.val * 512 + (y 0).val
    blk_simp [idx t]
  | ⟨1, _⟩ =>
    show (((win0_4.rect t).emb y) 1).val = (y 1).val
    blk_simp [idx t]
    exact Nat.zero_add _

/-- The stream's rows. -/
theorem r0 (c : Dev nD) (t : Fin cfg0.N) (r : Fin 512) (d : Fin 1024) :
    iblk m c 0 t (ix2 r d) = m ((c : Thread nD τ).loc main_arg0) (ix2 (tok t r) d) := by
  blk_point [iblk, idx t]
  rfl

/-- The norm's gain. -/
theorem r2 (c : Dev nD) (t : Fin cfg0.N) (d : Fin 1024) :
    iblk m c 2 t (ix2 0 d) = m ((c : Thread nD τ).loc main_arg2) (ix1 d) := by
  blk_point [iblk, idx t]

/-- The projection's weight. -/
theorem r3 (c : Dev nD) (t : Fin cfg0.N) (k : Fin 1024) (d : Fin 1536) :
    iblk m c 3 t (ix2 k d) = m ((c : Thread nD τ).loc main_arg3) (ix2 k d) := by
  blk_point [iblk, idx t]

/-- Modulation row 0 as a tile loads it. -/
theorem mod0 (c : Dev nD) (t : Fin cfg0.N) (r : Fin 512) (d : Fin 1024) :
    View.ld (iblk m c 1 t) (Rect.unit ![0, 0, 0, 0] ![1, 1, 8, 1024] inb_S1x6x8x1024_S1x1x8x1024_0_0_0_0) (ix4 0 0 (sq r) d)
      = modRow (m ((c : Thread nD τ).loc main_arg1)) 0 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 1 as a tile loads it. -/
theorem mod1 (c : Dev nD) (t : Fin cfg0.N) (r : Fin 512) (d : Fin 1024) :
    View.ld (iblk m c 1 t) (Rect.unit ![0, 1, 0, 0] ![1, 1, 8, 1024] inb_S1x6x8x1024_S1x1x8x1024_0_1_0_0) (ix4 0 0 (sq r) d)
      = modRow (m ((c : Thread nD τ).loc main_arg1)) 1 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- The projection of a tile's row is that of its token. -/
theorem row (c : Dev nD) (t : Fin cfg0.N) (r : Fin 512) (q : Fin 1536) :
    proj (modulate (norm (fun d => iblk m c 0 t (ix2 r d)) (fun d => iblk m c 2 t (ix2 0 d)))
      (fun d => View.ld (iblk m c 1 t) (Rect.unit ![0, 1, 0, 0] ![1, 1, 8, 1024] inb_S1x6x8x1024_S1x1x8x1024_0_1_0_0) (ix4 0 0 (sq r) d))
      (fun d => View.ld (iblk m c 1 t) (Rect.unit ![0, 0, 0, 0] ![1, 1, 8, 1024] inb_S1x6x8x1024_S1x1x8x1024_0_0_0_0) (ix4 0 0 (sq r) d)))
      (fun k j => iblk m c 3 t (ix2 k j)) q
    = proj (modulate (norm (fun d => m ((c : Thread nD τ).loc main_arg0) (ix2 (tok t r) d)) (fun d => m ((c : Thread nD τ).loc main_arg2) (ix1 d)))
      (modRow (m ((c : Thread nD τ).loc main_arg1)) 1 (tok t r)) (modRow (m ((c : Thread nD τ).loc main_arg1)) 0 (tok t r)))
      (fun k j => m ((c : Thread nD τ).loc main_arg3) (ix2 k j)) q := by
  simp only [r0, r2, r3, mod0, mod1]

/-- One element of a tile after its point. -/
theorem point (c : Dev nD) (t : Fin cfg0.N) (y : S512x1536.Idx) : (dats m 0 c).after 4 t y
    = Cert.InProjRefIdeal.Fin.REF (m ((c : Thread nD τ).loc main_arg0)) (m ((c : Thread nD τ).loc main_arg1)) (m ((c : Thread nD τ).loc main_arg2))
       (m ((c : Thread nD τ).loc main_arg3)) (ix2 (tok t (y 0)) (y 1)) := by
  refine Eq.trans ?_ (Cert.InProjRefIdeal.Fin.href _ _ _ _ (tok t (y 0)) (y 1)).symm
  rw [after0_4]
  frame_out
  refine (congrArg (k0_pay1 _ _ _ _ _) (show y = ix2 (y 0) (y 1) from funext fun a => by match a with | ⟨0, _⟩ => rfl | ⟨1, _⟩ => rfl)).trans ?_
  refine (tile_at (iblk m c 0 t) (iblk m c 2 t) (View.ld (iblk m c 1 t) (Rect.unit ![0, 1, 0, 0] ![1, 1, 8, 1024] inb_S1x6x8x1024_S1x1x8x1024_0_1_0_0))
    (View.ld (iblk m c 1 t) (Rect.unit ![0, 0, 0, 0] ![1, 1, 8, 1024] inb_S1x6x8x1024_S1x1x8x1024_0_0_0_0)) (iblk m c 3 t) (y 0) (y 1)).trans ?_
  exact row m c t (y 0) (y 1)

/-- The kernel's result is the reference's. -/
theorem final (c : Dev nD) : (dats m 0 c).arrAt 4 cfg0.N
    = Cert.InProjRefIdeal.Fin.REF (m ((c : Thread nD τ).loc main_arg0)) (m ((c : Thread nD τ).loc main_arg1)) (m ((c : Thread nD τ).loc main_arg2))
       (m ((c : Thread nD τ).loc main_arg3)) := by
  refine (dats m 0 c).arrAt_eq_of_covers 4 _ (by decide +kernel) fun t hf y => ?_
  blk_simp
  exact (point m c t y).trans (congrArg _ (emb_eq t y).symm)

end Cert.InProjIdeal.Fin

end
-- ==== Proof.InProjPosRef.lean ====
module

public import proofs.«01_k».proof.Proof.Gen.InProjPosRefIdeal.Run
public import proofs.«01_k».proof.Proof.Rows

/-! The input projection of the reference, row by row. -/

set_option maxRecDepth 1000000

@[expose] public section

noncomputable section

namespace Cert.InProjPosRefIdeal.Fin

open Cert.InProjPosRefIdeal Cert.InProjPosRefIdeal.Gen Cert.Rows Idealize.ShloMosaic Idealize.ShloMosaic.TcCoe Idealize.SL.Sem

/-- Modulation row 0 of every token, as the reference lays it out. -/
def PER0 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 0, 0, 0] mod slices_S2x6x8x1024_S1x1x8x1024_0_0_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 0, 0, 0] mod slices_S2x6x8x1024_S1x1x8x1024_1_0_0_0) shapeCasts_S1x1x8x1024_S8x1024)) shapeCasts_S4096x8x1024_S32768x1024)⟩] concatenates_S8192x1024_S32768x1024_S40960x1024_d0

/-- Row 0 of a token is the row its kind and sequence select. -/
theorem per0_apply (mod : FVec Ideal S2x6x8x1024 .f32) (n : Fin 40960) (d : Fin 1024) :
    PER0 mod (ix2 n d) = modRow mod 0 n d := by
  suffices key : ∀ y, PER0 mod y = modRow mod 0 (y 0) (y 1) from key _
  intro y
  have hn := (y 0).isLt
  pointwise [PER0]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 1 of every token, as the reference lays it out. -/
def PER1 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 1, 0, 0] mod slices_S2x6x8x1024_S1x1x8x1024_0_1_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 1, 0, 0] mod slices_S2x6x8x1024_S1x1x8x1024_1_1_0_0) shapeCasts_S1x1x8x1024_S8x1024)) shapeCasts_S4096x8x1024_S32768x1024)⟩] concatenates_S8192x1024_S32768x1024_S40960x1024_d0

/-- Row 1 of a token is the row its kind and sequence select. -/
theorem per1_apply (mod : FVec Ideal S2x6x8x1024 .f32) (n : Fin 40960) (d : Fin 1024) :
    PER1 mod (ix2 n d) = modRow mod 1 n d := by
  suffices key : ∀ y, PER1 mod y = modRow mod 1 (y 0) (y 1) from key _
  intro y
  have hn := (y 0).isLt
  pointwise [PER1]
  unfold modRow
  by_cases h8 : (y 0).val < 8192
  · rw [dif_pos h8, if_pos h8]
  · rw [dif_neg h8, if_neg h8]
    congr 2
    exact Fin.ext (show ((y 0).val - 8192) % 8 = (y 0).val % 8 by omega)

/-- The reference's RMS norm of a stream `v` with gain `g`. -/
def RMS (v : FVec Ideal S40960x1024 .f32) (g : FVec Ideal S1024 .f32) : FVec Ideal S40960x1024 .f32 :=
  mulf (mulf v (broadcastInDim S40960x1024 ![0, 1] bcast_S40960x1_S40960x1024_0_1 (Host.rsqrt (addf (Host.divf (broadcastInDim S40960x1 ![0] bcast_S40960_S40960x1_0 (Host.reduceAdd (mulf v v) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim S40960x1024 ![0, 1] bcast_S1x1024_S40960x1024_0_1 (broadcastInDim S1x1024 ![1] bcast_S1024_S1x1024_1 g))

/-- The norm of the stream is, row by row, the norm of that row. -/
theorem rms_apply (v : FVec Ideal S40960x1024 .f32) (g : FVec Ideal S1024 .f32) (n : Fin 40960) (d : Fin 1024) :
    RMS v g (ix2 n d) = norm (fun j => v (ix2 n j)) (fun j => g (ix1 j)) d := by
  pointwise [RMS]
  rfl

/-- The modulated norm of a stream. -/
def H (x : FVec Ideal S40960x1024 .f32) (mod : FVec Ideal S2x6x8x1024 .f32) (g : FVec Ideal S1024 .f32) : FVec Ideal S40960x1024 .f32 :=
  addf (mulf (RMS x g) (addf (broadcastInDim S40960x1024 ![] bcast_S_S40960x1024 (constant S_ .f32 0x3F800000#32)) (PER1 mod))) (PER0 mod)

/-- A row of it is the modulated norm of the stream's row. -/
theorem h_apply (x : FVec Ideal S40960x1024 .f32) (mod : FVec Ideal S2x6x8x1024 .f32) (g : FVec Ideal S1024 .f32) (n : Fin 40960) (d : Fin 1024) :
    H x mod g (ix2 n d) = modulate (norm (fun d => x (ix2 n d)) (fun d => g (ix1 d))) (modRow mod 1 n) (modRow mod 0 n) d := by
  pointwise [H]
  rw [per0_apply, per1_apply, rms_apply]
  rfl

/-- The projection of a stream, as the reference's operations compose. -/
def REF (x : FVec Ideal S40960x1024 .f32) (mod : FVec Ideal S2x6x8x1024 .f32) (g : FVec Ideal S1024 .f32)
    (w : FVec Ideal S1024x1536 .f32) : FVec Ideal S40960x1536 .f32 :=
  Host.dotGeneral dot_S40960x1024_S1024x1536_S40960x1536_1_0_0_1_n_n none (H x mod g) w

/-- Its element is the projection of the row's modulated norm. -/
theorem href (x : FVec Ideal S40960x1024 .f32) (mod : FVec Ideal S2x6x8x1024 .f32) (g : FVec Ideal S1024 .f32)
    (w : FVec Ideal S1024x1536 .f32) (n : Fin 40960) (j : Fin 1536) :
    REF x mod g w (ix2 n j) = proj (modulate (norm (fun d => x (ix2 n d)) (fun d => g (ix1 d))) (modRow mod 1 n) (modRow mod 0 n))
      (fun k j => w (ix2 k j)) j := by
  pointwise [REF]
  simp only [h_apply]
  rfl

/-- The embedding of one axis of the grid: sines in the first half, cosines in the second. -/
def SC : FVec Ideal S64x512 .f32 :=
  concatenate S64x512 1 [⟨S64x256, (Host.sin (mulf (broadcastInDim S64x256 ![0, 1] bcast_S64x1_S64x256_0_1 (broadcastInDim S64x1 ![0] bcast_S64_S64x1_0 (sitofp .f32 (iotaInDim S64 32 0)))) (broadcastInDim S64x256 ![0, 1] bcast_S1x256_S64x256_0_1 (broadcastInDim S1x256 ![1] bcast_S256_S1x256_1 (Host.divf (broadcastInDim S256 ![] bcast_S_S256 (constant S_ .f32 0x3F800000#32)) (Host.powf (broadcastInDim S256 ![] bcast_S_S256 (constant S_ .f32 0x461C4000#32)) (Host.divf (sitofp .f32 (iotaInDim S256 32 0)) (broadcastInDim S256 ![] bcast_S_S256 (constant S_ .f32 0x43800000#32)))))))))⟩, ⟨S64x256, (Host.cos (mulf (broadcastInDim S64x256 ![0, 1] bcast_S64x1_S64x256_0_1 (broadcastInDim S64x1 ![0] bcast_S64_S64x1_0 (sitofp .f32 (iotaInDim S64 32 0)))) (broadcastInDim S64x256 ![0, 1] bcast_S1x256_S64x256_0_1 (broadcastInDim S1x256 ![1] bcast_S256_S1x256_1 (Host.divf (broadcastInDim S256 ![] bcast_S_S256 (constant S_ .f32 0x3F800000#32)) (Host.powf (broadcastInDim S256 ![] bcast_S_S256 (constant S_ .f32 0x461C4000#32)) (Host.divf (sitofp .f32 (iotaInDim S256 32 0)) (broadcastInDim S256 ![] bcast_S_S256 (constant S_ .f32 0x43800000#32)))))))))⟩] concatenates_S64x256_S64x256_S64x512_d1

/-- The grid's embedding with `e` along each axis, position by position. -/
def PE (e : FVec Ideal S64x512 .f32) : FVec Ideal S4096x1024 .f32 :=
  shapeCast _ (concatenate S64x64x1024 2 [⟨S64x64x512, (broadcastInDim S64x64x512 ![0, 1, 2] bcast_S64x1x512_S64x64x512_0_1_2 (broadcastInDim S64x1x512 ![0, 2] bcast_S64x512_S64x1x512_0_2 e))⟩, ⟨S64x64x512, (broadcastInDim S64x64x512 ![0, 1, 2] bcast_S1x64x512_S64x64x512_0_1_2 (broadcastInDim S1x64x512 ![1, 2] bcast_S64x512_S1x64x512_1_2 e))⟩] concatenates_S64x64x512_S64x64x512_S64x64x1024_d2) shapeCasts_S64x64x1024_S4096x1024

/-- What the embedding adds at position `l`: its row's in the first half, its column's in the second. -/
def pe (e : FVec Ideal S64x512 .f32) (l : Fin 4096) (d : Fin 1024) : EReal :=
  if h : d.val < 512 then e (ix2 ⟨l.val / 64, by omega⟩ ⟨d.val, h⟩) else e (ix2 ⟨l.val % 64, by omega⟩ ⟨d.val - 512, by omega⟩)

/-- The grid's embedding at a position. -/
theorem pe_apply (e : FVec Ideal S64x512 .f32) (l : Fin 4096) (d : Fin 1024) : PE e (ix2 l d) = pe e l d := by
  pointwise [PE]
  rfl

/-- The stream with the grid's embedding `p` added to the sample's tokens. -/
def X0 (x : FVec Ideal S40960x1024 .f32) (p : FVec Ideal S4096x1024 .f32) : FVec Ideal S40960x1024 .f32 :=
  concatenate S40960x1024 0 [⟨S8192x1024, (extractStridedSlice S8192x1024 ![0, 0] x slices_S40960x1024_S8192x1024_0_0)⟩, ⟨S32768x1024, (shapeCast _ (addf (shapeCast _ (extractStridedSlice S32768x1024 ![8192, 0] x slices_S40960x1024_S32768x1024_8192_0) shapeCasts_S32768x1024_S4096x8x1024) (broadcastInDim S4096x8x1024 ![0, 1, 2] bcast_S4096x1x1024_S4096x8x1024_0_1_2 (broadcastInDim S4096x1x1024 ![0, 2] bcast_S4096x1024_S4096x1x1024_0_2 p))) shapeCasts_S4096x8x1024_S32768x1024)⟩] concatenates_S8192x1024_S32768x1024_S40960x1024_d0

/-- Its rows: the prompt's as they are, the sample's with their position's embedding. -/
theorem x0_apply (x : FVec Ideal S40960x1024 .f32) (p : FVec Ideal S4096x1024 .f32) (n : Fin 40960) (d : Fin 1024) :
    X0 x p (ix2 n d) = if h : n.val < 8192 then x (ix2 n d) else x (ix2 n d) + p (ix2 ⟨(n.val - 8192) / 8, by omega⟩ d) := by
  suffices key : ∀ y, X0 x p y = if h : (y 0).val < 8192 then x (ix2 (y 0) (y 1)) else x (ix2 (y 0) (y 1)) + p (ix2 ⟨((y 0).val - 8192) / 8, by
      have : (y 0).val < 40960 := (y 0).isLt; omega⟩ (y 1)) from key _
  intro y
  have hn : (y 0).val < 40960 := (y 0).isLt
  pointwise [X0]
  by_cases h8 : (y 0).val < 8192
  · rw [dif_pos h8, dif_pos h8]
  · rw [dif_neg h8, dif_neg h8]
    refine congrArg (· + _) (congrArg x (funext fun a => Fin.ext ?_))
    match a with
    | ⟨0, _⟩ =>
      show 8192 + (((y 0).val - 8192) / 8 * 8 + ((y 0).val - 8192) % 8) = (y 0).val
      omega
    | ⟨1, _⟩ => rfl

/-- The reference's run leaves exactly the projection of the stream with positions. -/
theorem run_eq (m : (ℓ : Loc nD τ sig) → Buf (Elt Ideal) ℓ) (c : Dev nD) : Value.res_main_v74 m c
    = REF (X0 (m ((c.tc : Thread nD τ).loc main_arg0)) (PE SC)) (m ((c.tc : Thread nD τ).loc main_arg1)) (m ((c.tc : Thread nD τ).loc main_arg2))
      (m ((c.tc : Thread nD τ).loc main_arg3)) := rfl

/-- The reference runs to the projection and the stream with positions, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = REF (X0 (m ((c.tc : Thread nD τ).loc main_arg0)) (PE SC)) (m ((c.tc : Thread nD τ).loc main_arg1)) (m ((c.tc : Thread nD τ).loc main_arg2)) (m ((c.tc : Thread nD τ).loc main_arg3))
      ∧ r.2.mem ((c.tc : Thread nD τ).loc main_v38) = X0 (m ((c.tc : Thread nD τ).loc main_arg0)) (PE SC)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (run_eq m c), (h c).2.1, (h c).2.2⟩) (Value.run m ρ)

end Cert.InProjPosRefIdeal.Fin

end
-- ==== Proof.InProjPosValue.lean ====
module

public import proofs.«01_k».proof.Proof.Gen.InProjPosIdeal.Value
public import proofs.«01_k».proof.Proof.InProjPosRef
public import Idealize.ShloMosaic.Lib.Pipeline.ValueKit
public import Idealize.ShloMosaic.Lib.Pipeline.ReadBack

/-! The first layer's input projection: every tile of 512 rows holds its rows with their grid positions, and their projection. -/

set_option maxRecDepth 16384

@[expose] public section

noncomputable section

namespace Cert.InProjPosIdeal.Fin

open Cert.InProjPosIdeal Cert.InProjPosIdeal.Gen Cert.Rows Idealize.ShloMosaic Idealize.ShloMosaic.TcCoe Idealize.SL.Sem

/-- A row's place among the eight sequences. -/
def sq (r : Fin 512) : Fin 8 := ⟨r.val % 8, Nat.mod_lt _ (by decide)⟩

/-- A tile's row with its positions: the tile's row of the grid in the first half, the row's column in the second. -/
def emb (x : Fin 1024 → EReal) (rt ct : Fin 512 → EReal) (d : Fin 1024) : EReal :=
  x d + if h : d.val < 512 then rt ⟨d.val, h⟩ else ct ⟨d.val - 512, by omega⟩

/-- The tile's stream with positions. -/
theorem hpay2 (v0 : Vec Ideal S512x1024 .f32) (v2 : Vec Ideal S1x1x512 .f32) (v7 : Vec Ideal S1x512x512 .f32) (r : Fin 512) (d : Fin 1024) :
    k0_pay2 v0 v2 v7 (ix2 r d) = emb (fun d => v0 (ix2 r d)) (fun e => v2 (ix3 0 0 e)) (fun e => v7 (ix3 0 r e)) d := by
  suffices key : ∀ y, k0_pay2 v0 v2 v7 y = emb (fun d => v0 (ix2 (y 0) d)) (fun e => v2 (ix3 0 0 e)) (fun e => v7 (ix3 0 (y 0) e)) (y 1) from key _
  intro y
  pointwise [k0_pay2]
  unfold emb
  have hd : (y 1).val < 1024 := (y 1).isLt
  by_cases h : (y 1).val < 512
  · rw [dif_pos h, dif_pos h]
    exact congrArg (v0 · + _) (funext fun a => by match a with | ⟨0, _⟩ => rfl | ⟨1, _⟩ => rfl)
  · rw [dif_neg h, dif_neg h]
    refine congrArg (v0 · + _) (funext fun a => Fin.ext ?_)
    match a with
    | ⟨0, _⟩ => rfl
    | ⟨1, _⟩ =>
      show 512 + ((y 1).val - 512) = (y 1).val
      omega

/-- Its norm, laid out sequence by sequence. -/
theorem hpay4 (v0 : Vec Ideal S512x1024 .f32) (v2 : Vec Ideal S1x1x512 .f32) (v7 : Vec Ideal S1x512x512 .f32) (v12 : Vec Ideal S1x1024 .f32)
    (y : S64x8x1024.Idx) : k0_pay4 v0 v2 v7 v12 y
      = norm (fun j => k0_pay2 v0 v2 v7 (ix2 ⟨(y 0).val * 8 + (y 1).val, by
          have : (y 0).val < 64 := (y 0).isLt; have : (y 1).val < 8 := (y 1).isLt; omega⟩ j)) (fun j => v12 (ix2 0 j)) (y 2) := by
  pointwise [k0_pay4]
  rfl

/-- The shift row. -/
theorem hpay3 (v : Vec Ideal S1x1x8x1024 .f32) (y : S8x1024.Idx) : k0_pay3 v y = v (ix4 0 0 (y 0) (y 1)) := by
  pointwise [k0_pay3]

/-- The scale row, plus one. -/
theorem hpay5 (v : Vec Ideal S1x1x8x1024 .f32) (y : S1x8x1024.Idx) : k0_pay5 v y = 1 + v (ix4 0 0 (y 1) (y 2)) := by
  pointwise [k0_pay5]

/-- The projection of a tile's modulated norm. -/
theorem hpay1 (v29 : FVec Ideal S8x1024 .f32) (v30 : FVec Ideal S64x8x1024 .f32) (v33 : FVec Ideal S1x8x1024 .f32) (v41 : Vec Ideal S1024x1536 .bf16)
    (r : Fin 512) (j : Fin 1536) : k0_pay1 v29 v30 v33 v41 (ix2 r j)
      = proj (fun d => v30 (ix3 ⟨r.val / 8, by omega⟩ (sq r) d) * v33 (ix3 0 (sq r) d) + v29 (ix2 (sq r) d)) (fun k j => v41 (ix2 k j)) j := by
  pointwise [k0_pay1]
  rfl

/-- A tile's row of the projection, from the tile's arrays. -/
theorem tile_at (v0 : Vec Ideal S512x1024 .f32) (v2 : Vec Ideal S1x1x512 .f32) (v7 : Vec Ideal S1x512x512 .f32) (v12 : Vec Ideal S1x1024 .f32)
    (v26 v28 : Vec Ideal S1x1x8x1024 .f32) (v41 : Vec Ideal S1024x1536 .bf16) (r : Fin 512) (j : Fin 1536) :
    k0_pay1 (k0_pay3 v28) (k0_pay4 v0 v2 v7 v12) (k0_pay5 v26) v41 (ix2 r j)
      = proj (modulate (norm (emb (fun d => v0 (ix2 r d)) (fun e => v2 (ix3 0 0 e)) (fun e => v7 (ix3 0 r e))) (fun d => v12 (ix2 0 d)))
          (fun d => v26 (ix4 0 0 (sq r) d)) (fun d => v28 (ix4 0 0 (sq r) d))) (fun k j => v41 (ix2 k j)) j := by
  have hr : ∀ j : Fin 1024, (ix2 ⟨r.val / 8 * 8 + r.val % 8, by omega⟩ j : S512x1024.Idx) = ix2 r j := fun j => by
    congr 1
    exact Fin.ext (Nat.div_add_mod' _ _)
  rw [hpay1]
  refine congrArg (fun h => proj h _ j) (funext fun d => ?_)
  rw [hpay4, hpay5, hpay3]
  unfold modulate
  refine congrArg (· * _ + _) (congrArg (fun v => norm v _ d) (funext fun j => ?_))
  exact (congrArg (k0_pay2 v0 v2 v7) (hr j)).trans (hpay2 v0 v2 v7 r j)

variable (m : (ℓ : Loc nD τ sig) → Buf (Elt Ideal) ℓ)

/-- The blocks of the windows at point `t`. -/
theorem idx : ∀ t : Fin cfg0.N, win0_0.index t = ![t.val, 0] ∧ win0_1.index t = ![t.val, 0, 0] ∧ win0_2.index t = ![if t.val < 16 then 0 else 1, 0, 0] ∧ win0_3.index t = ![if t.val < 16 then 0 else 1, 0, 0, 0] ∧ win0_4.index t = ![0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![t.val, 0, 0] ∧ win0_2.index t = ![if t.val < 16 then 0 else 1, 0, 0] ∧ win0_3.index t = ![if t.val < 16 then 0 else 1, 0, 0, 0] ∧ win0_4.index t = ![0, 0] ∧ win0_5.index t = ![0, 0] ∧ win0_6.index t = ![t.val, 0] ∧ win0_7.index t = ![t.val, 0])

/-- The token of row `r` of tile `t`. -/
def tok (t : Fin cfg0.N) (r : Fin 512) : Fin 40960 := ⟨t.val * 512 + r.val, by
  have h := t.isLt
  have hN : cfg0.N = 80 := N_0
  omega⟩

/-- Where window 6's block of tile `t` lies in its array. -/
theorem emb_eq (t : Fin cfg0.N) (y : S512x1536.Idx) : (win0_6.rect t).emb y = ix2 (tok t (y 0)) (y 1) := by
  refine funext fun a => Fin.ext ?_
  match a with
  | ⟨0, _⟩ =>
    show (((win0_6.rect t).emb y) 0).val = t.val * 512 + (y 0).val
    blk_simp [idx t]
  | ⟨1, _⟩ =>
    show (((win0_6.rect t).emb y) 1).val = (y 1).val
    blk_simp [idx t]
    exact Nat.zero_add _

/-- Where window 7's block of tile `t` lies in its array. -/
theorem emb_eq7 (t : Fin cfg0.N) (y : S512x1024.Idx) : (win0_7.rect t).emb y = ix2 (tok t (y 0)) (y 1) := by
  refine funext fun a => Fin.ext ?_
  match a with
  | ⟨0, _⟩ =>
    show (((win0_7.rect t).emb y) 0).val = t.val * 512 + (y 0).val
    blk_simp [idx t]
  | ⟨1, _⟩ =>
    show (((win0_7.rect t).emb y) 1).val = (y 1).val
    blk_simp [idx t]
    exact Nat.zero_add _

/-- The stream's rows. -/
theorem r0 (c : Dev nD) (t : Fin cfg0.N) (r : Fin 512) (d : Fin 1024) :
    iblk m c 0 t (ix2 r d) = m ((c : Thread nD τ).loc main_arg0) (ix2 (tok t r) d) := by
  blk_point [iblk, idx t]
  rfl

/-- The norm's gain. -/
theorem r4 (c : Dev nD) (t : Fin cfg0.N) (d : Fin 1024) :
    iblk m c 4 t (ix2 0 d) = m ((c : Thread nD τ).loc main_arg2) (ix1 d) := by
  blk_point [iblk, idx t]

/-- The projection's weight. -/
theorem r5 (c : Dev nD) (t : Fin cfg0.N) (k : Fin 1024) (d : Fin 1536) :
    iblk m c 5 t (ix2 k d) = m ((c : Thread nD τ).loc main_arg3) (ix2 k d) := by
  blk_point [iblk, idx t]

/-- The table of the tiles' rows of the grid: the prompt's tiles have none. -/
def ROWS (e : FVec Ideal S64x512 .f32) : FVec Ideal S80x1x512 .f32 :=
  broadcastInDim S80x1x512 ![0, 2] bcast_S80x512_S80x1x512_0_2 (concatenate S80x512 0 [⟨S16x512, broadcastInDim S16x512 ![] bcast_S_S16x512 (constant S_ .f32 0x00000000#32)⟩, ⟨S64x512, e⟩] concatenates_S16x512_S64x512_S80x512_d0)

/-- The tables of a tile's columns of the grid: none for the prompt, then one that repeats each column for the eight sequences. -/
def COLS (e : FVec Ideal S64x512 .f32) : FVec Ideal S2x512x512 .f32 :=
  concatenate S2x512x512 0 [⟨S1x512x512, broadcastInDim S1x512x512 ![1, 2] bcast_S512x512_S1x512x512_1_2 (broadcastInDim S512x512 ![] bcast_S_S512x512 (constant S_ .f32 0x00000000#32))⟩, ⟨S1x512x512, broadcastInDim S1x512x512 ![1, 2] bcast_S512x512_S1x512x512_1_2 (shapeCast _ (broadcastInDim S64x8x512 ![0, 2] bcast_S64x512_S64x8x512_0_2 e) shapeCasts_S64x8x512_S512x512)⟩] concatenates_S1x512x512_S1x512x512_S2x512x512_d0

/-- The region finds the table of rows. -/
theorem V_rows (c : Dev nD) : V m c main_v28 = ROWS Cert.InProjPosRefIdeal.Fin.SC := by
  show StableHlo.after hostOps0 _ _ = _
  simp only [hostOps0, List.flatten_cons, List.flatten_nil, List.append_nil, List.cons_append, List.nil_append]
  after_results_simp <;> rfl

/-- The region finds the tables of columns. -/
theorem V_cols (c : Dev nD) : V m c main_v34 = COLS Cert.InProjPosRefIdeal.Fin.SC := by
  show StableHlo.after hostOps0 _ _ = _
  simp only [hostOps0, List.flatten_cons, List.flatten_nil, List.append_nil, List.cons_append, List.nil_append]
  after_results_simp <;> rfl

/-- An entry of the table of rows. -/
theorem rows_apply (e : FVec Ideal S64x512 .f32) (t : Fin 80) (k : Fin 512) :
    ROWS e (ix3 t 0 k) = if h : t.val < 16 then 0 else e (ix2 ⟨t.val - 16, by omega⟩ k) := by
  suffices key : ∀ y, ROWS e y = if h : (y 0).val < 16 then 0 else e (ix2 ⟨(y 0).val - 16, by
      have : (y 0).val < 80 := (y 0).isLt; omega⟩ (y 2)) from key _
  intro y
  pointwise [ROWS]

/-- An entry of the tables of columns. -/
theorem cols_apply (e : FVec Ideal S64x512 .f32) (s : Fin 2) (r : Fin 512) (k : Fin 512) :
    COLS e (ix3 s r k) = if s.val < 1 then 0 else e (ix2 ⟨r.val / 8, by omega⟩ k) := by
  suffices key : ∀ y, COLS e y = if (y 0).val < 1 then 0 else e (ix2 ⟨(y 1).val / 8, by
      have : (y 1).val < 512 := (y 1).isLt; omega⟩ (y 2)) from key _
  intro y
  pointwise [COLS]
  rw [dite_eq_ite]

/-- The tile's row of the grid. -/
theorem r1 (c : Dev nD) (t : Fin cfg0.N) (k : Fin 512) (h : t.val < 80) :
    iblk m c 1 t (ix3 0 0 k) = ROWS Cert.InProjPosRefIdeal.Fin.SC (ix3 ⟨t.val, h⟩ 0 k) := by
  refine Eq.trans (b := V m c main_v28 (ix3 ⟨t.val, h⟩ 0 k)) ?_ (congrFun (V_rows m c) _)
  refine congrArg (V m c main_v28) (funext fun a => Fin.ext ?_)
  match a with
  | ⟨0, _⟩ =>
    show (((win0_1.rect t).emb (ix3 0 0 k)) 0).val = t.val
    blk_simp [idx t]
    show t.val * 1 + 0 = t.val
    omega
  | ⟨1, _⟩ =>
    show (((win0_1.rect t).emb (ix3 0 0 k)) 1).val = 0
    blk_simp [idx t]
    show 0 * 1 + 0 = 0
    omega
  | ⟨2, _⟩ =>
    show (((win0_1.rect t).emb (ix3 0 0 k)) 2).val = k.val
    blk_simp [idx t]
    show 0 * 512 + k.val = k.val
    omega

/-- The tile's columns of the grid. -/
theorem r2 (c : Dev nD) (t : Fin cfg0.N) (r : Fin 512) (k : Fin 512) :
    iblk m c 2 t (ix3 0 r k) = COLS Cert.InProjPosRefIdeal.Fin.SC (ix3 (if t.val < 16 then 0 else 1) r k) := by
  refine Eq.trans (b := V m c main_v34 (ix3 (if t.val < 16 then 0 else 1) r k)) ?_ (congrFun (V_cols m c) _)
  have hi := idx t
  refine congrArg (V m c main_v34) (funext fun a => Fin.ext ?_)
  by_cases hg : t.val < 16
  · rw [if_pos hg] at hi ⊢
    match a with
    | ⟨0, _⟩ =>
      show (((win0_2.rect t).emb (ix3 0 r k)) 0).val = 0
      blk_simp [hi]
      show 0 * 1 + 0 = 0
      omega
    | ⟨1, _⟩ =>
      show (((win0_2.rect t).emb (ix3 0 r k)) 1).val = r.val
      blk_simp [hi]
      show 0 * 512 + r.val = r.val
      omega
    | ⟨2, _⟩ =>
      show (((win0_2.rect t).emb (ix3 0 r k)) 2).val = k.val
      blk_simp [hi]
      show 0 * 512 + k.val = k.val
      omega
  · rw [if_neg hg] at hi ⊢
    match a with
    | ⟨0, _⟩ =>
      show (((win0_2.rect t).emb (ix3 0 r k)) 0).val = 1
      blk_simp [hi]
      show 1 * 1 + 0 = 1
      omega
    | ⟨1, _⟩ =>
      show (((win0_2.rect t).emb (ix3 0 r k)) 1).val = r.val
      blk_simp [hi]
      show 0 * 512 + r.val = r.val
      omega
    | ⟨2, _⟩ =>
      show (((win0_2.rect t).emb (ix3 0 r k)) 2).val = k.val
      blk_simp [hi]
      show 0 * 512 + k.val = k.val
      omega

/-- A tile's stream with positions is the reference's. -/
theorem emb_row (c : Dev nD) (t : Fin cfg0.N) (r : Fin 512) (d : Fin 1024) :
    emb (fun d => iblk m c 0 t (ix2 r d)) (fun e => iblk m c 1 t (ix3 0 0 e)) (fun e => iblk m c 2 t (ix3 0 r e)) d
      = Cert.InProjPosRefIdeal.Fin.X0 (m ((c : Thread nD τ).loc main_arg0)) (Cert.InProjPosRefIdeal.Fin.PE Cert.InProjPosRefIdeal.Fin.SC) (ix2 (tok t r) d) := by
  have ht : t.val < 80 := lt_of_lt_of_eq t.isLt N_0
  have hv : (tok t r).val = t.val * 512 + r.val := rfl
  refine Eq.trans ?_ (Cert.InProjPosRefIdeal.Fin.x0_apply _ _ (tok t r) d).symm
  unfold emb
  simp only [r0, r1 m c t _ ht, r2, rows_apply, cols_apply]
  by_cases hg : t.val < 16
  · rw [dif_pos (show (tok t r).val < 8192 by omega)]
    simp only [hg, dif_pos, if_pos, Fin.val_zero, Nat.zero_lt_one, dite_eq_ite, ite_self, add_zero]
  · rw [dif_neg (show ¬ (tok t r).val < 8192 by omega), Cert.InProjPosRefIdeal.Fin.pe_apply]
    refine congrArg (fun z : EReal => (show EReal from m ((c : Thread nD τ).loc main_arg0) (ix2 (tok t r) d)) + z) ?_
    unfold Cert.InProjPosRefIdeal.Fin.pe
    by_cases hd : d.val < 512
    · rw [dif_pos hd, dif_pos hd, dif_neg hg]
      congr 2
      exact Fin.ext (show t.val - 16 = (t.val * 512 + r.val - 8192) / 8 / 64 by omega)
    · rw [dif_neg hd, dif_neg hd, if_neg hg, if_neg (by decide)]
      congr 2
      exact Fin.ext (show r.val / 8 = (t.val * 512 + r.val - 8192) / 8 % 64 by omega)

/-- Modulation row 0 as a tile loads it. -/
theorem mod0 (c : Dev nD) (t : Fin cfg0.N) (r : Fin 512) (d : Fin 1024) :
    View.ld (iblk m c 3 t) (Rect.unit ![0, 0, 0, 0] ![1, 1, 8, 1024] inb_S1x6x8x1024_S1x1x8x1024_0_0_0_0) (ix4 0 0 (sq r) d)
      = modRow (m ((c : Thread nD τ).loc main_arg1)) 0 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 1 as a tile loads it. -/
theorem mod1 (c : Dev nD) (t : Fin cfg0.N) (r : Fin 512) (d : Fin 1024) :
    View.ld (iblk m c 3 t) (Rect.unit ![0, 1, 0, 0] ![1, 1, 8, 1024] inb_S1x6x8x1024_S1x1x8x1024_0_1_0_0) (ix4 0 0 (sq r) d)
      = modRow (m ((c : Thread nD τ).loc main_arg1)) 1 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- The projection of a tile's row is that of its token. -/
theorem row (c : Dev nD) (t : Fin cfg0.N) (r : Fin 512) (q : Fin 1536) :
    proj (modulate (norm (emb (fun d => iblk m c 0 t (ix2 r d)) (fun e => iblk m c 1 t (ix3 0 0 e)) (fun e => iblk m c 2 t (ix3 0 r e)))
        (fun d => iblk m c 4 t (ix2 0 d)))
      (fun d => View.ld (iblk m c 3 t) (Rect.unit ![0, 1, 0, 0] ![1, 1, 8, 1024] inb_S1x6x8x1024_S1x1x8x1024_0_1_0_0) (ix4 0 0 (sq r) d))
      (fun d => View.ld (iblk m c 3 t) (Rect.unit ![0, 0, 0, 0] ![1, 1, 8, 1024] inb_S1x6x8x1024_S1x1x8x1024_0_0_0_0) (ix4 0 0 (sq r) d)))
      (fun k j => iblk m c 5 t (ix2 k j)) q
    = proj (modulate (norm (fun d => Cert.InProjPosRefIdeal.Fin.X0 (m ((c : Thread nD τ).loc main_arg0)) (Cert.InProjPosRefIdeal.Fin.PE Cert.InProjPosRefIdeal.Fin.SC) (ix2 (tok t r) d))
        (fun d => m ((c : Thread nD τ).loc main_arg2) (ix1 d)))
      (modRow (m ((c : Thread nD τ).loc main_arg1)) 1 (tok t r)) (modRow (m ((c : Thread nD τ).loc main_arg1)) 0 (tok t r)))
      (fun k j => m ((c : Thread nD τ).loc main_arg3) (ix2 k j)) q := by
  rw [show emb (fun d => iblk m c 0 t (ix2 r d)) (fun e => iblk m c 1 t (ix3 0 0 e)) (fun e => iblk m c 2 t (ix3 0 r e)) = _ from
    funext fun d => emb_row m c t r d]
  simp only [r4, r5, mod0, mod1]

/-- One element of the projection's tile after its point. -/
theorem point6 (c : Dev nD) (t : Fin cfg0.N) (y : S512x1536.Idx) : (dats m 0 c).after 6 t y
    = Cert.InProjPosRefIdeal.Fin.REF (Cert.InProjPosRefIdeal.Fin.X0 (m ((c : Thread nD τ).loc main_arg0)) (Cert.InProjPosRefIdeal.Fin.PE Cert.InProjPosRefIdeal.Fin.SC)) (m ((c : Thread nD τ).loc main_arg1))
      (m ((c : Thread nD τ).loc main_arg2)) (m ((c : Thread nD τ).loc main_arg3)) (ix2 (tok t (y 0)) (y 1)) := by
  refine Eq.trans ?_ (Cert.InProjPosRefIdeal.Fin.href _ _ _ _ (tok t (y 0)) (y 1)).symm
  rw [after0_6]
  frame_out
  refine (congrArg (k0_pay1 _ _ _ _) (show y = ix2 (y 0) (y 1) from funext fun a => by match a with | ⟨0, _⟩ => rfl | ⟨1, _⟩ => rfl)).trans ?_
  refine (tile_at (iblk m c 0 t) (iblk m c 1 t) (iblk m c 2 t) (iblk m c 4 t)
    (View.ld (iblk m c 3 t) (Rect.unit ![0, 1, 0, 0] ![1, 1, 8, 1024] inb_S1x6x8x1024_S1x1x8x1024_0_1_0_0))
    (View.ld (iblk m c 3 t) (Rect.unit ![0, 0, 0, 0] ![1, 1, 8, 1024] inb_S1x6x8x1024_S1x1x8x1024_0_0_0_0)) (iblk m c 5 t) (y 0) (y 1)).trans ?_
  exact row m c t (y 0) (y 1)

/-- One element of the stream's tile after its point. -/
theorem point7 (c : Dev nD) (t : Fin cfg0.N) (y : S512x1024.Idx) : (dats m 0 c).after 7 t y
    = Cert.InProjPosRefIdeal.Fin.X0 (m ((c : Thread nD τ).loc main_arg0)) (Cert.InProjPosRefIdeal.Fin.PE Cert.InProjPosRefIdeal.Fin.SC) (ix2 (tok t (y 0)) (y 1)) := by
  rw [after0_7]
  frame_out
  refine (congrArg (k0_pay2 _ _ _) (show y = ix2 (y 0) (y 1) from funext fun a => by match a with | ⟨0, _⟩ => rfl | ⟨1, _⟩ => rfl)).trans ?_
  exact (hpay2 _ _ _ (y 0) (y 1)).trans (emb_row m c t (y 0) (y 1))

/-- The kernel's projection is the reference's. -/
theorem final (c : Dev nD) : (dats m 0 c).arrAt 6 cfg0.N
    = Cert.InProjPosRefIdeal.Fin.REF (Cert.InProjPosRefIdeal.Fin.X0 (m ((c : Thread nD τ).loc main_arg0)) (Cert.InProjPosRefIdeal.Fin.PE Cert.InProjPosRefIdeal.Fin.SC)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  blk_simp
  exact (point6 m c t y).trans (congrArg _ (emb_eq t y).symm)

/-- The kernel's stream is the reference's. -/
theorem final7 (c : Dev nD) : (dats m 0 c).arrAt 7 cfg0.N
    = Cert.InProjPosRefIdeal.Fin.X0 (m ((c : Thread nD τ).loc main_arg0)) (Cert.InProjPosRefIdeal.Fin.PE Cert.InProjPosRefIdeal.Fin.SC) := by
  refine (dats m 0 c).arrAt_eq_of_covers 7 _ (by decide +kernel) fun t hf y => ?_
  blk_simp
  exact (point7 m c t y).trans (congrArg _ (emb_eq7 t y).symm)

end Cert.InProjPosIdeal.Fin

end
-- ==== Proof.RouteRef.lean ====
module

public import proofs.«01_k».proof.Proof.Gen.RouteRefIdeal.Run
public import proofs.«01_k».proof.Proof.Rows

/-! The output projection and the norm after it in the reference, row by row. -/

set_option maxRecDepth 1000000

@[expose] public section

noncomputable section

namespace Cert.RouteRefIdeal.Fin

open Cert.RouteRefIdeal Cert.RouteRefIdeal.Gen Cert.Rows Idealize.ShloMosaic Idealize.ShloMosaic.TcCoe Idealize.SL.Sem

/-- Modulation row 2 of every token, as the reference lays it out. -/
def PER2 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 2, 0, 0] mod slices_S2x6x8x1024_S1x1x8x1024_0_2_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 2, 0, 0] mod slices_S2x6x8x1024_S1x1x8x1024_1_2_0_0) shapeCasts_S1x1x8x1024_S8x1024)) shapeCasts_S4096x8x1024_S32768x1024)⟩] concatenates_S8192x1024_S32768x1024_S40960x1024_d0

/-- That row is the one the token's kind and sequence select. -/
theorem per2_apply (mod : FVec Ideal S2x6x8x1024 .f32) (n : Fin 40960) (d : Fin 1024) :
    PER2 mod (ix2 n d) = modRow mod 2 n d := by
  suffices key : ∀ y, PER2 mod y = modRow mod 2 (y 0) (y 1) from key _
  intro y
  have hn := (y 0).isLt
  pointwise [PER2]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 3 of every token, as the reference lays it out. -/
def PER3 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 3, 0, 0] mod slices_S2x6x8x1024_S1x1x8x1024_0_3_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 3, 0, 0] mod slices_S2x6x8x1024_S1x1x8x1024_1_3_0_0) shapeCasts_S1x1x8x1024_S8x1024)) shapeCasts_S4096x8x1024_S32768x1024)⟩] concatenates_S8192x1024_S32768x1024_S40960x1024_d0

/-- That row is the one the token's kind and sequence select. -/
theorem per3_apply (mod : FVec Ideal S2x6x8x1024 .f32) (n : Fin 40960) (d : Fin 1024) :
    PER3 mod (ix2 n d) = modRow mod 3 n d := by
  suffices key : ∀ y, PER3 mod y = modRow mod 3 (y 0) (y 1) from key _
  intro y
  have hn := (y 0).isLt
  pointwise [PER3]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 4 of every token, as the reference lays it out. -/
def PER4 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 4, 0, 0] mod slices_S2x6x8x1024_S1x1x8x1024_0_4_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 4, 0, 0] mod slices_S2x6x8x1024_S1x1x8x1024_1_4_0_0) shapeCasts_S1x1x8x1024_S8x1024)) shapeCasts_S4096x8x1024_S32768x1024)⟩] concatenates_S8192x1024_S32768x1024_S40960x1024_d0

/-- That row is the one the token's kind and sequence select. -/
theorem per4_apply (mod : FVec Ideal S2x6x8x1024 .f32) (n : Fin 40960) (d : Fin 1024) :
    PER4 mod (ix2 n d) = modRow mod 4 n d := by
  suffices key : ∀ y, PER4 mod y = modRow mod 4 (y 0) (y 1) from key _
  intro y
  have hn := (y 0).isLt
  pointwise [PER4]
  unfold modRow
  by_cases h8 : (y 0).val < 8192
  · rw [dif_pos h8, if_pos h8]
  · rw [dif_neg h8, if_neg h8]
    congr 2
    exact Fin.ext (show ((y 0).val - 8192) % 8 = (y 0).val % 8 by omega)

/-- The reference's RMS norm of a stream `v` with gain `g`. -/
def RMS (v : FVec Ideal S40960x1024 .f32) (g : FVec Ideal S1024 .f32) : FVec Ideal S40960x1024 .f32 :=
  mulf (mulf v (broadcastInDim S40960x1024 ![0, 1] bcast_S40960x1_S40960x1024_0_1 (Host.rsqrt (addf (Host.divf (broadcastInDim S40960x1 ![0] bcast_S40960_S40960x1_0 (Host.reduceAdd (mulf v v) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim S40960x1024 ![0, 1] bcast_S1x1024_S40960x1024_0_1 (broadcastInDim S1x1024 ![1] bcast_S1024_S1x1024_1 g))

/-- The norm of the stream is, row by row, the norm of that row. -/
theorem rms_apply (v : FVec Ideal S40960x1024 .f32) (g : FVec Ideal S1024 .f32) (n : Fin 40960) (d : Fin 1024) :
    RMS v g (ix2 n d) = norm (fun j => v (ix2 n j)) (fun j => g (ix1 j)) d := by
  pointwise [RMS]
  rfl

/-- The stream after the gated output projection. -/
def XM (x : FVec Ideal S40960x1024 .f32) (h : FVec Ideal S40960x1024 .bf16) (mod : FVec Ideal S2x6x8x1024 .f32)
    (ow : FVec Ideal S1024x1024 .f32) : FVec Ideal S40960x1024 .f32 :=
  addf x (mulf (PER2 mod) (Host.dotGeneral dot_S40960x1024_S1024x1024_S40960x1024_1_0_0_1_n_n none (extf .f32 h bitsLt_bf16_f32) ow))

/-- A row of it is the mixed block's row. -/
theorem xm_apply (x : FVec Ideal S40960x1024 .f32) (h : FVec Ideal S40960x1024 .bf16) (mod : FVec Ideal S2x6x8x1024 .f32)
    (ow : FVec Ideal S1024x1024 .f32) (n : Fin 40960) (d : Fin 1024) :
    XM x h mod ow (ix2 n d) = mixed (fun d => x (ix2 n d)) (fun d => h (ix2 n d)) (modRow mod 2 n) (fun k j => ow (ix2 k j)) d := by
  pointwise [XM]
  rw [per2_apply]
  rfl

/-- The modulated norm of the mixed stream. -/
def H2 (x : FVec Ideal S40960x1024 .f32) (h : FVec Ideal S40960x1024 .bf16) (mod : FVec Ideal S2x6x8x1024 .f32)
    (ow : FVec Ideal S1024x1024 .f32) (g : FVec Ideal S1024 .f32) : FVec Ideal S40960x1024 .f32 :=
  addf (mulf (RMS (XM x h mod ow) g) (addf (broadcastInDim S40960x1024 ![] bcast_S_S40960x1024 (constant S_ .f32 0x3F800000#32)) (PER4 mod))) (PER3 mod)

/-- A row of it is what the router and the experts read. -/
theorem h2_apply (x : FVec Ideal S40960x1024 .f32) (h : FVec Ideal S40960x1024 .bf16) (mod : FVec Ideal S2x6x8x1024 .f32)
    (ow : FVec Ideal S1024x1024 .f32) (g : FVec Ideal S1024 .f32) (n : Fin 40960) (d : Fin 1024) :
    H2 x h mod ow g (ix2 n d) = normed (fun d => x (ix2 n d)) (fun d => h (ix2 n d)) (modRow mod 2 n) (modRow mod 3 n)
      (modRow mod 4 n) (fun d => g (ix1 d)) (fun k j => ow (ix2 k j)) d := by
  pointwise [H2]
  rw [per3_apply, per4_apply, rms_apply]
  simp only [xm_apply]
  rfl

/-- The second result: the modulated norm, cast. -/
def REF (x : FVec Ideal S40960x1024 .f32) (h : FVec Ideal S40960x1024 .bf16) (mod : FVec Ideal S2x6x8x1024 .f32)
    (ow : FVec Ideal S1024x1024 .f32) (g : FVec Ideal S1024 .f32) : FVec Ideal S40960x1024 .bf16 :=
  truncf .bf16 (H2 x h mod ow g) bitsLt_bf16_f32

/-- Its rows: over the extended reals the cast changes nothing. -/
theorem href (x : FVec Ideal S40960x1024 .f32) (h : FVec Ideal S40960x1024 .bf16) (mod : FVec Ideal S2x6x8x1024 .f32)
    (ow : FVec Ideal S1024x1024 .f32) (g : FVec Ideal S1024 .f32) (n : Fin 40960) (d : Fin 1024) :
    REF x h mod ow g (ix2 n d) = normed (fun d => x (ix2 n d)) (fun d => h (ix2 n d)) (modRow mod 2 n) (modRow mod 3 n)
      (modRow mod 4 n) (fun d => g (ix1 d)) (fun k j => ow (ix2 k j)) d :=
  h2_apply x h mod ow g n d

/-- The reference's run leaves exactly that. -/
theorem run_eq (m : (ℓ : Loc nD τ sig) → Buf (Elt Ideal) ℓ) (c : Dev nD) : Value.res_main_v48 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The reference runs to the mixed stream and its modulated norm, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = XM (m ((c.tc : Thread nD τ).loc main_arg0)) (m ((c.tc : Thread nD τ).loc main_arg1)) (m ((c.tc : Thread nD τ).loc main_arg2))
      (m ((c.tc : Thread nD τ).loc main_arg3))
      ∧ r.2.mem ((c.tc : Thread nD τ).loc main_v48) = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2.1.trans (run_eq m c), (h c).2.2⟩) (Value.run m ρ)

end Cert.RouteRefIdeal.Fin

end
-- ==== Proof.RouteValue.lean ====
module

public import proofs.«01_k».proof.Proof.Gen.RouteIdeal.Value
public import proofs.«01_k».proof.Proof.RouteRef
public import Idealize.ShloMosaic.Lib.Pipeline.ValueKit
public import Idealize.ShloMosaic.Lib.Pipeline.ReadBack

/-! The output projection of a routed layer: every tile of 512 rows holds the mixed stream and its modulated norm. -/

set_option maxRecDepth 16384

@[expose] public section

noncomputable section

namespace Cert.RouteIdeal.Fin

open Cert.RouteIdeal Cert.RouteIdeal.Gen Cert.Rows Idealize.ShloMosaic Idealize.ShloMosaic.TcCoe Idealize.SL.Sem

/-- A row's place among the eight sequences. -/
def sq (r : Fin 512) : Fin 8 := ⟨r.val % 8, Nat.mod_lt _ (by decide)⟩

/-- The mixed stream of a tile. -/
theorem hpay2 (v0 : Vec Ideal S512x1024 .f32) (v1 : Vec Ideal S1x1x8x1024 .f32) (v3 : Vec Ideal S512x1024 .bf16)
    (v4 : Vec Ideal S1024x1024 .bf16) (r : Fin 512) (d : Fin 1024) : k0_pay2 v0 v1 v3 v4 (ix2 r d)
      = mixed (fun d => v0 (ix2 r d)) (fun d => v3 (ix2 r d)) (fun d => v1 (ix4 0 0 (sq r) d)) (fun k j => v4 (ix2 k j)) d := by
  pointwise [k0_pay2]
  exact congrArg (v0 (ix2 r d) + ·) (mul_comm _ _)

/-- Its norm, laid out sequence by sequence. -/
theorem hpay4 (v0 : Vec Ideal S512x1024 .f32) (v1 : Vec Ideal S1x1x8x1024 .f32) (v3 : Vec Ideal S512x1024 .bf16)
    (v4 : Vec Ideal S1024x1024 .bf16) (v13 : Vec Ideal S1x1024 .f32) (y : S64x8x1024.Idx) : k0_pay4 v0 v1 v3 v4 v13 y
      = norm (fun j => k0_pay2 v0 v1 v3 v4 (ix2 ⟨(y 0).val * 8 + (y 1).val, by
          have : (y 0).val < 64 := (y 0).isLt; have : (y 1).val < 8 := (y 1).isLt; omega⟩ j)) (fun j => v13 (ix2 0 j)) (y 2) := by
  pointwise [k0_pay4]
  rfl

/-- The shift row. -/
theorem hpay3 (v : Vec Ideal S1x1x8x1024 .f32) (y : S8x1024.Idx) : k0_pay3 v y = v (ix4 0 0 (y 0) (y 1)) := by
  pointwise [k0_pay3]

/-- The scale row, plus one. -/
theorem hpay5 (v : Vec Ideal S1x1x8x1024 .f32) (y : S8x1024.Idx) : k0_pay5 v y = 1 + v (ix4 0 0 (y 0) (y 1)) := by
  pointwise [k0_pay5]

/-- The modulation of a tile's norm. -/
theorem hpay6 (v30 : FVec Ideal S8x1024 .f32) (v31 : FVec Ideal S64x8x1024 .f32) (v33 : FVec Ideal S8x1024 .f32) (r : Fin 512) (d : Fin 1024) :
    k0_pay6 v30 v31 v33 (ix2 r d) = v31 (ix3 ⟨r.val / 8, by omega⟩ (sq r) d) * v33 (ix2 (sq r) d) + v30 (ix2 (sq r) d) := by
  pointwise [k0_pay6]
  rfl

/-- A tile's row of the modulated norm, from the tile's arrays. -/
theorem tile_at (v0 : Vec Ideal S512x1024 .f32) (v1 v3' v4' : Vec Ideal S1x1x8x1024 .f32) (v3 : Vec Ideal S512x1024 .bf16)
    (v4 : Vec Ideal S1024x1024 .bf16) (v13 : Vec Ideal S1x1024 .f32) (r : Fin 512) (d : Fin 1024) :
    k0_pay7 (k0_pay3 v3') (k0_pay4 v0 v1 v3 v4 v13) (k0_pay5 v4') (ix2 r d)
      = normed (fun d => v0 (ix2 r d)) (fun d => v3 (ix2 r d)) (fun d => v1 (ix4 0 0 (sq r) d)) (fun d => v3' (ix4 0 0 (sq r) d))
        (fun d => v4' (ix4 0 0 (sq r) d)) (fun d => v13 (ix2 0 d)) (fun k j => v4 (ix2 k j)) d := by
  have hr : ∀ j : Fin 1024, (ix2 ⟨r.val / 8 * 8 + r.val % 8, by omega⟩ j : S512x1024.Idx) = ix2 r j := fun j => by
    congr 1
    exact Fin.ext (Nat.div_add_mod' _ _)
  refine (hpay6 _ _ _ r d).trans ?_
  rw [hpay4, hpay5, hpay3]
  unfold normed modulate
  refine congrArg (· * _ + _) (congrArg (fun v => norm v _ d) (funext fun j => ?_))
  exact (congrArg (k0_pay2 v0 v1 v3 v4) (hr j)).trans (hpay2 v0 v1 v3 v4 r j)

variable (m : (ℓ : Loc nD τ sig) → Buf (Elt Ideal) ℓ)

/-- The blocks of the windows at point `t`. -/
theorem idx : ∀ t : Fin cfg0.N, win0_0.index t = ![t.val, 0] ∧ win0_1.index t = ![t.val, 0] ∧ win0_2.index t = ![if t.val < 16 then 0 else 1, 0, 0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![if t.val < 16 then 0 else 1, 0, 0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0])

/-- The token of row `r` of tile `t`. -/
def tok (t : Fin cfg0.N) (r : Fin 512) : Fin 40960 := ⟨t.val * 512 + r.val, by
  have h := t.isLt
  have hN : cfg0.N = 80 := N_0
  omega⟩

/-- Where window 7's block of tile `t` lies in its array. -/
theorem emb_eq7 (t : Fin cfg0.N) (y : S512x1024.Idx) : (win0_7.rect t).emb y = ix2 (tok t (y 0)) (y 1) := by
  refine funext fun a => Fin.ext ?_
  match a with
  | ⟨0, _⟩ =>
    show (((win0_7.rect t).emb y) 0).val = t.val * 512 + (y 0).val
    blk_simp [idx t]
  | ⟨1, _⟩ =>
    show (((win0_7.rect t).emb y) 1).val = (y 1).val
    blk_simp [idx t]
    exact Nat.zero_add _

/-- Where window 8's block of tile `t` lies in its array. -/
theorem emb_eq8 (t : Fin cfg0.N) (y : S512x1024.Idx) : (win0_8.rect t).emb y = ix2 (tok t (y 0)) (y 1) := by
  refine funext fun a => Fin.ext ?_
  match a with
  | ⟨0, _⟩ =>
    show (((win0_8.rect t).emb y) 0).val = t.val * 512 + (y 0).val
    blk_simp [idx t]
  | ⟨1, _⟩ =>
    show (((win0_8.rect t).emb y) 1).val = (y 1).val
    blk_simp [idx t]
    exact Nat.zero_add _

/-- The stream's rows. -/
theorem r0 (c : Dev nD) (t : Fin cfg0.N) (r : Fin 512) (d : Fin 1024) :
    iblk m c 0 t (ix2 r d) = m ((c : Thread nD τ).loc main_arg0) (ix2 (tok t r) d) := by
  blk_point [iblk, idx t]
  rfl

/-- The mixed block's rows. -/
theorem r1 (c : Dev nD) (t : Fin cfg0.N) (r : Fin 512) (d : Fin 1024) :
    iblk m c 1 t (ix2 r d) = m ((c : Thread nD τ).loc main_arg1) (ix2 (tok t r) d) := by
  blk_point [iblk, idx t]
  rfl

/-- The output projection. -/
theorem r3 (c : Dev nD) (t : Fin cfg0.N) (k : Fin 1024) (d : Fin 1024) :
    iblk m c 3 t (ix2 k d) = m ((c : Thread nD τ).loc main_arg3) (ix2 k d) := by
  blk_point [iblk, idx t]

/-- The norm's gain. -/
theorem r4 (c : Dev nD) (t : Fin cfg0.N) (d : Fin 1024) :
    iblk m c 4 t (ix2 0 d) = m ((c : Thread nD τ).loc main_arg4) (ix1 d) := by
  blk_point [iblk, idx t]

/-- Modulation row 2 as a tile loads it. -/
theorem mod2 (c : Dev nD) (t : Fin cfg0.N) (r : Fin 512) (d : Fin 1024) :
    View.ld (iblk m c 2 t) (Rect.unit ![0, 2, 0, 0] ![1, 1, 8, 1024] inb_S1x6x8x1024_S1x1x8x1024_0_2_0_0) (ix4 0 0 (sq r) d)
      = modRow (m ((c : Thread nD τ).loc main_arg2)) 2 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 3 as a tile loads it. -/
theorem mod3 (c : Dev nD) (t : Fin cfg0.N) (r : Fin 512) (d : Fin 1024) :
    View.ld (iblk m c 2 t) (Rect.unit ![0, 3, 0, 0] ![1, 1, 8, 1024] inb_S1x6x8x1024_S1x1x8x1024_0_3_0_0) (ix4 0 0 (sq r) d)
      = modRow (m ((c : Thread nD τ).loc main_arg2)) 3 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 4 as a tile loads it. -/
theorem mod4 (c : Dev nD) (t : Fin cfg0.N) (r : Fin 512) (d : Fin 1024) :
    View.ld (iblk m c 2 t) (Rect.unit ![0, 4, 0, 0] ![1, 1, 8, 1024] inb_S1x6x8x1024_S1x1x8x1024_0_4_0_0) (ix4 0 0 (sq r) d)
      = modRow (m ((c : Thread nD τ).loc main_arg2)) 4 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- A tile's mixed row is its token's. -/
theorem row (c : Dev nD) (t : Fin cfg0.N) (r : Fin 512) (d : Fin 1024) :
    mixed (fun d => iblk m c 0 t (ix2 r d)) (fun d => iblk m c 1 t (ix2 r d)) (fun d => (View.ld (iblk m c 2 t) (Rect.unit ![0, 2, 0, 0] ![1, 1, 8, 1024] inb_S1x6x8x1024_S1x1x8x1024_0_2_0_0)) (ix4 0 0 (sq r) d))
      (fun k j => iblk m c 3 t (ix2 k j)) d
    = mixed (fun d => (m ((c : Thread nD τ).loc main_arg0)) (ix2 (tok t r) d)) (fun d => (m ((c : Thread nD τ).loc main_arg1)) (ix2 (tok t r) d)) (modRow (m ((c : Thread nD τ).loc main_arg2)) 2 (tok t r))
      (fun k j => (m ((c : Thread nD τ).loc main_arg3)) (ix2 k j)) d := by
  simp only [r0, r1, r3, mod2]

/-- A tile's row of the modulated norm is its token's. -/
theorem row' (c : Dev nD) (t : Fin cfg0.N) (r : Fin 512) (d : Fin 1024) :
    normed (fun d => iblk m c 0 t (ix2 r d)) (fun d => iblk m c 1 t (ix2 r d)) (fun d => (View.ld (iblk m c 2 t) (Rect.unit ![0, 2, 0, 0] ![1, 1, 8, 1024] inb_S1x6x8x1024_S1x1x8x1024_0_2_0_0)) (ix4 0 0 (sq r) d))
      (fun d => (View.ld (iblk m c 2 t) (Rect.unit ![0, 3, 0, 0] ![1, 1, 8, 1024] inb_S1x6x8x1024_S1x1x8x1024_0_3_0_0)) (ix4 0 0 (sq r) d))
      (fun d => (View.ld (iblk m c 2 t) (Rect.unit ![0, 4, 0, 0] ![1, 1, 8, 1024] inb_S1x6x8x1024_S1x1x8x1024_0_4_0_0)) (ix4 0 0 (sq r) d))
      (fun d => iblk m c 4 t (ix2 0 d)) (fun k j => iblk m c 3 t (ix2 k j)) d
    = normed (fun d => (m ((c : Thread nD τ).loc main_arg0)) (ix2 (tok t r) d)) (fun d => (m ((c : Thread nD τ).loc main_arg1)) (ix2 (tok t r) d)) (modRow (m ((c : Thread nD τ).loc main_arg2)) 2 (tok t r))
      (modRow (m ((c : Thread nD τ).loc main_arg2)) 3 (tok t r)) (modRow (m ((c : Thread nD τ).loc main_arg2)) 4 (tok t r)) (fun d => (m ((c : Thread nD τ).loc main_arg4)) (ix1 d))
      (fun k j => (m ((c : Thread nD τ).loc main_arg3)) (ix2 k j)) d := by
  simp only [r0, r1, r3, r4, mod2, mod3, mod4]

/-- One element of the mixed stream's tile after its point. -/
theorem point7 (c : Dev nD) (t : Fin cfg0.N) (y : S512x1024.Idx) : (dats m 0 c).after 7 t y
    = Cert.RouteRefIdeal.Fin.XM (m ((c : Thread nD τ).loc main_arg0)) (m ((c : Thread nD τ).loc main_arg1)) (m ((c : Thread nD τ).loc main_arg2)) (m ((c : Thread nD τ).loc main_arg3)) (ix2 (tok t (y 0)) (y 1)) := by
  refine Eq.trans ?_ (Cert.RouteRefIdeal.Fin.xm_apply _ _ _ _ (tok t (y 0)) (y 1)).symm
  rw [after0_7]
  frame_out
  refine (congrArg (k0_pay2 _ _ _ _) (show y = ix2 (y 0) (y 1) from funext fun a => by match a with | ⟨0, _⟩ => rfl | ⟨1, _⟩ => rfl)).trans ?_
  refine (hpay2 (iblk m c 0 t) (View.ld (iblk m c 2 t) (Rect.unit ![0, 2, 0, 0] ![1, 1, 8, 1024] inb_S1x6x8x1024_S1x1x8x1024_0_2_0_0)) (iblk m c 1 t) (iblk m c 3 t) (y 0) (y 1)).trans ?_
  exact row m c t (y 0) (y 1)

/-- One element of the modulated norm's tile after its point. -/
theorem point8 (c : Dev nD) (t : Fin cfg0.N) (y : S512x1024.Idx) : (dats m 0 c).after 8 t y
    = Cert.RouteRefIdeal.Fin.REF (m ((c : Thread nD τ).loc main_arg0)) (m ((c : Thread nD τ).loc main_arg1)) (m ((c : Thread nD τ).loc main_arg2)) (m ((c : Thread nD τ).loc main_arg3)) (m ((c : Thread nD τ).loc main_arg4)) (ix2 (tok t (y 0)) (y 1)) := by
  refine Eq.trans ?_ (Cert.RouteRefIdeal.Fin.href _ _ _ _ _ (tok t (y 0)) (y 1)).symm
  rw [after0_8]
  unfold out0_8 k0_pay14 k0_pay15 k0_pay16
  frame_out
  refine (congrArg (k0_pay7 _ _ _) (show y = ix2 (y 0) (y 1) from funext fun a => by match a with | ⟨0, _⟩ => rfl | ⟨1, _⟩ => rfl)).trans ?_
  refine (tile_at (iblk m c 0 t) (View.ld (iblk m c 2 t) (Rect.unit ![0, 2, 0, 0] ![1, 1, 8, 1024] inb_S1x6x8x1024_S1x1x8x1024_0_2_0_0))
    (View.ld (iblk m c 2 t) (Rect.unit ![0, 3, 0, 0] ![1, 1, 8, 1024] inb_S1x6x8x1024_S1x1x8x1024_0_3_0_0))
    (View.ld (iblk m c 2 t) (Rect.unit ![0, 4, 0, 0] ![1, 1, 8, 1024] inb_S1x6x8x1024_S1x1x8x1024_0_4_0_0)) (iblk m c 1 t) (iblk m c 3 t) (iblk m c 4 t) (y 0) (y 1)).trans ?_
  exact row' m c t (y 0) (y 1)

/-- The kernel's mixed stream is the reference's. -/
theorem final (c : Dev nD) : (dats m 0 c).arrAt 7 cfg0.N
    = Cert.RouteRefIdeal.Fin.XM (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  exact (point7 m c t y).trans (congrArg _ (emb_eq7 t y).symm)

/-- The kernel's modulated norm is the reference's. -/
theorem final8 (c : Dev nD) : (dats m 0 c).arrAt 8 cfg0.N
    = Cert.RouteRefIdeal.Fin.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  exact (point8 m c t y).trans (congrArg _ (emb_eq8 t y).symm)

end Cert.RouteIdeal.Fin

end
-- ==== Proof.AdaRef.lean ====
module

public import proofs.«01_k».proof.Proof.Gen.AdaRefIdeal.Run
public import proofs.«01_k».proof.Proof.Rows

/-! The modulation of the layers in the reference, element by element. -/

set_option maxRecDepth 16384

@[expose] public section

noncomputable section

namespace Cert.AdaRefIdeal.Fin

open Cert.AdaRefIdeal Cert.AdaRefIdeal.Gen Cert.Rows Idealize.ShloMosaic Idealize.ShloMosaic.TcCoe Idealize.SL.Sem

/-- One condition's modulation: its gated vector times a layer's weight, plus the bias. -/
def ada (v : Fin 1024 → EReal) (w : Fin 1024 → EReal) (b : EReal) : EReal := (∑ k, (v k * Ideal.logistic (v k)) * w k) + b

/-- The reference's result as its operations compose. -/
def REF (x : FVec Ideal S16x1024 .f32) (w : FVec Ideal S4x1024x6144 .f32) (b : FVec Ideal S4x6144 .f32) : FVec Ideal S4x16x6144 .f32 :=
  addf (transpose S4x16x6144 [0, 2, 1] (Host.dotGeneral dot_S4x1024x6144_S16x1024_S4x6144x16_1_1_02_0_n_n none w (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x)))))) transposes_S4x6144x16_S4x16x6144_0_2_1) (broadcastInDim S4x16x6144 ![0, 1, 2] bcast_S4x1x6144_S4x16x6144_0_1_2 (broadcastInDim S4x1x6144 ![0, 2] bcast_S4x6144_S4x1x6144_0_2 b))

/-- Its elements: layer `l`, condition `n`, column `j`. -/
theorem href (x : FVec Ideal S16x1024 .f32) (w : FVec Ideal S4x1024x6144 .f32) (b : FVec Ideal S4x6144 .f32) (l : Fin 4) (n : Fin 16)
    (j : Fin 6144) : REF x w b (ix3 l n j) = ada (fun k => x (ix2 n k)) (fun k => w (ix3 l k j)) (b (ix2 l j)) := by
  pointwise [REF]
  exact congrArg (· + _) (Finset.sum_congr rfl fun k _ => mul_comm _ _)

end Cert.AdaRefIdeal.Fin

end
-- ==== Proof.AdaValue.lean ====
module

public import proofs.«01_k».proof.Proof.Gen.AdaIdeal.Value
public import proofs.«01_k».proof.Proof.AdaRef
public import Idealize.ShloMosaic.Lib.Pipeline.ValueKit
public import Idealize.ShloMosaic.Lib.Pipeline.ReadBack

/-! The modulation of the layers: every block of 1536 columns of a layer holds its columns of the modulation. -/

set_option maxRecDepth 16384

@[expose] public section

noncomputable section

namespace Cert.AdaIdeal.Fin

open Cert.AdaIdeal Cert.AdaIdeal.Gen Cert.AdaRefIdeal.Fin Idealize.ShloMosaic Idealize.ShloMosaic.TcCoe Idealize.SL.Sem

/-- One element of a block. -/
theorem hpay1 (v0 : Vec Ideal S16x1024 .f32) (v4 : Vec Ideal S1x1024x1536 .f32) (v8 : Vec Ideal S1x1x1536 .f32) (n : Fin 16) (j : Fin 1536) :
    k0_pay1 v0 v4 v8 (ix3 0 n j) = ada (fun k => v0 (ix2 n k)) (fun k => v4 (ix3 0 k j)) (v8 (ix3 0 0 j)) := by
  pointwise [k0_pay1]
  rfl

variable (m : (ℓ : Loc nD τ sig) → Buf (Elt Ideal) ℓ)

/-- The blocks of the windows at point `t`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, win0_0.index t = ![0, 0] ∧ win0_1.index t = ![t.val / 4, 0, t.val % 4]
    ∧ win0_2.index t = ![t.val / 4, 0, t.val % 4] ∧ win0_3.index t = ![t.val / 4, 0, t.val % 4])

/-- The layer of a point. -/
def lay (t : Fin cfg0.N) : Fin 4 := ⟨t.val / 4, by
  have h := t.isLt
  have hN : cfg0.N = 16 := N_0
  omega⟩

/-- The column of a block's column. -/
def col (t : Fin cfg0.N) (j : Fin 1536) : Fin 6144 := ⟨t.val % 4 * 1536 + j.val, by omega⟩

/-- Where a block of the result lies in its array. -/
theorem emb_eq (t : Fin cfg0.N) (y : S1x16x1536.Idx) : (win0_3.rect t).emb y = ix3 (lay t) (y 1) (col t (y 2)) := by
  have h0 : (y 0).val < 1 := (y 0).isLt
  refine funext fun a => Fin.ext ?_
  match a with
  | ⟨0, _⟩ =>
    show (((win0_3.rect t).emb y) 0).val = t.val / 4
    blk_simp [idx t]
    show t.val / 4 * 1 = t.val / 4
    omega
  | ⟨1, _⟩ =>
    show (((win0_3.rect t).emb y) 1).val = (y 1).val
    blk_simp [idx t]
    exact Nat.zero_add _
  | ⟨2, _⟩ =>
    show (((win0_3.rect t).emb y) 2).val = t.val % 4 * 1536 + (y 2).val
    blk_simp [idx t]

/-- The conditions. -/
theorem r0 (c : Dev nD) (t : Fin cfg0.N) (n : Fin 16) (k : Fin 1024) :
    iblk m c 0 t (ix2 n k) = m ((c : Thread nD τ).loc main_arg0) (ix2 n k) := by
  blk_point [iblk, idx t]

/-- The weight's block. -/
theorem r1 (c : Dev nD) (t : Fin cfg0.N) (k : Fin 1024) (j : Fin 1536) :
    iblk m c 1 t (ix3 0 k j) = m ((c : Thread nD τ).loc main_arg1) (ix3 (lay t) k (col t j)) := by
  blk_point [iblk, idx t] <;> rfl

/-- The bias's block. -/
theorem r2 (c : Dev nD) (t : Fin cfg0.N) (j : Fin 1536) :
    iblk m c 2 t (ix3 0 0 j) = m ((c : Thread nD τ).loc main_arg2) (ix2 (lay t) (col t j)) := by
  blk_point [iblk, idx t] <;> rfl

/-- A block's element is the modulation of its layer and column. -/
theorem elt (c : Dev nD) (t : Fin cfg0.N) (n : Fin 16) (j : Fin 1536) :
    ada (fun k => iblk m c 0 t (ix2 n k)) (fun k => iblk m c 1 t (ix3 0 k j)) (iblk m c 2 t (ix3 0 0 j))
      = ada (fun k => m ((c : Thread nD τ).loc main_arg0) (ix2 n k)) (fun k => m ((c : Thread nD τ).loc main_arg1) (ix3 (lay t) k (col t j)))
        (m ((c : Thread nD τ).loc main_arg2) (ix2 (lay t) (col t j))) := by
  simp only [r0, r1, r2]

/-- One element of a block after its point. -/
theorem point (c : Dev nD) (t : Fin cfg0.N) (y : S1x16x1536.Idx) : (dats m 0 c).after 3 t y
    = REF (m ((c : Thread nD τ).loc main_arg0)) (m ((c : Thread nD τ).loc main_arg1)) (m ((c : Thread nD τ).loc main_arg2)) (ix3 (lay t) (y 1) (col t (y 2))) := by
  refine Eq.trans ?_ (href _ _ _ (lay t) (y 1) (col t (y 2))).symm
  rw [after0_3]
  frame_out
  refine (congrArg (k0_pay1 _ _ _) (show y = ix3 0 (y 1) (y 2) from funext fun a => by
    match a with
    | ⟨0, _⟩ => exact Fin.ext (show (y 0).val = 0 by have h0 : (y 0).val < 1 := (y 0).isLt; omega)
    | ⟨1, _⟩ => rfl
    | ⟨2, _⟩ => rfl)).trans ?_
  exact (hpay1 (iblk m c 0 t) (iblk m c 1 t) (iblk m c 2 t) (y 1) (y 2)).trans (elt m c t (y 1) (y 2))

/-- The kernel's modulation is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  exact (point m c t y).trans (congrArg _ (emb_eq t y).symm)

end Cert.AdaIdeal.Fin

end
-- ==== Proof.TopTwo.lean ====
module

public import Idealize.ShloMosaic.Lib.Pointwise
public import Idealize.ShloMosaic.Lib.SortPrefix
public import Idealize.ShloMosaic.Lib.SortNet.Extract

/-! The two greatest of a row of eight scores, the earlier place first among equal scores, and the weights they get. -/

@[expose] public section

noncomputable section

namespace Cert.TopTwo

open Idealize.ShloMosaic

/-- Place `a` comes before place `b`: its score is greater, or the scores are equal and it is the earlier place. -/
def before (f : Fin 8 → EReal) (a b : Fin 8) : Bool :=
  decide (f b < f a) || (decide (f a = f b) && decide (a < b))

/-- That is a strict total order of the places. -/
theorem before_total (f : Fin 8 → EReal) : StrictTotalBefore (before f) :=
  StrictTotalBefore.of_key_then_position (fun x y => decide (y < x)) f (fun a => by simp)
    (fun a b c h h' => by simp only [decide_eq_true_eq] at h h' ⊢; exact h'.trans h)
    (fun a b => by
      simp only [decide_eq_true_eq]
      rcases lt_trichotomy a b with h | h | h
      · exact .inr (.inr h)
      · exact .inr (.inl h)
      · exact .inl h)

/-- A stable sort of places in increasing order by the score alone is the sort by the score and then the place. -/
theorem stable_eq (f : Fin 8 → EReal) (l : List (Fin 8)) (hl : l.Pairwise (· < ·)) :
    stableSort (fun a b => decide (f b < f a)) l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, not_lt_of_gt hab]

/-- So for the sort of all eight places. -/
theorem sorted_eq (f : Fin 8 → EReal) (k : Fin 8) :
    sortedFrom (fun a b => decide (f b < f a)) k = sortedFrom (before f) k := by
  unfold sortedFrom
  have h : sortPositions 8 (fun a b => decide (f b < f a)) = sortPositions 8 (before f) :=
    stable_eq f (List.finRange 8) (List.pairwise_lt_finRange 8)
  rw [List.get_of_eq h]
  rfl

/-- The place of the greatest score. -/
def first (f : Fin 8 → EReal) : Fin 8 := sortedFrom (before f) 0

/-- The place of the greatest score but that one. -/
def second (f : Fin 8 → EReal) : Fin 8 := sortedFrom (before f) 1

/-- Of two places of the sort, the later one does not come before the earlier one. -/
theorem sorted_le (f : Fin 8 → EReal) (i j : Fin 8) (h : i < j) :
    before f (sortedFrom (before f) i) (sortedFrom (before f) j) = true := by
  have hb := before_total f
  have hni := sortedFrom_noInversion (before f) (before f) hb.asymm (fun _ _ h => h) hb.negTrans i j h
  rcases hb.total _ _ (fun e => absurd (sortedFrom_injective _ e) h.ne) with h' | h'
  · exact h'
  · rw [hni] at h'; cases h'

/-- Every other place comes after the first. -/
theorem first_before (f : Fin 8 → EReal) (p : Fin 8) (hp : p ≠ first f) : before f (first f) p = true := by
  obtain ⟨k, rfl⟩ := sortedFrom_surjective (before f) p
  refine sorted_le f 0 k (Fin.pos_of_ne_zero fun h => hp (by rw [h]; rfl))

/-- Every place but the first comes after the second, or is it. -/
theorem second_before (f : Fin 8 → EReal) (p : Fin 8) (hp : p ≠ first f) (hp' : p ≠ second f) : before f (second f) p = true := by
  obtain ⟨k, rfl⟩ := sortedFrom_surjective (before f) p
  have h0 : k ≠ 0 := fun h => hp (by rw [h]; rfl)
  have h1 : k ≠ 1 := fun h => hp' (by rw [h]; rfl)
  exact sorted_le f 1 k (by omega)

/-- The two are different places. -/
theorem second_ne (f : Fin 8 → EReal) : second f ≠ first f := fun h =>
  absurd (sortedFrom_injective _ h) (by decide)

/-- What coming before says of the scores. -/
theorem before_iff (f : Fin 8 → EReal) (a b : Fin 8) : before f a b = true ↔ f b < f a ∨ f a = f b ∧ a < b := by
  simp [before]

/-- No score is above the first's. -/
theorem le_first (f : Fin 8 → EReal) (p : Fin 8) : f p ≤ f (first f) := by
  by_cases hp : p = first f
  · rw [hp]
  · rcases (before_iff f _ _).mp (first_before f p hp) with h | h
    · exact h.le
    · exact h.1.ge

/-- A place with the first's score is not earlier. -/
theorem first_le (f : Fin 8 → EReal) (p : Fin 8) (h : f p = f (first f)) : first f ≤ p := by
  by_cases hp : p = first f
  · rw [hp]
  · rcases (before_iff f _ _).mp (first_before f p hp) with h' | h'
    · exact absurd h h'.ne
    · exact h'.2.le

/-- No score but the first's is above the second's. -/
theorem le_second (f : Fin 8 → EReal) (p : Fin 8) (hp : p ≠ first f) : f p ≤ f (second f) := by
  by_cases hp' : p = second f
  · rw [hp']
  · rcases (before_iff f _ _).mp (second_before f p hp hp') with h | h
    · exact h.le
    · exact h.1.ge

/-- A place but the first with the second's score is not earlier. -/
theorem second_le (f : Fin 8 → EReal) (p : Fin 8) (hp : p ≠ first f) (h : f p = f (second f)) : second f ≤ p := by
  by_cases hp' : p = second f
  · rw [hp']
  · rcases (before_iff f _ _).mp (second_before f p hp hp') with h' | h'
    · exact absurd h h'.ne
    · exact h'.2.le

/-- The weight of place `l`: the softmax of the two greatest scores at their places, nought elsewhere. -/
def weight (f : Fin 8 → EReal) (l : Nat) : EReal :=
  (if l = (first f).val then Ideal.div 1 (1 + Ideal.exp (f (second f) - f (first f))) else 0)
    + (if l = (second f).val then
        Ideal.div (Ideal.exp (f (second f) - f (first f))) (1 + Ideal.exp (f (second f) - f (first f))) else 0)

/-- Beyond the eight places there is none. -/
theorem weight_beyond (f : Fin 8 → EReal) (l : Nat) (h : 8 ≤ l) : weight f l = 0 := by
  unfold weight
  rw [if_neg (by omega), if_neg (by omega), add_zero]

/-- The word of negative infinity. -/
theorem ofBits_bot : Ideal.ofBits FTy.f32 0xFF800000#32 = ⊥ := by
  simp [Ideal.ofBits, Ideal.ieee]

/-- The word of positive infinity. -/
theorem ofBits_top : Ideal.ofBits FTy.f32 0x7F800000#32 = ⊤ := by
  simp [Ideal.ofBits, Ideal.ieee]

/-- A maximum that starts from the least value is the value that none exceeds. -/
theorem fold_max_eq {ι : Type} [Fintype ι] (g : ι → EReal) (v : EReal) (i : ι) (hi : g i = v) (h : ∀ j, g j ≤ v) :
    Finset.univ.fold max (Ideal.ofBits FTy.f32 0xFF800000#32) g = v := by
  rw [ofBits_bot]
  exact le_antisymm ((Finset.fold_max_le v).mpr ⟨bot_le, fun j _ => h j⟩)
    ((Finset.le_fold_max v).mpr (.inr ⟨i, Finset.mem_univ i, hi.ge⟩))

/-- A small number's word, read signed. -/
theorem toInt_small (n : Nat) (h : n < 1000) : (BitVec.ofNat 32 n).toInt = n := by
  rw [BitVec.toInt_eq_toNat_of_lt] <;> rw [BitVec.toNat_ofNat] <;> omega

/-- The least of the words of a row is the word none is below. -/
theorem fold_min_eq (g : Fin 128 → BitVec 32) (n : Nat) (hn : n < 8) (i : Fin 128) (hi : g i = BitVec.ofNat 32 n)
    (h : ∀ j, ∃ k, n ≤ k ∧ k < 1000 ∧ g j = BitVec.ofNat 32 k) :
    Finset.univ.fold IntOp.minsi 2147483647#32 g = BitVec.ofNat 32 n := by
  refine BitVec.eq_of_toInt_eq ?_
  rw [← Finset.fold_hom (op' := min) (m := BitVec.toInt) SortNet.toInt_minsi, toInt_small n (by omega)]
  refine le_antisymm ((Finset.fold_min_le _).mpr (.inr ⟨i, Finset.mem_univ i, ?_⟩)) ((Finset.le_fold_min _).mpr ⟨show (n : Int) ≤ 2147483647 by omega, fun j _ => ?_⟩)
  · rw [hi, toInt_small n (by omega)]
  · obtain ⟨k, hk, hk', e⟩ := h j
    rw [e, toInt_small k hk']
    exact_mod_cast hk

/-- A row of 128 lanes whose first eight hold the scores, the rest the least value. -/
def lanes (f : Fin 8 → EReal) (l : Fin 128) : EReal := if h : l.val < 8 then f ⟨l.val, h⟩ else ⊥

/-- The lane of a place. -/
def lane (p : Fin 8) : Fin 128 := ⟨p.val, by omega⟩

/-- A place's lane holds its score. -/
theorem lanes_lane (f : Fin 8 → EReal) (p : Fin 8) : lanes f (lane p) = f p := dif_pos p.isLt

/-- The lanes' maximum is the first's score. -/
theorem max_lanes (f : Fin 8 → EReal) : Finset.univ.fold max (Ideal.ofBits FTy.f32 0xFF800000#32) (lanes f) = f (first f) := by
  refine fold_max_eq _ _ (lane (first f)) (lanes_lane f _) fun l => ?_
  unfold lanes
  split
  · exact le_first f _
  · exact bot_le

/-- The first lane that equals it is the first place. -/
theorem arg_lanes (f : Fin 8 → EReal) (hf : f (first f) ≠ ⊥) :
    Finset.univ.fold IntOp.minsi 2147483647#32 (fun l : Fin 128 => if lanes f l = f (first f) then BitVec.ofNat 32 l.val else 128#32)
      = BitVec.ofNat 32 (first f).val := by
  refine fold_min_eq _ _ (first f).isLt (lane (first f)) (if_pos (lanes_lane f _)) fun l => ?_
  by_cases h : lanes f l = f (first f)
  · rw [if_pos h]
    refine ⟨l.val, ?_, by omega, rfl⟩
    unfold lanes at h
    split at h
    · exact first_le f _ h
    · exact absurd h.symm hf
  · rw [if_neg h]
    exact ⟨128, by omega, by omega, rfl⟩

/-- The lanes with the first place's taken out. -/
def rest (f : Fin 8 → EReal) (l : Fin 128) : EReal := if l.val = (first f).val then ⊥ else lanes f l

/-- The second place is still there. -/
theorem rest_second (f : Fin 8 → EReal) : rest f (lane (second f)) = f (second f) := by
  unfold rest
  have h : ¬ (lane (second f)).val = (first f).val := fun h => second_ne f (Fin.ext h)
  rw [if_neg h, lanes_lane]

/-- Their maximum is the second's score. -/
theorem max_rest (f : Fin 8 → EReal) : Finset.univ.fold max (Ideal.ofBits FTy.f32 0xFF800000#32) (rest f) = f (second f) := by
  refine fold_max_eq _ _ (lane (second f)) (rest_second f) fun l => ?_
  unfold rest lanes
  split
  · exact bot_le
  · rename_i h
    split
    · exact le_second f _ fun e => h (congrArg Fin.val e)
    · exact bot_le

/-- The first lane that equals it is the second place. -/
theorem arg_rest (f : Fin 8 → EReal) (hf : f (second f) ≠ ⊥) :
    Finset.univ.fold IntOp.minsi 2147483647#32 (fun l : Fin 128 => if rest f l = f (second f) then BitVec.ofNat 32 l.val else 128#32)
      = BitVec.ofNat 32 (second f).val := by
  refine fold_min_eq _ _ (second f).isLt (lane (second f)) (if_pos (rest_second f)) fun l => ?_
  by_cases h : rest f l = f (second f)
  · rw [if_pos h]
    refine ⟨l.val, ?_, by omega, rfl⟩
    unfold rest lanes at h
    split at h
    · exact absurd h.symm hf
    · rename_i h'
      split at h
      · exact second_le f _ (fun e => h' (congrArg Fin.val e)) h
      · exact absurd h.symm hf
  · rw [if_neg h]
    exact ⟨128, by omega, by omega, rfl⟩

/-- Words of small numbers are equal as the numbers are. -/
theorem cmp_word (a b : Nat) (ha : a < 1000) (hb : b < 1000) :
    IntOp.cmpi .eq (BitVec.ofNat 32 a) (BitVec.ofNat 32 b) = if a = b then 1#1 else 0#1 := by
  by_cases h : a = b
  · simp [h, IntOp.cmpi]
  · have h' : BitVec.ofNat 32 a ≠ BitVec.ofNat 32 b := fun e => h (by
      have := congrArg BitVec.toInt e
      rw [toInt_small a ha, toInt_small b hb] at this
      exact_mod_cast this)
    show BitVec.ofBool (BitVec.ofNat 32 a == BitVec.ofNat 32 b) = _
    rw [if_neg h, beq_eq_false_iff_ne.mpr h']
    rfl

end Cert.TopTwo

end
-- ==== Proof.WeightsRef.lean ====
module

public import proofs.«01_k».proof.Proof.Gen.WeightsRefIdeal.Run
public import proofs.«01_k».proof.Proof.Rows
public import proofs.«01_k».proof.Proof.TopTwo

/-! The router in the reference: the logits of a token, and the weights of its two experts. -/

set_option maxRecDepth 1000000

@[expose] public section

noncomputable section

namespace Cert.WeightsRefIdeal.Fin

open Cert.TopTwo Cert.WeightsRefIdeal Cert.WeightsRefIdeal.Gen Cert.Rows Idealize.ShloMosaic Idealize.ShloMosaic.TcCoe Idealize.SL.Sem

/-- Modulation row 2 of every token, as the reference lays it out. -/
def PER2 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 2, 0, 0] mod slices_S2x6x8x1024_S1x1x8x1024_0_2_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 2, 0, 0] mod slices_S2x6x8x1024_S1x1x8x1024_1_2_0_0) shapeCasts_S1x1x8x1024_S8x1024)) shapeCasts_S4096x8x1024_S32768x1024)⟩] concatenates_S8192x1024_S32768x1024_S40960x1024_d0

/-- That row is the one the token's kind and sequence select. -/
theorem per2_apply (mod : FVec Ideal S2x6x8x1024 .f32) (n : Fin 40960) (d : Fin 1024) :
    PER2 mod (ix2 n d) = modRow mod 2 n d := by
  suffices key : ∀ y, PER2 mod y = modRow mod 2 (y 0) (y 1) from key _
  intro y
  have hn := (y 0).isLt
  pointwise [PER2]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 3 of every token, as the reference lays it out. -/
def PER3 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 3, 0, 0] mod slices_S2x6x8x1024_S1x1x8x1024_0_3_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 3, 0, 0] mod slices_S2x6x8x1024_S1x1x8x1024_1_3_0_0) shapeCasts_S1x1x8x1024_S8x1024)) shapeCasts_S4096x8x1024_S32768x1024)⟩] concatenates_S8192x1024_S32768x1024_S40960x1024_d0

/-- That row is the one the token's kind and sequence select. -/
theorem per3_apply (mod : FVec Ideal S2x6x8x1024 .f32) (n : Fin 40960) (d : Fin 1024) :
    PER3 mod (ix2 n d) = modRow mod 3 n d := by
  suffices key : ∀ y, PER3 mod y = modRow mod 3 (y 0) (y 1) from key _
  intro y
  have hn := (y 0).isLt
  pointwise [PER3]
  unfold modRow
  by_cases h8 : (y 0).val < 8192
  · rw [dif_pos h8, if_pos h8]
  · rw [dif_neg h8, if_neg h8]
    congr 2
    exact Fin.ext (show ((y 0).val - 8192) % 8 = (y 0).val % 8 by omega)

/-- Modulation row 4 of every token, as the reference lays it out. -/
def PER4 (mod : FVec Ideal S2x6x8x1024 .f32) : FVec Ideal S40960x1024 .f32 :=
  concatenate S40960x1024 0 [⟨S8192x1024, (shapeCast _ (broadcastInDim S1024x8x1024 ![1, 2] bcast_S8x1024_S1024x8x1024_1_2 (shapeCast _ (extractStridedSlice S1x1x8x1024 ![0, 4, 0, 0] mod slices_S2x6x8x1024_S1x1x8x1024_0_4_0_0) shapeCasts_S1x1x8x1024_S8x1024)) shapeCasts_S1024x8x1024_S8192x1024)⟩, ⟨S32768x1024, (shapeCast _ (broadcastInDim S4096x8x1024 ![1, 2] bcast_S8x1024_S4096x8x1024_1_2 (shapeCast _ (extractStridedSlice S1x1x8x1024 ![1, 4, 0, 0] mod slices_S2x6x8x1024_S1x1x8x1024_1_4_0_0) shapeCasts_S1x1x8x1024_S8x1024)) shapeCasts_S4096x8x1024_S32768x1024)⟩] concatenates_S8192x1024_S32768x1024_S40960x1024_d0

/-- That row is the one the token's kind and sequence select. -/
theorem per4_apply (mod : FVec Ideal S2x6x8x1024 .f32) (n : Fin 40960) (d : Fin 1024) :
    PER4 mod (ix2 n d) = modRow mod 4 n d := by
  suffices key : ∀ y, PER4 mod y = modRow mod 4 (y 0) (y 1) from key _
  intro y
  have hn := (y 0).isLt
  pointwise [PER4]
  unfold modRow
  by_cases h8 : (y 0).val < 8192
  · rw [dif_pos h8, if_pos h8]
  · rw [dif_neg h8, if_neg h8]
    congr 2
    exact Fin.ext (show ((y 0).val - 8192) % 8 = (y 0).val % 8 by omega)

/-- The reference's RMS norm of a stream `v` with gain `g`. -/
def RMS (v : FVec Ideal S40960x1024 .f32) (g : FVec Ideal S1024 .f32) : FVec Ideal S40960x1024 .f32 :=
  mulf (mulf v (broadcastInDim S40960x1024 ![0, 1] bcast_S40960x1_S40960x1024_0_1 (Host.rsqrt (addf (Host.divf (broadcastInDim S40960x1 ![0] bcast_S40960_S40960x1_0 (Host.reduceAdd (mulf v v) (constant S_ .f32 0x00000000#32) reducesTo_S40960x1024_S40960_d1 h_S_)) (broadcastInDim S40960x1 ![] bcast_S_S40960x1 (constant S_ .f32 0x44800000#32))) (broadcastInDim S40960x1 ![] bcast_S_S40960x1 (constant S_ .f32 0x358637BD#32)))))) (broadcastInDim S40960x1024 ![0, 1] bcast_S1x1024_S40960x1024_0_1 (broadcastInDim S1x1024 ![1] bcast_S1024_S1x1024_1 g))

/-- The norm of the stream is, row by row, the norm of that row. -/
theorem rms_apply (v : FVec Ideal S40960x1024 .f32) (g : FVec Ideal S1024 .f32) (n : Fin 40960) (d : Fin 1024) :
    RMS v g (ix2 n d) = norm (fun j => v (ix2 n j)) (fun j => g (ix1 j)) d := by
  pointwise [RMS]
  rfl

/-- The stream after the gated output projection. -/
def XM (x : FVec Ideal S40960x1024 .f32) (h : FVec Ideal S40960x1024 .bf16) (mod : FVec Ideal S2x6x8x1024 .f32)
    (ow : FVec Ideal S1024x1024 .f32) : FVec Ideal S40960x1024 .f32 :=
  addf x (mulf (PER2 mod) (Host.dotGeneral dot_S40960x1024_S1024x1024_S40960x1024_1_0_0_1_n_n none (extf .f32 h bitsLt_bf16_f32) ow))

/-- A row of it is the mixed block's row. -/
theorem xm_apply (x : FVec Ideal S40960x1024 .f32) (h : FVec Ideal S40960x1024 .bf16) (mod : FVec Ideal S2x6x8x1024 .f32)
    (ow : FVec Ideal S1024x1024 .f32) (n : Fin 40960) (d : Fin 1024) :
    XM x h mod ow (ix2 n d) = mixed (fun d => x (ix2 n d)) (fun d => h (ix2 n d)) (modRow mod 2 n) (fun k j => ow (ix2 k j)) d := by
  pointwise [XM]
  rw [per2_apply]
  rfl

/-- The modulated norm of the mixed stream. -/
def H2 (x : FVec Ideal S40960x1024 .f32) (h : FVec Ideal S40960x1024 .bf16) (mod : FVec Ideal S2x6x8x1024 .f32)
    (ow : FVec Ideal S1024x1024 .f32) (g : FVec Ideal S1024 .f32) : FVec Ideal S40960x1024 .f32 :=
  addf (mulf (RMS (XM x h mod ow) g) (addf (broadcastInDim S40960x1024 ![] bcast_S_S40960x1024 (constant S_ .f32 0x3F800000#32)) (PER4 mod))) (PER3 mod)

/-- A row of it is what the router and the experts read. -/
theorem h2_apply (x : FVec Ideal S40960x1024 .f32) (h : FVec Ideal S40960x1024 .bf16) (mod : FVec Ideal S2x6x8x1024 .f32)
    (ow : FVec Ideal S1024x1024 .f32) (g : FVec Ideal S1024 .f32) (n : Fin 40960) (d : Fin 1024) :
    H2 x h mod ow g (ix2 n d) = normed (fun d => x (ix2 n d)) (fun d => h (ix2 n d)) (modRow mod 2 n) (modRow mod 3 n)
      (modRow mod 4 n) (fun d => g (ix1 d)) (fun k j => ow (ix2 k j)) d := by
  pointwise [H2]
  rw [per3_apply, per4_apply, rms_apply]
  simp only [xm_apply]
  rfl

/-- The router's logits. -/
def LG (x : FVec Ideal S40960x1024 .f32) (h : FVec Ideal S40960x1024 .bf16) (mod : FVec Ideal S2x6x8x1024 .f32)
    (ow : FVec Ideal S1024x1024 .f32) (g : FVec Ideal S1024 .f32) (rw : FVec Ideal S1024x8 .f32) (rb : FVec Ideal S8 .f32) : FVec Ideal S40960x8 .f32 :=
  addf (Host.dotGeneral dot_S40960x1024_S1024x8_S40960x8_1_0_0_1_n_n none (H2 x h mod ow g) rw)
    (broadcastInDim S40960x8 ![0, 1] bcast_S1x8_S40960x8_0_1 (broadcastInDim S1x8 ![1] bcast_S8_S1x8_1 rb))

/-- A token's logits, from its normed row. -/
theorem lg_apply (x : FVec Ideal S40960x1024 .f32) (h : FVec Ideal S40960x1024 .bf16) (mod : FVec Ideal S2x6x8x1024 .f32)
    (ow : FVec Ideal S1024x1024 .f32) (g : FVec Ideal S1024 .f32) (rw : FVec Ideal S1024x8 .f32) (rb : FVec Ideal S8 .f32)
    (n : Fin 40960) (e : Fin 8) : LG x h mod ow g rw rb (ix2 n e)
      = ∑ k, normed (fun d => x (ix2 n d)) (fun d => h (ix2 n d)) (modRow mod 2 n) (modRow mod 3 n)
      (modRow mod 4 n) (fun d => g (ix1 d)) (fun k j => ow (ix2 k j)) k * rw (ix2 k e) + rb (ix1 e) := by
  pointwise [LG]
  simp only [h2_apply]

/-- The two greatest logits of every token. -/
def VAL (lg : FVec Ideal S40960x8 .f32) : FVec Ideal S40960x2 .f32 :=
  (Host.topK S40960x2 1 (FloatOps.cmpfTotal .gt) lg sliceFits_S40960x8_S40960x2).1

/-- Their places. -/
def IDX (lg : FVec Ideal S40960x8 .f32) : IVec S40960x2 32 :=
  (Host.topK S40960x2 1 (FloatOps.cmpfTotal .gt) lg sliceFits_S40960x8_S40960x2).2

/-- The order the selection sorts a token's logits by. -/
theorem sort_rel (x y : EReal) :
    ((FloatOps.cmpfTotal (F := Ideal) (φ := .f32) .gt x y) == 1#1) = decide (y < x) := by
  rw [Ideal.cmpfTotal_def]
  by_cases h : y < x <;> simp [CmpDirection.ordered, Ideal.cmp, h]

/-- A token's row of logits, one place at a time. -/
theorem along_eq (n : Fin 40960) (k e : Fin 8) : (ix2 n k : S40960x8.Idx).along 1 e = ix2 n e :=
  funext fun a => by match a with | ⟨0, _⟩ => rfl | ⟨1, _⟩ => rfl

/-- The place the selection reads is the one the sort puts there. -/
theorem place_eq (lg : FVec Ideal S40960x8 .f32) (n : Fin 40960) (k : Fin 8) :
    sortedFrom (fun a b : Fin 8 => FloatOps.cmpfTotal .gt (lg ((ix2 n k : S40960x8.Idx).along 1 a)) (lg ((ix2 n k : S40960x8.Idx).along 1 b)) == 1#1) k
      = sortedFrom (before fun e => lg (ix2 n e)) k := by
  rw [← sorted_eq]
  refine congrArg (fun R => sortedFrom R k) (funext fun a => funext fun b => ?_)
  rw [along_eq, along_eq]
  exact sort_rel _ _

/-- Selection `k` of a token is the logit the sort puts at place `k`. -/
theorem val_apply (lg : FVec Ideal S40960x8 .f32) (n : Fin 40960) (k : Fin 2) :
    VAL lg (ix2 n k) = lg (ix2 n (sortedFrom (before fun e => lg (ix2 n e)) ⟨k.val, by omega⟩)) := by
  unfold VAL Host.topK Host.sort2
  pointwise
  exact (congrArg lg (along_eq n ⟨k.val, by omega⟩ _)).trans (congrArg (fun p => lg (ix2 n p)) (place_eq lg n ⟨k.val, by omega⟩))

/-- And its place that place's. -/
theorem idx_apply (lg : FVec Ideal S40960x8 .f32) (n : Fin 40960) (k : Fin 2) :
    IDX lg (ix2 n k) = BitVec.ofNat 32 (sortedFrom (before fun e => lg (ix2 n e)) ⟨k.val, by omega⟩).val := by
  unfold IDX Host.topK Host.sort2
  pointwise
  exact congrArg (fun p : Fin 8 => BitVec.ofNat 32 p.val) (place_eq lg n ⟨k.val, by omega⟩)

/-- The exponentials of the two logits, less the greater. -/
def EXPS (lg : FVec Ideal S40960x8 .f32) : FVec Ideal S40960x2 .f32 :=
  Host.exp (subf (VAL lg) (broadcastInDim S40960x2 ![0, 1] bcast_S40960x1_S40960x2_0_1 (broadcastInDim S40960x1 ![0] bcast_S40960_S40960x1_0 (maximumf (broadcastInDim S40960 ![] bcast_S_S40960 (constant S_ .f32 0xFF800000#32)) (Host.reduce FloatOps.maximumf (VAL lg) (constant S_ .f32 0xFF800000#32) reducesTo_S40960x2_S40960_d1 h_S_)))))

/-- Their shares of their sum. -/
def SHARE (lg : FVec Ideal S40960x8 .f32) : FVec Ideal S40960x2 .f32 :=
  Host.divf (EXPS lg) (broadcastInDim S40960x2 ![0, 1] bcast_S40960x1_S40960x2_0_1 (broadcastInDim S40960x1 ![0] bcast_S40960_S40960x1_0 (Host.reduceAdd (EXPS lg) (constant S_ .f32 0x00000000#32) reducesTo_S40960x2_S40960_d1 h_S_)))

/-- Each share at its expert, nought elsewhere. -/
def COMB (lg : FVec Ideal S40960x8 .f32) : FVec Ideal S40960x8 .f32 :=
  Host.reduceAdd (mulf (uitofp .f32 (cmpi .eq (broadcastInDim S40960x2x8 ![0, 1, 2] bcast_S40960x2x1_S40960x2x8_0_1_2 (broadcastInDim S40960x2x1 ![0, 1] bcast_S40960x2_S40960x2x1_0_1 (IDX lg))) (broadcastInDim S40960x2x8 ![0, 1, 2] bcast_S1x1x8_S40960x2x8_0_1_2 (iotaInDim S1x1x8 32 2)))) (broadcastInDim S40960x2x8 ![0, 1, 2] bcast_S40960x2x1_S40960x2x8_0_1_2 (broadcastInDim S40960x2x1 ![0, 1] bcast_S40960x2_S40960x2x1_0_1 (SHARE lg)))) (constant S_ .f32 0x00000000#32) reducesTo_S40960x2x8_S40960x8_d1 h_S_

/-- The same, laid out over 128 lanes. -/
def LANES (lg : FVec Ideal S40960x8 .f32) : FVec Ideal S40960x128 .f32 :=
  pad S40960x128 ![0, 0] ![0, 120] ![0, 0] (COMB lg) (sitofp .f32 (constantI S_ 32 0#32)) pads_S40960x8_S40960x128_000_01200 h_S_

/-- A token's logits, as a row. -/
def row (lg : FVec Ideal S40960x8 .f32) (n : Fin 40960) : Fin 8 → EReal := fun e => lg (ix2 n e)

/-- The greatest logit of a token. -/
theorem val_zero (lg : FVec Ideal S40960x8 .f32) (n : Fin 40960) : VAL lg (ix2 n 0) = row lg n (first (row lg n)) := val_apply lg n 0

/-- The next greatest. -/
theorem val_one (lg : FVec Ideal S40960x8 .f32) (n : Fin 40960) : VAL lg (ix2 n 1) = row lg n (second (row lg n)) := val_apply lg n 1

/-- The greatest's place. -/
theorem idx_zero (lg : FVec Ideal S40960x8 .f32) (n : Fin 40960) : IDX lg (ix2 n 0) = BitVec.ofNat 32 (first (row lg n)).val := idx_apply lg n 0

/-- The next greatest's place. -/
theorem idx_one (lg : FVec Ideal S40960x8 .f32) (n : Fin 40960) : IDX lg (ix2 n 1) = BitVec.ofNat 32 (second (row lg n)).val := idx_apply lg n 1

/-- The greater of a token's two logits. -/
theorem max_apply (lg : FVec Ideal S40960x8 .f32) (n : Fin 40960) :
    max (Ideal.ofBits FTy.f32 0xFF800000#32) (Finset.fold max (Ideal.ofBits FTy.f32 0xFF800000#32) (fun x => VAL lg (ix2 n x)) Finset.univ)
      = row lg n (first (row lg n)) := by
  rw [fold_max_eq (fun x : Fin 2 => VAL lg (ix2 n x)) (row lg n (first (row lg n))) 0 (val_zero lg n) fun j => by
    rw [val_apply]; exact le_first (row lg n) _]
  rw [ofBits_bot]
  exact max_eq_right bot_le

/-- Each exponential, less the greater logit. -/
theorem exps_apply (lg : FVec Ideal S40960x8 .f32) (n : Fin 40960) (k : Fin 2) :
    EXPS lg (ix2 n k) = Ideal.exp (VAL lg (ix2 n k) - row lg n (first (row lg n))) := by
  pointwise [EXPS]
  rw [max_apply]

/-- A number less itself has exponential one. -/
theorem exp_self (x : EReal) (h : x ≠ ⊥) (h' : x ≠ ⊤) : Ideal.exp (x - x) = 1 := by
  rw [EReal.sub_self h' h]
  exact (congrArg Ideal.exp EReal.coe_zero.symm).trans ((Ideal.exp_coe 0).trans (by rw [Real.exp_zero]; rfl))

/-- The sum of a token's exponentials. -/
theorem sum_apply (lg : FVec Ideal S40960x8 .f32) (n : Fin 40960) (h : ∀ e, row lg n e ≠ ⊥) (h' : ∀ e, row lg n e ≠ ⊤) :
    ∑ x, EXPS lg (ix2 n x) = 1 + Ideal.exp (row lg n (second (row lg n)) - row lg n (first (row lg n))) := by
  rw [Fin.sum_univ_two, exps_apply, exps_apply, val_zero, val_one, exp_self _ (h _) (h' _)]

/-- The greatest logit's share. -/
theorem share_zero (lg : FVec Ideal S40960x8 .f32) (n : Fin 40960) (h : ∀ e, row lg n e ≠ ⊥) (h' : ∀ e, row lg n e ≠ ⊤) :
    SHARE lg (ix2 n 0) = Ideal.div 1 (1 + Ideal.exp (row lg n (second (row lg n)) - row lg n (first (row lg n)))) := by
  pointwise [SHARE]
  rw [sum_apply lg n h h', exps_apply, val_zero, exp_self _ (h _) (h' _)]

/-- The next greatest's share. -/
theorem share_one (lg : FVec Ideal S40960x8 .f32) (n : Fin 40960) (h : ∀ e, row lg n e ≠ ⊥) (h' : ∀ e, row lg n e ≠ ⊤) :
    SHARE lg (ix2 n 1) = Ideal.div (Ideal.exp (row lg n (second (row lg n)) - row lg n (first (row lg n))))
      (1 + Ideal.exp (row lg n (second (row lg n)) - row lg n (first (row lg n)))) := by
  pointwise [SHARE]
  rw [sum_apply lg n h h', exps_apply, val_one]

/-- One as a place is the chosen one, nought as it is not, times the share. -/
theorem hot_mul (a b : Nat) (ha : a < 1000) (hb : b < 1000) (s : EReal) :
    FloatOps.uitofp (F := Ideal) FTy.f32 (IntOp.cmpi CmpIPredicate.eq (BitVec.ofNat 32 a) (BitVec.ofNat 32 b)) * s = if b = a then s else 0 := by
  rw [cmp_word a b ha hb]
  by_cases h : a = b
  · rw [if_pos h, if_pos h.symm]
    have e : FloatOps.uitofp (F := Ideal) FTy.f32 1#1 = (1 : EReal) := by simp [FloatOps.uitofp]
    rw [e, one_mul]
  · rw [if_neg h, if_neg (Ne.symm h)]
    have e : FloatOps.uitofp (F := Ideal) FTy.f32 0#1 = (0 : EReal) := by simp [FloatOps.uitofp]
    rw [e, zero_mul]

/-- A token's weights. -/
theorem comb_apply (lg : FVec Ideal S40960x8 .f32) (n : Fin 40960) (e : Fin 8) (h : ∀ e, row lg n e ≠ ⊥) (h' : ∀ e, row lg n e ≠ ⊤) :
    COMB lg (ix2 n e) = weight (row lg n) e.val := by
  pointwise [COMB]
  rw [Fin.sum_univ_two, idx_zero, idx_one, share_zero lg n h h', share_one lg n h h', hot_mul _ _ (by omega) (by omega),
    hot_mul _ _ (by omega) (by omega)]
  rfl

/-- A token's weights over the lanes. -/
theorem lanes_apply (lg : FVec Ideal S40960x8 .f32) (n : Fin 40960) (l : Fin 128) (h : ∀ e, row lg n e ≠ ⊥) (h' : ∀ e, row lg n e ≠ ⊤) :
    LANES lg (ix2 n l) = weight (row lg n) l.val := by
  pointwise [LANES]
  split
  · exact comb_apply lg n _ h h'
  · rw [weight_beyond _ _ (by omega)]
    simp [FloatOps.sitofp]

/-- The reference's run leaves exactly that. -/
theorem run_eq (m : (ℓ : Loc nD τ sig) → Buf (Elt Ideal) ℓ) (c : Dev nD) : Value.res_main_v68 m c
    = LANES (LG (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) := rfl

end Cert.WeightsRefIdeal.Fin

end
-- ==== Proof.WeightsValue.lean ====
module

public import proofs.«01_k».proof.Proof.Gen.WeightsIdeal.Value
public import proofs.«01_k».proof.Proof.WeightsRef
public import Idealize.ShloMosaic.Lib.Pipeline.ValueKit
public import Idealize.ShloMosaic.Lib.Pipeline.ReadBack
public import Idealize.ShloMosaic.Lib.Routing.OpsOne
public import proofs.«01_k».proof.Proof.Gen.Pre_finite_logits

/-! The router of a routed layer: every tile of 512 rows holds the weights of its rows' two experts. -/

set_option maxRecDepth 16384

@[expose] public section

noncomputable section

namespace Cert.WeightsIdeal.Fin

open Idealize.ShloMosaic.Routing Cert.TopTwo Cert.WeightsIdeal Cert.WeightsIdeal.Gen Cert.Rows Idealize.ShloMosaic Idealize.ShloMosaic.TcCoe Idealize.SL.Sem

/-- A row's place among the eight sequences. -/
def sq (r : Fin 512) : Fin 8 := ⟨r.val % 8, Nat.mod_lt _ (by decide)⟩

/-- The mixed stream of a tile. -/
theorem hpay2 (v0 : Vec Ideal S512x1024 .f32) (v1 : Vec Ideal S1x1x8x1024 .f32) (v3 : Vec Ideal S512x1024 .bf16)
    (v4 : Vec Ideal S1024x1024 .bf16) (r : Fin 512) (d : Fin 1024) : k0_pay2 v0 v1 v3 v4 (ix2 r d)
      = mixed (fun d => v0 (ix2 r d)) (fun d => v3 (ix2 r d)) (fun d => v1 (ix4 0 0 (sq r) d)) (fun k j => v4 (ix2 k j)) d := by
  pointwise [k0_pay2]
  exact congrArg (v0 (ix2 r d) + ·) (mul_comm _ _)

/-- Its norm, laid out sequence by sequence. -/
theorem hpay4 (v0 : Vec Ideal S512x1024 .f32) (v1 : Vec Ideal S1x1x8x1024 .f32) (v3 : Vec Ideal S512x1024 .bf16)
    (v4 : Vec Ideal S1024x1024 .bf16) (v13 : Vec Ideal S1x1024 .f32) (y : S64x8x1024.Idx) : k0_pay4 v0 v1 v3 v4 v13 y
      = norm (fun j => k0_pay2 v0 v1 v3 v4 (ix2 ⟨(y 0).val * 8 + (y 1).val, by
          have : (y 0).val < 64 := (y 0).isLt; have : (y 1).val < 8 := (y 1).isLt; omega⟩ j)) (fun j => v13 (ix2 0 j)) (y 2) := by
  pointwise [k0_pay4]
  rfl

/-- The shift row. -/
theorem hpay3 (v : Vec Ideal S1x1x8x1024 .f32) (y : S8x1024.Idx) : k0_pay3 v y = v (ix4 0 0 (y 0) (y 1)) := by
  pointwise [k0_pay3]

/-- The scale row, plus one. -/
theorem hpay5 (v : Vec Ideal S1x1x8x1024 .f32) (y : S8x1024.Idx) : k0_pay5 v y = 1 + v (ix4 0 0 (y 0) (y 1)) := by
  pointwise [k0_pay5]

/-- The modulation of a tile's norm. -/
theorem hpay6 (v30 : FVec Ideal S8x1024 .f32) (v31 : FVec Ideal S64x8x1024 .f32) (v33 : FVec Ideal S8x1024 .f32) (r : Fin 512) (d : Fin 1024) :
    k0_pay6 v30 v31 v33 (ix2 r d) = v31 (ix3 ⟨r.val / 8, by omega⟩ (sq r) d) * v33 (ix2 (sq r) d) + v30 (ix2 (sq r) d) := by
  pointwise [k0_pay6]
  rfl

/-- A tile's row of the modulated norm, from the tile's arrays. -/
theorem tile_at (v0 : Vec Ideal S512x1024 .f32) (v1 v3' v4' : Vec Ideal S1x1x8x1024 .f32) (v3 : Vec Ideal S512x1024 .bf16)
    (v4 : Vec Ideal S1024x1024 .bf16) (v13 : Vec Ideal S1x1024 .f32) (r : Fin 512) (d : Fin 1024) :
    k0_pay6 (k0_pay3 v3') (k0_pay4 v0 v1 v3 v4 v13) (k0_pay5 v4') (ix2 r d)
      = normed (fun d => v0 (ix2 r d)) (fun d => v3 (ix2 r d)) (fun d => v1 (ix4 0 0 (sq r) d)) (fun d => v3' (ix4 0 0 (sq r) d))
        (fun d => v4' (ix4 0 0 (sq r) d)) (fun d => v13 (ix2 0 d)) (fun k j => v4 (ix2 k j)) d := by
  have hr : ∀ j : Fin 1024, (ix2 ⟨r.val / 8 * 8 + r.val % 8, by omega⟩ j : S512x1024.Idx) = ix2 r j := fun j => by
    congr 1
    exact Fin.ext (Nat.div_add_mod' _ _)
  refine (hpay6 _ _ _ r d).trans ?_
  rw [hpay4, hpay5, hpay3]
  unfold normed modulate
  refine congrArg (· * _ + _) (congrArg (fun v => norm v _ d) (funext fun j => ?_))
  exact (congrArg (k0_pay2 v0 v1 v3 v4) (hr j)).trans (hpay2 v0 v1 v3 v4 r j)

/-- The eight scores of a row, from its normed row, the gates' matrix and their biases. -/
def scores (u : Fin 1024 → EReal) (w : Fin 1024 → Fin 8 → EReal) (b : Fin 8 → EReal) : Fin 8 → EReal :=
  fun e => ∑ k, u k * w k e + b e

/-- The masked scores of a tile's row. -/
theorem hpay8 (v30 : FVec Ideal S8x1024 .f32) (v31 : FVec Ideal S64x8x1024 .f32) (v33 : FVec Ideal S8x1024 .f32)
    (v44 : Vec Ideal S1024x128 .f32) (v50 : Vec Ideal S1x128 .f32) (r : Fin 512) (l : Fin 128) : k0_pay8 v30 v31 v33 v44 v50 (ix2 r l)
      = lanes (scores (fun k => k0_pay6 v30 v31 v33 (ix2 r k)) (fun k e => v44 (ix2 k (lane e))) (fun e => v50 (ix2 0 (lane e)))) l := by
  pointwise [k0_pay8]
  rw [ofBits_bot]
  unfold lanes
  have hc : IntOp.cmpi .slt (BitVec.ofNat 32 l.val) 8#32 = if l.val < 8 then 1#1 else 0#1 := by
    revert l
    decide +kernel
  rw [hc]
  by_cases h : l.val < 8
  · rw [if_pos h, dif_pos h]
    rfl
  · rw [if_neg h, dif_neg h]
    rfl

section Row
variable (v30 : FVec Ideal S8x1024 .f32) (v31 : FVec Ideal S64x8x1024 .f32) (v33 : FVec Ideal S8x1024 .f32)
  (v44 : Vec Ideal S1024x128 .f32) (v50 : Vec Ideal S1x128 .f32) (r : Fin 512) (f : Fin 8 → EReal)
  (h : ∀ l, k0_pay8 v30 v31 v33 v44 v50 (ix2 r l) = lanes f l) (hf : ∀ e, f e ≠ ⊥)

include h in
/-- The row's greatest score. -/
theorem hpay9 : k0_pay9 v30 v31 v33 v44 v50 (ix2 r 0) = f (first f) := by
  pointwise [k0_pay9]
  simp only [h]
  exact max_lanes f

include h hf in
/-- Its place. -/
theorem hpay10 : k0_pay10 v30 v31 v33 v44 v50 (ix2 r 0) = BitVec.ofNat 32 (first f).val := by
  pointwise [k0_pay10]
  simp only [h, hpay9 v30 v31 v33 v44 v50 r f h]
  exact arg_lanes f (hf _)

include h hf in
/-- The scores without it. -/
theorem hpay11 (l : Fin 128) : k0_pay11 v30 v31 v33 v44 v50 (ix2 r l) = rest f l := by
  pointwise [k0_pay11]
  rw [hpay10 v30 v31 v33 v44 v50 r f h hf, cmp_word _ _ (by omega) (by omega), h, ofBits_bot]
  unfold rest
  by_cases e : l.val = (first f).val
  · rw [if_pos e, if_pos e]
    rfl
  · rw [if_neg e, if_neg e]
    rfl

include h hf in
/-- The next greatest score. -/
theorem hpay12 : k0_pay12 v30 v31 v33 v44 v50 (ix2 r 0) = f (second f) := by
  pointwise [k0_pay12]
  simp only [hpay11 v30 v31 v33 v44 v50 r f h hf]
  exact max_rest f

include h hf in
/-- The lanes that hold it. -/
theorem hpay13 (l : Fin 128) : k0_pay13 v30 v31 v33 v44 v50 (ix2 r l)
    = if rest f l = f (second f) then BitVec.ofNat 32 l.val else 128#32 := by
  pointwise [k0_pay13]
  rw [hpay11 v30 v31 v33 v44 v50 r f h hf, hpay12 v30 v31 v33 v44 v50 r f h hf]

include h hf in
/-- The row's weights. -/
theorem hpay1 (l : Fin 128) : k0_pay1 (iota .tc S512x128 32 [1] iota_S512x128_d1_w32) (k0_pay9 v30 v31 v33 v44 v50) (k0_pay10 v30 v31 v33 v44 v50)
    (k0_pay12 v30 v31 v33 v44 v50) (k0_pay13 v30 v31 v33 v44 v50) (ix2 r l) = weight f l.val := by
  pointwise [k0_pay1]
  simp only [hpay13 v30 v31 v33 v44 v50 r f h hf]
  rw [arg_rest f (hf _), hpay9 v30 v31 v33 v44 v50 r f h, hpay10 v30 v31 v33 v44 v50 r f h hf, hpay12 v30 v31 v33 v44 v50 r f h hf,
    cmp_word _ _ (by omega) (by omega), cmp_word _ _ (by omega) (by omega)]
  unfold weight
  refine congrArg₂ (· + ·) ?_ ?_
  · by_cases e : l.val = (first f).val
    · rw [if_pos e, if_pos e]
      rfl
    · rw [if_neg e, if_neg e]
      rfl
  · by_cases e : l.val = (second f).val
    · rw [if_pos e, if_pos e]
      rfl
    · rw [if_neg e, if_neg e]
      rfl

end Row

/-- Each entry of a matrix of eight columns, written from column 0 into one of 128, lands at its own place. -/
theorem lands_matrix (z : IVec S1 32) (hz : z (ix1 0) = 0#32) (a k : Fin 1024) (b : Fin 8) (l : Fin 128) :
    scatter_S1024x128_S1_S1024x8_01_n_1_0.resultIdx? (ix2 a b) z = some (ix2 k l) ↔ a = k ∧ b.val = l.val := by
  have s0 : scatter_S1024x128_S1_S1024x8_01_n_1_0.start (ix2 a b) z 0 = 0 := by
    unfold ScatterDims.start
    exact dif_neg (by decide)
  have s1 : scatter_S1024x128_S1_S1024x8_01_n_1_0.start (ix2 a b) z 1 = 0 := by
    unfold ScatterDims.start
    refine (dif_pos (by decide)).trans ?_
    refine (congrArg (fun i => (z i).toInt) (show _ = ix1 (0 : Fin 1) from funext fun q => ?_)).trans (by rw [hz]; rfl)
    match q with
    | ⟨0, _⟩ => exact Subsingleton.elim (α := Fin 1) _ _
  have w0 : scatter_S1024x128_S1_S1024x8_01_n_1_0.window (ix2 a b) 0 = a.val := rfl
  have w1 : scatter_S1024x128_S1_S1024x8_01_n_1_0.window (ix2 a b) 1 = b.val := rfl
  refine (resultIdx?_ix2 (R := 1024) (C := 128) _ _ _ k l).trans ?_
  rw [Fin.ext_iff, s0, s1, w0, w1]
  omega

/-- The same for a row of eight entries written into one of 128. -/
theorem lands_row (z : IVec S2 32) (hz : ∀ q, z (ix1 q) = 0#32) (b : Fin 8) (l : Fin 128) :
    scatter_S1x128_S2_S8_0_0_01_0.resultIdx? (ix1 b) z = some (ix2 0 l) ↔ b.val = l.val := by
  have s (q : Fin 2) : scatter_S1x128_S2_S8_0_0_01_0.start (ix1 b) z q = 0 := by
    exact (start_pair (R := 1) (C := 128) scatter_S1x128_S2_S8_0_0_01_0 rfl rfl z (ix1 b) q).trans (congrArg BitVec.toInt (hz q))
  have w0 : scatter_S1x128_S2_S8_0_0_01_0.window (ix1 b) 0 = 0 := rfl
  have w1 : scatter_S1x128_S2_S8_0_0_01_0.window (ix1 b) 1 = b.val := rfl
  refine (resultIdx?_ix2 (R := 1) (C := 128) _ _ _ 0 l).trans ?_
  rw [s 0, s 1, w0, w1]
  simp

/-- The padded matrix holds the matrix in its first eight columns. -/
theorem pad_matrix (x : S1024x128.Idx → EReal) (z : IVec S1 32) (hz : z (ix1 0) = 0#32) (w : S1024x8.Idx → EReal) (k : Fin 1024) (e : Fin 8) :
    Host.scatter scatter_S1024x128_S1_S1024x8_01_n_1_0 (fun _ b => b) x z w (ix2 k (lane e)) = w (ix2 k e) := by
  refine scatter_set_hit _ x z w _ _ (fun j hj => ?_) (ix2 k e) ((lands_matrix z hz k k e _).2 ⟨rfl, rfl⟩)
  have hj' := (lands_matrix z hz (j 0) k (j 1) (lane e)).1 ((congrArg (fun i => ScatterDims.resultIdx? _ i z) (eq_ix2 j).symm).trans hj)
  rw [eq_ix2 j]
  exact congrArg₂ (fun a b => w (ix2 a b)) hj'.1 (Fin.ext hj'.2)

/-- The padded row holds the row in its first eight lanes. -/
theorem pad_row (x : S1x128.Idx → EReal) (z : IVec S2 32) (hz : ∀ q, z (ix1 q) = 0#32) (w : S8.Idx → EReal) (e : Fin 8) :
    Host.scatter scatter_S1x128_S2_S8_0_0_01_0 (fun _ b => b) x z w (ix2 0 (lane e)) = w (ix1 e) := by
  refine scatter_set_hit _ x z w _ _ (fun j hj => ?_) (ix1 e) ((lands_row z hz e _).2 rfl)
  have hj' := (lands_row z hz (j 0) (lane e)).1 ((congrArg (fun i => ScatterDims.resultIdx? _ i z) (eq_ix1 j).symm).trans hj)
  rw [eq_ix1 j]
  exact congrArg (fun b => w (ix1 b)) (Fin.ext hj')

variable (m : (ℓ : Loc nD τ sig) → Buf (Elt Ideal) ℓ)

/-- The blocks of the windows at point `t`. -/
theorem idx : ∀ t : Fin cfg0.N, win0_0.index t = ![t.val, 0] ∧ win0_1.index t = ![t.val, 0] ∧ win0_2.index t = ![if t.val < 16 then 0 else 1, 0, 0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![if t.val < 16 then 0 else 1, 0, 0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0])

/-- The token of row `r` of tile `t`. -/
def tok (t : Fin cfg0.N) (r : Fin 512) : Fin 40960 := ⟨t.val * 512 + r.val, by
  have h := t.isLt
  have hN : cfg0.N = 80 := N_0
  omega⟩

/-- Where window 9's block of tile `t` lies in its array. -/
theorem emb_eq9 (t : Fin cfg0.N) (y : S512x128.Idx) : (win0_9.rect t).emb y = ix2 (tok t (y 0)) (y 1) := by
  refine funext fun a => Fin.ext ?_
  match a with
  | ⟨0, _⟩ =>
    show (((win0_9.rect t).emb y) 0).val = t.val * 512 + (y 0).val
    blk_simp [idx t]
  | ⟨1, _⟩ =>
    show (((win0_9.rect t).emb y) 1).val = (y 1).val
    blk_simp [idx t]
    exact Nat.zero_add _

/-- The stream's rows. -/
theorem r0 (c : Dev nD) (t : Fin cfg0.N) (r : Fin 512) (d : Fin 1024) :
    iblk m c 0 t (ix2 r d) = m ((c : Thread nD τ).loc main_arg0) (ix2 (tok t r) d) := by
  blk_point [iblk, idx t]
  rfl

/-- The mixed block's rows. -/
theorem r1 (c : Dev nD) (t : Fin cfg0.N) (r : Fin 512) (d : Fin 1024) :
    iblk m c 1 t (ix2 r d) = m ((c : Thread nD τ).loc main_arg1) (ix2 (tok t r) d) := by
  blk_point [iblk, idx t]
  rfl

/-- The output projection. -/
theorem r3 (c : Dev nD) (t : Fin cfg0.N) (k : Fin 1024) (d : Fin 1024) :
    iblk m c 3 t (ix2 k d) = m ((c : Thread nD τ).loc main_arg3) (ix2 k d) := by
  blk_point [iblk, idx t]

/-- The norm's gain. -/
theorem r4 (c : Dev nD) (t : Fin cfg0.N) (d : Fin 1024) :
    iblk m c 4 t (ix2 0 d) = m ((c : Thread nD τ).loc main_arg4) (ix1 d) := by
  blk_point [iblk, idx t]

/-- The gates' matrix. -/
theorem r5 (c : Dev nD) (t : Fin cfg0.N) (k : Fin 1024) (e : Fin 8) :
    iblk m c 5 t (ix2 k (lane e)) = m ((c : Thread nD τ).loc main_arg5) (ix2 k e) := by
  have q : (win0_5.blk t).view.emb (ix2 k (lane e)) = ix2 k (lane e) := by
    refine funext fun a => Fin.ext ?_
    match a with
    | ⟨0, _⟩ => blk_simp [idx t]
    | ⟨1, _⟩ => blk_simp [idx t]
  blk_simp [iblk]
  entry_read
  rw [q]
  exact pad_matrix _ _ rfl _ k e

/-- The gates' biases. -/
theorem r6 (c : Dev nD) (t : Fin cfg0.N) (e : Fin 8) :
    iblk m c 6 t (ix2 0 (lane e)) = m ((c : Thread nD τ).loc main_arg6) (ix1 e) := by
  have q : (win0_6.blk t).view.emb (ix2 0 (lane e)) = ix2 0 (lane e) := by
    refine funext fun a => Fin.ext ?_
    match a with
    | ⟨0, _⟩ => blk_simp [idx t]
    | ⟨1, _⟩ => blk_simp [idx t]
  blk_simp [iblk]
  entry_read
  rw [q]
  refine pad_row _ _ (fun q => ?_) _ e
  match q with
  | 0 => rfl
  | 1 => rfl

/-- Modulation row 2 as a tile loads it. -/
theorem mod2 (c : Dev nD) (t : Fin cfg0.N) (r : Fin 512) (d : Fin 1024) :
    View.ld (iblk m c 2 t) (Rect.unit ![0, 2, 0, 0] ![1, 1, 8, 1024] inb_S1x6x8x1024_S1x1x8x1024_0_2_0_0) (ix4 0 0 (sq r) d)
      = modRow (m ((c : Thread nD τ).loc main_arg2)) 2 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 3 as a tile loads it. -/
theorem mod3 (c : Dev nD) (t : Fin cfg0.N) (r : Fin 512) (d : Fin 1024) :
    View.ld (iblk m c 2 t) (Rect.unit ![0, 3, 0, 0] ![1, 1, 8, 1024] inb_S1x6x8x1024_S1x1x8x1024_0_3_0_0) (ix4 0 0 (sq r) d)
      = modRow (m ((c : Thread nD τ).loc main_arg2)) 3 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- Modulation row 4 as a tile loads it. -/
theorem mod4 (c : Dev nD) (t : Fin cfg0.N) (r : Fin 512) (d : Fin 1024) :
    View.ld (iblk m c 2 t) (Rect.unit ![0, 4, 0, 0] ![1, 1, 8, 1024] inb_S1x6x8x1024_S1x1x8x1024_0_4_0_0) (ix4 0 0 (sq r) d)
      = modRow (m ((c : Thread nD τ).loc main_arg2)) 4 (tok t r) d := by
  have hi := idx t
  unfold modRow
  have hv : (tok t r).val = t.val * 512 + r.val := rfl
  by_cases hg : t.val < 16
  · rw [if_pos hg] at hi
    rw [if_pos (by omega)]
    blk_point [iblk, hi]
    show r.val % 8 = (t.val * 512 + r.val) % 8
    omega
  · rw [if_neg hg] at hi
    rw [if_neg (by omega)]
    blk_point [iblk, hi]
    show r.val % 8 = (t.val * 512 + r.val) % 8
    omega

/-- A tile's row of the modulated norm is its token's. -/
theorem row' (c : Dev nD) (t : Fin cfg0.N) (r : Fin 512) (d : Fin 1024) :
    normed (fun d => iblk m c 0 t (ix2 r d)) (fun d => iblk m c 1 t (ix2 r d)) (fun d => (View.ld (iblk m c 2 t) (Rect.unit ![0, 2, 0, 0] ![1, 1, 8, 1024] inb_S1x6x8x1024_S1x1x8x1024_0_2_0_0)) (ix4 0 0 (sq r) d))
      (fun d => (View.ld (iblk m c 2 t) (Rect.unit ![0, 3, 0, 0] ![1, 1, 8, 1024] inb_S1x6x8x1024_S1x1x8x1024_0_3_0_0)) (ix4 0 0 (sq r) d))
      (fun d => (View.ld (iblk m c 2 t) (Rect.unit ![0, 4, 0, 0] ![1, 1, 8, 1024] inb_S1x6x8x1024_S1x1x8x1024_0_4_0_0)) (ix4 0 0 (sq r) d))
      (fun d => iblk m c 4 t (ix2 0 d)) (fun k j => iblk m c 3 t (ix2 k j)) d
    = normed (fun d => (m ((c : Thread nD τ).loc main_arg0)) (ix2 (tok t r) d)) (fun d => (m ((c : Thread nD τ).loc main_arg1)) (ix2 (tok t r) d)) (modRow (m ((c : Thread nD τ).loc main_arg2)) 2 (tok t r))
      (modRow (m ((c : Thread nD τ).loc main_arg2)) 3 (tok t r)) (modRow (m ((c : Thread nD τ).loc main_arg2)) 4 (tok t r)) (fun d => (m ((c : Thread nD τ).loc main_arg4)) (ix1 d))
      (fun k j => (m ((c : Thread nD τ).loc main_arg3)) (ix2 k j)) d := by
  simp only [r0, r1, r3, r4, mod2, mod3, mod4]

/-- The precondition at one logit: it is a real number. -/
theorem finite (x : FVec Ideal S40960x1024 .f32) (h : FVec Ideal S40960x1024 .bf16) (mod : FVec Ideal S2x6x8x1024 .f32)
    (ow : FVec Ideal S1024x1024 .f32) (g : FVec Ideal S1024 .f32) (rw : FVec Ideal S1024x8 .f32) (rb : FVec Ideal S8 .f32)
    (hp : Cert.Pre_finite_logits.fn (F := Ideal) x h mod ow g rw rb = fun _ => 1#1) (i : Cert.WeightsRefIdeal.S40960x8.Idx) :
    Cert.WeightsRefIdeal.Fin.LG x h mod ow g rw rb i ≠ ⊥ ∧ Cert.WeightsRefIdeal.Fin.LG x h mod ow g rw rb i ≠ ⊤ := by
  have q := congrFun hp i
  replace q : Ideal.cmp .olt (max (Cert.WeightsRefIdeal.Fin.LG x h mod ow g rw rb i) (-Cert.WeightsRefIdeal.Fin.LG x h mod ow g rw rb i))
    (Ideal.ofBits FTy.f32 0x7F800000#32) = 1#1 := q
  rw [ofBits_top] at q
  constructor
  · intro e
    rw [e] at q
    simp [Ideal.cmp] at q
  · intro e
    rw [e] at q
    simp [Ideal.cmp] at q

/-- The logits of token `n`. -/
def logits (c : Dev nD) (n : Fin 40960) : Fin 8 → EReal :=
  Cert.WeightsRefIdeal.Fin.row (Cert.WeightsRefIdeal.Fin.LG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) n

/-- The masked scores of a tile's row are its token's logits. -/
theorem scored (c : Dev nD) (t : Fin cfg0.N) (r : Fin 512) (l : Fin 128) :
    k0_pay8 (k0_pay3 (View.ld (iblk m c 2 t) (Rect.unit ![0, 3, 0, 0] ![1, 1, 8, 1024] inb_S1x6x8x1024_S1x1x8x1024_0_3_0_0)))
      (k0_pay4 (iblk m c 0 t) (View.ld (iblk m c 2 t) (Rect.unit ![0, 2, 0, 0] ![1, 1, 8, 1024] inb_S1x6x8x1024_S1x1x8x1024_0_2_0_0)) (iblk m c 1 t) (iblk m c 3 t) (iblk m c 4 t))
      (k0_pay5 (View.ld (iblk m c 2 t) (Rect.unit ![0, 4, 0, 0] ![1, 1, 8, 1024] inb_S1x6x8x1024_S1x1x8x1024_0_4_0_0)))
      (iblk m c 5 t) (iblk m c 6 t) (ix2 r l) = lanes (logits m c (tok t r)) l := by
  refine (hpay8 _ _ _ _ _ r l).trans ?_
  refine congrArg (fun f => lanes f l) (funext fun e => ?_)
  refine Eq.trans ?_ (Cert.WeightsRefIdeal.Fin.lg_apply _ _ _ _ _ _ _ (tok t r) e).symm
  unfold scores
  refine congrArg₂ (· + ·) (Finset.sum_congr rfl fun k _ => ?_) (r6 m c t e)
  refine congrArg₂ (· * ·) ((tile_at _ _ _ _ _ _ _ r k).trans (row' m c t r k)) (r5 m c t k e)

variable (hfin : ∀ (c : Dev nD) (n : Fin 40960) (e : Fin 8), logits m c n e ≠ ⊥ ∧ logits m c n e ≠ ⊤)

include hfin in
/-- One element of the weights' tile after its point. -/
theorem point9 (c : Dev nD) (t : Fin cfg0.N) (y : S512x128.Idx) : (dats m 0 c).after 9 t y
    = Cert.WeightsRefIdeal.Fin.LANES (Cert.WeightsRefIdeal.Fin.LG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 (tok t (y 0)) (y 1)) := by
  refine Eq.trans ?_ (Cert.WeightsRefIdeal.Fin.lanes_apply _ (tok t (y 0)) (y 1) (fun e => (hfin c (tok t (y 0)) e).1) (fun e => (hfin c (tok t (y 0)) e).2)).symm
  rw [after0_9]
  unfold out0_9 k0_pay14 k0_pay15 k0_pay16
  frame_out
  refine (congrArg (k0_pay1 _ _ _ _ _) (show y = ix2 (y 0) (y 1) from funext fun a => by match a with | ⟨0, _⟩ => rfl | ⟨1, _⟩ => rfl)).trans ?_
  exact hpay1 _ _ _ _ _ (y 0) (logits m c (tok t (y 0))) (scored m c t (y 0)) (fun e => (hfin c (tok t (y 0)) e).1) (y 1)

include hfin in
/-- The kernel's weights are the reference's. -/
theorem final (c : Dev nD) : (dats m 0 c).arrAt 9 cfg0.N
    = Cert.WeightsRefIdeal.Fin.LANES (Cert.WeightsRefIdeal.Fin.LG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 9 _ (by decide +kernel) fun t hf y => ?_
  blk_simp
  exact (point9 m hfin c t y).trans (congrArg _ (emb_eq9 t y).symm)

end Cert.WeightsIdeal.Fin

end
-- ==== Proof.ScanRows.lean ====
module

public import Idealize.ShloMosaic.Lib.Pipeline.ValueKit

/-! The forward recurrence over its sequences: the convolution over four neighbouring rows, the two gates, and the recurrence
    itself. Forty sequences lie in the array of rows: 32 prompts of 256 rows, then 8 samples of 4096. Eight sequences are
    interleaved: consecutive rows belong to consecutive sequences. -/

@[expose] public section

noncomputable section

namespace Cert.ScanRows

open Idealize.ShloMosaic

/-- The convolution: a bias and four neighbouring rows, each by its weights. -/
def conv (w : Fin 4 → Fin 512 → EReal) (b : Fin 512 → EReal) (x0 x1 x2 x3 : Fin 512 → EReal) (d : Fin 512) : EReal :=
  b d + x0 d * w 0 d + x1 d * w 1 d + x2 d * w 2 d + x3 d * w 3 d

/-- A gate: the logistic of a row times a block-diagonal matrix of eight heads, plus a bias. -/
def gate (w : Fin 8 → Fin 64 → Fin 64 → EReal) (b : Fin 512 → EReal) (c : Fin 512 → EReal) (d : Fin 512) : EReal :=
  Ideal.logistic ((∑ q : Fin 64, w ⟨d.val / 64, by omega⟩ q ⟨d.val % 64, by omega⟩ * c ⟨d.val / 64 * 64 + q.val, by omega⟩) + b d)

/-- The softplus. -/
def soft (n : EReal) : EReal := max n 0 + Ideal.log1p (Ideal.exp (-(FloatOps.absf (F := Ideal) (φ := .f32) n)))

/-- The logarithm of a decay, of the gate `r` and the parameter `l`. -/
def rate (r l : EReal) : EReal := Ideal.ofBits .f32 0xC1000000#32 * r * soft (-l)

/-- The decay. -/
def decay (r l : EReal) : EReal := Ideal.exp (rate r l)

/-- What a row adds: of the two gates `r` and `i`, the parameter `l` and the convolved row `c`. -/
def input (r i l c : EReal) : EReal :=
  Ideal.sqrt (-(Ideal.exp (Ideal.ofBits .f32 0x40000000#32 * rate r l) - 1)) * (i * c)

/-- What the recurrence reads. -/
@[ext] structure Params where
  /-- The projected rows. -/
  proj : Fin 40960 → Fin 1536 → EReal
  /-- The samples' states before the recurrence. -/
  state : Fin 8 → Fin 512 → EReal
  /-- The convolution's weights. -/
  w : Fin 4 → Fin 512 → EReal
  /-- The convolution's bias. -/
  b : Fin 512 → EReal
  /-- The first gate's weights. -/
  wa : Fin 8 → Fin 64 → Fin 64 → EReal
  /-- The first gate's bias. -/
  ba : Fin 512 → EReal
  /-- The second gate's weights. -/
  wx : Fin 8 → Fin 64 → Fin 64 → EReal
  /-- The second gate's bias. -/
  bx : Fin 512 → EReal
  /-- The decay's parameters. -/
  lam : Fin 512 → EReal

/-- The length of sequence `s`. -/
def len (s : ℕ) : ℕ := if s < 32 then 256 else 4096
/-- The first row of the eight sequences that `s` is interleaved with. -/
def lo (s : ℕ) : ℕ := if s < 32 then s / 8 * 2048 else 8192

variable (P : Params)

/-- Row `R`, its first 512 columns. -/
def Params.x (R : ℕ) (d : Fin 512) : EReal := if h : R < 40960 then P.proj ⟨R, h⟩ ⟨d.val, by omega⟩ else 0
/-- The state that sequence `s` starts from. -/
def Params.h0 (s : ℕ) (d : Fin 512) : EReal := if h : 32 ≤ s ∧ s - 32 < 8 then P.state ⟨s - 32, h.2⟩ d else 0
/-- The row two before position `j` of sequence `s`, zero outside the sequence. -/
def Params.tap (s j : ℕ) (d : Fin 512) : EReal := if 2 ≤ j ∧ j - 2 < len s then P.x (lo s + (j - 2) * 8 + s % 8) d else 0
/-- The convolved row `t` of sequence `s`. -/
def Params.xc (s t : ℕ) (d : Fin 512) : EReal := conv P.w P.b (P.tap s t) (P.tap s (1 + t)) (P.tap s (2 + t)) (P.tap s (3 + t)) d
/-- Its decays. -/
def Params.a (s t : ℕ) (d : Fin 512) : EReal := decay (gate P.wa P.ba (P.xc s t) d) (P.lam d)
/-- Its inputs. -/
def Params.u (s t : ℕ) (d : Fin 512) : EReal := input (gate P.wa P.ba (P.xc s t) d) (gate P.wx P.bx (P.xc s t) d) (P.lam d) (P.xc s t d)
/-- The state of sequence `s` after `t` rows. -/
def Params.h (s : ℕ) : ℕ → Fin 512 → EReal
  | 0, d => P.h0 s d
  | t + 1, d => P.a s t d * Params.h s t d + P.u s t d

/-- The state that row `R` leaves. -/
def Params.row (R : ℕ) (d : Fin 512) : EReal :=
  if R < 8192 then P.h (R / 2048 * 8 + R % 8) (R / 8 % 256 + 1) d else P.h (32 + (R - 8192) % 8) ((R - 8192) / 8 + 1) d
/-- The state that sequence `s` ends in. -/
def Params.last (s : ℕ) (d : Fin 512) : EReal := P.h s (len s) d

end Cert.ScanRows

end
-- ==== Proof.ScanRef.lean ====
module

public import proofs.«01_k».proof.Proof.Gen.ScanRefIdeal.Run
public import proofs.«01_k».proof.Proof.ScanRows
public import Idealize.ShloMosaic.Lib.Pipeline.ValueKit
public import Idealize.ShloMosaic.Lib.DynamicIndex
public import Idealize.ShloMosaic.Lib.WordCmp

/-! The forward recurrence's reference: its results are the states of `Cert.ScanRows`. -/

set_option maxRecDepth 100000

@[expose] public section

noncomputable section

namespace Cert.ScanRefIdeal.Tiles

open Cert.ScanRefIdeal Cert.ScanRefIdeal.Gen Cert.ScanRefIdeal.Value Idealize.ShloMosaic Idealize.ShloMosaic.StableHlo
  Idealize.ShloMosaic.Pipeline Idealize.ShloMosaic.TcCoe Idealize.SL.Sem Cert.ScanRows

/-! ## The loop -/

section Loop

variable (V : Valuation τ sig (Elt Ideal))

/-- The decays a valuation holds. -/
abbrev vA : S4096x40x512.Idx → EReal := V (Proc.devRef .tc main_v160_0)
/-- The inputs it holds. -/
abbrev vU : S4096x40x512.Idx → EReal := V (Proc.devRef .tc main_v160_1)
/-- The counter it holds. -/
abbrev vC : S_.Idx → BitVec 32 := V (Proc.devRef .tc main_v160_2)
/-- The states it holds. -/
abbrev vH : S40x512.Idx → EReal := V (Proc.devRef .tc main_v160_3)
/-- The rows it holds. -/
abbrev vO : S4096x40x512.Idx → EReal := V (Proc.devRef .tc main_v160_4)

/-- Small numbers read as signed words. -/
theorem toInt_small (k : ℕ) (hk : k < 4096) : (BitVec.ofNat 32 k).toInt = (k : ℤ) := by
  rw [BitVec.toInt_eq_toNat_of_lt (by rw [BitVec.toNat_ofNat]; omega), BitVec.toNat_ofNat, Nat.mod_eq_of_lt (by omega)]

/-- The loop's starts at counter `k`. -/
theorem starts (k : ℕ) (hk : k < 4096) (hc : vC V = fun _ => BitVec.ofNat 32 k) (a : Fin 3) :
    (((![V (Proc.devRef .tc main_v160_2), constantI S_ 32 0#32, constantI S_ 32 0#32] : Fin 3 → (⟨S_, .i32⟩ : BufTy).Contents (Elt Ideal))) a
      (Shape.Idx.first h_S_)).toInt = ((![k, 0, 0] : Fin 3 → ℕ) a : ℤ) := by
  match a with
  | ⟨0, _⟩ => exact (congrArg BitVec.toInt (congrFun hc _)).trans (toInt_small k hk)
  | ⟨1, _⟩ => rfl
  | ⟨2, _⟩ => rfl

/-- Step `k` lies inside the array of all steps. -/
theorem fits (k : ℕ) (hk : k < 4096) : S4096x40x512.Slices ![k, 0, 0] S1x40x512 := by
  refine ⟨rfl, fun a => ?_⟩
  match a with
  | ⟨0, _⟩ => show k + 1 ≤ 4096; omega
  | ⟨1, _⟩ => exact le_refl _
  | ⟨2, _⟩ => exact le_refl _

/-- One step's states. -/
theorem res_at (k : ℕ) (hk : k < 4096) (hc : vC V = fun _ => BitVec.ofNat 32 k) (y : S40x512.Idx) :
    (show S40x512.Idx → EReal from res_main_while0b_v179 V) y
      = vA V (ix3 ⟨k, hk⟩ (y 0) (y 1)) * vH V y + vU V (ix3 ⟨k, hk⟩ (y 0) (y 1)) := by
  unfold res_main_while0b_v179
  rw [Host.dynamicSlice_eq_extractStridedSlice S1x40x512 (V (Proc.devRef .tc main_v160_0)) _ ![k, 0, 0] _ (fits k hk) (starts V k hk hc),
    Host.dynamicSlice_eq_extractStridedSlice S1x40x512 (V (Proc.devRef .tc main_v160_1)) _ ![k, 0, 0] _ (fits k hk) (starts V k hk hc)]
  pointwise []

/-- One step's rows. -/
theorem out_at (k : ℕ) (hk : k < 4096) (hc : vC V = fun _ => BitVec.ofNat 32 k) (t : Fin 4096) (s : Fin 40) (d : Fin 512) :
    (show S4096x40x512.Idx → EReal from step_main_v160_4 V) (ix3 t s d)
      = if t.val = k then (show S40x512.Idx → EReal from res_main_while0b_v179 V) (ix2 s d) else vO V (ix3 t s d) := by
  unfold step_main_v160_4
  rw [WordCmp.dynamicUpdateSlice_eq_update (V (Proc.devRef .tc main_v160_4)) _ _ _ ![k, 0, 0] (fits k hk) (starts V k hk hc)]
  pointwise [id]
  by_cases e : t.val = k
  · rw [if_pos e]
    refine dif_pos fun a => ?_
    match a with
    | ⟨0, _⟩ => show k ≤ t.val ∧ t.val < k + 1; omega
    | ⟨1, _⟩ => show 0 ≤ s.val ∧ s.val < 0 + 40; omega
    | ⟨2, _⟩ => show 0 ≤ d.val ∧ d.val < 0 + 512; omega
  · rw [if_neg e]
    refine dif_neg fun h => e ?_
    have h0 : k ≤ t.val ∧ t.val < k + 1 := h 0
    omega

/-- The states after `k` steps. -/
def HR (a u : S4096x40x512.Idx → EReal) (h : S40x512.Idx → EReal) : ℕ → S40x512.Idx → EReal
  | 0 => h
  | k + 1 => fun y => if hk : k < 4096 then a (ix3 ⟨k, hk⟩ (y 0) (y 1)) * HR a u h k y + u (ix3 ⟨k, hk⟩ (y 0) (y 1)) else 0

/-- One step of the recurrence. -/
theorem HR_succ (a u : S4096x40x512.Idx → EReal) (h : S40x512.Idx → EReal) (k : ℕ) (hk : k < 4096) (y : S40x512.Idx) :
    HR a u h (k + 1) y = a (ix3 ⟨k, hk⟩ (y 0) (y 1)) * HR a u h k y + u (ix3 ⟨k, hk⟩ (y 0) (y 1)) := by
  have e : HR a u h (k + 1) = fun y => if hk : k < 4096 then a (ix3 ⟨k, hk⟩ (y 0) (y 1)) * HR a u h k y + u (ix3 ⟨k, hk⟩ (y 0) (y 1)) else 0 := rfl
  exact (congrFun e y).trans (dif_pos hk)

/-- The loop after `k` steps. -/
theorem iter (hc : vC V = fun _ => 0#32) : ∀ k : ℕ, k ≤ 4096 →
    (vC (STEP^[k] V) = fun _ => BitVec.ofNat 32 k) ∧ vA (STEP^[k] V) = vA V ∧ vU (STEP^[k] V) = vU V
      ∧ vH (STEP^[k] V) = HR (vA V) (vU V) (vH V) k
      ∧ ∀ (t : Fin 4096) (s : Fin 40) (d : Fin 512), t.val < k → vO (STEP^[k] V) (ix3 t s d) = HR (vA V) (vU V) (vH V) (t.val + 1) (ix2 s d)
  | 0, _ => ⟨hc, rfl, rfl, rfl, fun _ _ _ h => absurd h (Nat.not_lt_zero _)⟩
  | k + 1, hk => by
    obtain ⟨h1, h2, h3, h4, h5⟩ := iter hc k (by omega)
    rw [Function.iterate_succ_apply']
    have hk' : k < 4096 := by omega
    have hr : ∀ y : S40x512.Idx, (show S40x512.Idx → EReal from res_main_while0b_v179 (STEP^[k] V)) y = HR (vA V) (vU V) (vH V) (k + 1) y := by
      intro y
      rw [res_at _ k hk' h1, h2, h3, h4]
      exact (HR_succ _ _ _ k hk' y).symm
    refine ⟨?_, (STEP_main_v160_0 _).trans h2, (STEP_main_v160_1 _).trans h3, (STEP_main_v160_3 _).trans (funext hr), fun t s d ht => ?_⟩
    · refine (STEP_main_v160_2 _).trans (funext fun i => ?_)
      refine (congrArg (· + 1#32) (congrFun h1 i)).trans ?_
      exact (BitVec.ofNat_add k 1).symm
    · refine (congrFun (STEP_main_v160_4 _) _).trans ((out_at _ k hk' h1 t s d).trans ?_)
      split
      · next e => rw [hr, e]
      · exact h5 t s d (by omega)

end Loop

/-! ## What the loop starts from -/

section Entry

variable (m : (ℓ : Loc nD τ sig) → Buf (Elt Ideal) ℓ) (c : Dev nD)

/-- What the recurrence reads, of the memory. -/
def params : Params where
  proj R d := (m ((c.tc : Thread nD τ).loc main_arg0) : S40960x1536.Idx → EReal) (ix2 R d)
  state q d := (m ((c.tc : Thread nD τ).loc main_arg1) : S8x512.Idx → EReal) (ix2 q d)
  w k d := (m ((c.tc : Thread nD τ).loc main_arg2) : S4x512.Idx → EReal) (ix2 k d)
  b d := (m ((c.tc : Thread nD τ).loc main_arg3) : S512.Idx → EReal) (ix1 d)
  wa h i j := (m ((c.tc : Thread nD τ).loc main_arg4) : S8x64x64.Idx → EReal) (ix3 h i j)
  ba d := (m ((c.tc : Thread nD τ).loc main_arg5) : S512.Idx → EReal) (ix1 d)
  wx h i j := (m ((c.tc : Thread nD τ).loc main_arg6) : S8x64x64.Idx → EReal) (ix3 h i j)
  bx d := (m ((c.tc : Thread nD τ).loc main_arg7) : S512.Idx → EReal) (ix1 d)
  lam d := (m ((c.tc : Thread nD τ).loc main_arg8) : S512.Idx → EReal) (ix1 d)

/-- A valuation that holds the memory's arguments. -/
structure Args (X : Valuation τ sig (Elt Ideal)) : Prop where
  a0 : X (Proc.devRef .tc main_arg0) = m ((c.tc : Thread nD τ).loc main_arg0)
  a1 : X (Proc.devRef .tc main_arg1) = m ((c.tc : Thread nD τ).loc main_arg1)
  a2 : X (Proc.devRef .tc main_arg2) = m ((c.tc : Thread nD τ).loc main_arg2)
  a3 : X (Proc.devRef .tc main_arg3) = m ((c.tc : Thread nD τ).loc main_arg3)
  a4 : X (Proc.devRef .tc main_arg4) = m ((c.tc : Thread nD τ).loc main_arg4)
  a5 : X (Proc.devRef .tc main_arg5) = m ((c.tc : Thread nD τ).loc main_arg5)
  a6 : X (Proc.devRef .tc main_arg6) = m ((c.tc : Thread nD τ).loc main_arg6)
  a7 : X (Proc.devRef .tc main_arg7) = m ((c.tc : Thread nD τ).loc main_arg7)
  a8 : X (Proc.devRef .tc main_arg8) = m ((c.tc : Thread nD τ).loc main_arg8)

/-- The prompts' decays. -/
theorem a_p (X : Valuation τ sig (Elt Ideal)) (hA : Args m c X)
    (hX : ∀ (s : Fin 32) (j : Fin 259) (d : Fin 512), (X (Proc.devRef .tc main_v5) : S32x259x512.Idx → EReal) (ix3 s j d) = (params m c).tap s.val j.val d)
    (s : Fin 32) (t : Fin 256) (d : Fin 512) :
    (after hostOps0_4 (after hostOps0_3 (after hostOps0_2 X)) (Proc.devRef .tc main_v68) : S32x256x512.Idx → EReal) (ix3 s t d) = (params m c).a s.val t.val d := by
  after_results_simp_entrywise
  simp only [TRef.ofBuf_toBuf, TRef.ofBuf, TRef.toBuf, cast_eq]
  pointwise []
  simp only [hX, hA.a2, hA.a3, hA.a4, hA.a5, hA.a8, ne_eq, not_true_eq_false, if_false]
  rfl

/-- The prompts' inputs. -/
theorem u_p (X : Valuation τ sig (Elt Ideal)) (hA : Args m c X)
    (hX : ∀ (s : Fin 32) (j : Fin 259) (d : Fin 512), (X (Proc.devRef .tc main_v5) : S32x259x512.Idx → EReal) (ix3 s j d) = (params m c).tap s.val j.val d)
    (s : Fin 32) (t : Fin 256) (d : Fin 512) :
    (after hostOps0_4 (after hostOps0_3 (after hostOps0_2 X)) (Proc.devRef .tc main_v75) : S32x256x512.Idx → EReal) (ix3 s t d) = (params m c).u s.val t.val d := by
  after_results_simp_entrywise
  simp only [TRef.ofBuf_toBuf, TRef.ofBuf, TRef.toBuf, cast_eq]
  pointwise []
  simp only [hX, hA.a2, hA.a3, hA.a4, hA.a5, hA.a6, hA.a7, hA.a8, ne_eq, not_true_eq_false, if_false]
  rfl

/-- The samples' decays. -/
theorem a_z (X : Valuation τ sig (Elt Ideal)) (hA : Args m c X)
    (hX : ∀ (s : Fin 8) (j : Fin 4099) (d : Fin 512), (X (Proc.devRef .tc main_v80) : S8x4099x512.Idx → EReal) (ix3 s j d) = (params m c).tap (s.val + 32) j.val d)
    (s : Fin 8) (t : Fin 4096) (d : Fin 512) :
    (after hostOps0_8 (after hostOps0_7 (after hostOps0_6 X)) (Proc.devRef .tc main_v143) : S8x4096x512.Idx → EReal) (ix3 s t d) = (params m c).a (s.val + 32) t.val d := by
  after_results_simp_entrywise
  simp only [TRef.ofBuf_toBuf, TRef.ofBuf, TRef.toBuf, cast_eq]
  pointwise []
  simp only [hX, hA.a2, hA.a3, hA.a4, hA.a5, hA.a8, ne_eq, not_true_eq_false, if_false]
  rfl

/-- The samples' inputs. -/
theorem u_z (X : Valuation τ sig (Elt Ideal)) (hA : Args m c X)
    (hX : ∀ (s : Fin 8) (j : Fin 4099) (d : Fin 512), (X (Proc.devRef .tc main_v80) : S8x4099x512.Idx → EReal) (ix3 s j d) = (params m c).tap (s.val + 32) j.val d)
    (s : Fin 8) (t : Fin 4096) (d : Fin 512) :
    (after hostOps0_8 (after hostOps0_7 (after hostOps0_6 X)) (Proc.devRef .tc main_v150) : S8x4096x512.Idx → EReal) (ix3 s t d) = (params m c).u (s.val + 32) t.val d := by
  after_results_simp_entrywise
  simp only [TRef.ofBuf_toBuf, TRef.ofBuf, TRef.toBuf, cast_eq]
  pointwise []
  simp only [hX, hA.a2, hA.a3, hA.a4, hA.a5, hA.a6, hA.a7, hA.a8, ne_eq, not_true_eq_false, if_false]
  rfl

/-- A zero word as a number. -/
theorem zero_word : (FloatOps.sitofp (F := Ideal) .f32 (0#32) : EReal) = 0 := by
  show (((BitVec.toInt (0#32) : ℤ) : ℝ) : EReal) = 0
  simp

/-- A row inside the array. -/
theorem x_of (P : Params) (R : ℕ) (h : R < 40960) (d : Fin 512) : P.x R d = P.proj ⟨R, h⟩ ⟨d.val, by omega⟩ := dif_pos h

/-- The prompts' rows. -/
theorem rows_p (X : Valuation τ sig (Elt Ideal)) (s : Fin 32) (t : Fin 256) (d : Fin 512) :
    (after hostOps0 X (Proc.devRef .tc main_v4) : S32x256x512.Idx → EReal) (ix3 s t d)
      = (X (Proc.devRef .tc main_arg0) : S40960x1536.Idx → EReal) (ix2 ⟨s.val / 8 * 2048 + t.val * 8 + s.val % 8, by omega⟩ ⟨d.val, by omega⟩) := by
  after_results_simp_entrywise
  pointwise []

/-- The word the prompts are padded with. -/
theorem word_p (X : Valuation τ sig (Elt Ideal)) : (after hostOps0 X (Proc.devRef .tc main_c) : S_.Idx → BitVec 32) = fun _ => 0#32 := by
  after_results_simp_entrywise
  rfl

/-- The prompts' rows, padded. -/
theorem pad_p (X : Valuation τ sig (Elt Ideal)) (hw : (X (Proc.devRef .tc main_c) : S_.Idx → BitVec 32) = fun _ => 0#32)
    (s : Fin 32) (j : Fin 259) (d : Fin 512) :
    (after hostOps0_1 X (Proc.devRef .tc main_v5) : S32x259x512.Idx → EReal) (ix3 s j d)
      = if h : 2 ≤ j.val ∧ j.val - 2 < 256 then (X (Proc.devRef .tc main_v4) : S32x256x512.Idx → EReal) (ix3 s ⟨j.val - 2, h.2⟩ d) else (0 : EReal) := by
  after_results_simp_entrywise
  simp only [TRef.ofBuf_toBuf, TRef.ofBuf, TRef.toBuf, cast_eq]
  pointwise []
  rw [hw, zero_word]

/-- The same, as the rows of a sequence. -/
theorem tap_p (X : Valuation τ sig (Elt Ideal)) (hA : Args m c X) (s : Fin 32) (j : Fin 259) (d : Fin 512) :
    (after hostOps0_1 (after hostOps0 X) (Proc.devRef .tc main_v5) : S32x259x512.Idx → EReal) (ix3 s j d) = (params m c).tap s.val j.val d := by
  have hs := s.isLt
  have hl : len s.val = 256 := if_pos hs
  have ho : lo s.val = s.val / 8 * 2048 := if_pos hs
  refine (pad_p _ (word_p X) s j d).trans ?_
  unfold Params.tap
  rw [hl, ho]
  by_cases h : 2 ≤ j.val ∧ j.val - 2 < 256
  · rw [dif_pos h, if_pos h, x_of _ _ (by omega)]
    refine (rows_p X s ⟨j.val - 2, h.2⟩ d).trans ?_
    rw [hA.a0]
    rfl
  · rw [dif_neg h, if_neg h]

/-- The samples' rows. -/
theorem rows_z (X : Valuation τ sig (Elt Ideal)) (s : Fin 8) (t : Fin 4096) (d : Fin 512) :
    (after hostOps0_4 X (Proc.devRef .tc main_v79) : S8x4096x512.Idx → EReal) (ix3 s t d)
      = (X (Proc.devRef .tc main_arg0) : S40960x1536.Idx → EReal) (ix2 ⟨8192 + (t.val * 8 + s.val), by omega⟩ ⟨d.val, by omega⟩) := by
  after_results_simp_entrywise
  pointwise []

/-- The word the samples are padded with. -/
theorem word_z (X : Valuation τ sig (Elt Ideal)) : (after hostOps0_4 X (Proc.devRef .tc main_c_5) : S_.Idx → BitVec 32) = fun _ => 0#32 := by
  after_results_simp_entrywise
  rfl

/-- The samples' rows, padded. -/
theorem pad_z (X : Valuation τ sig (Elt Ideal)) (hw : (X (Proc.devRef .tc main_c_5) : S_.Idx → BitVec 32) = fun _ => 0#32)
    (s : Fin 8) (j : Fin 4099) (d : Fin 512) :
    (after hostOps0_5 X (Proc.devRef .tc main_v80) : S8x4099x512.Idx → EReal) (ix3 s j d)
      = if h : 2 ≤ j.val ∧ j.val - 2 < 4096 then (X (Proc.devRef .tc main_v79) : S8x4096x512.Idx → EReal) (ix3 s ⟨j.val - 2, h.2⟩ d) else (0 : EReal) := by
  after_results_simp_entrywise
  simp only [TRef.ofBuf_toBuf, TRef.ofBuf, TRef.toBuf, cast_eq]
  pointwise []
  rw [hw, zero_word]

/-- The same, as the rows of a sequence. -/
theorem tap_z (X : Valuation τ sig (Elt Ideal)) (hA : Args m c X) (s : Fin 8) (j : Fin 4099) (d : Fin 512) :
    (after hostOps0_5 (after hostOps0_4 X) (Proc.devRef .tc main_v80) : S8x4099x512.Idx → EReal) (ix3 s j d) = (params m c).tap (s.val + 32) j.val d := by
  have hs := s.isLt
  have hl : len (s.val + 32) = 4096 := if_neg (by omega)
  have ho : lo (s.val + 32) = 8192 := if_neg (by omega)
  refine (pad_z _ (word_z X) s j d).trans ?_
  unfold Params.tap
  rw [hl, ho]
  by_cases h : 2 ≤ j.val ∧ j.val - 2 < 4096
  · rw [dif_pos h, if_pos h, x_of _ _ (by omega)]
    refine (rows_z X s ⟨j.val - 2, h.2⟩ d).trans ?_
    rw [hA.a0]
    refine congrArg (fun R => (params m c).proj R ⟨d.val, by omega⟩) (Fin.ext ?_)
    show 8192 + ((j.val - 2) * 8 + s.val) = 8192 + (j.val - 2) * 8 + (s.val + 32) % 8
    omega
  · rw [dif_neg h, if_neg h]

/-- The decays the loop starts from. -/
theorem last_a (P : Params) (Y : Valuation τ sig (Elt Ideal))
    (hp : ∀ (s : Fin 32) (t : Fin 256) (d : Fin 512), (Y (Proc.devRef .tc main_v68) : S32x256x512.Idx → EReal) (ix3 s t d) = P.a s.val t.val d)
    (hz : ∀ (s : Fin 8) (t : Fin 4096) (d : Fin 512), (Y (Proc.devRef .tc main_v143) : S8x4096x512.Idx → EReal) (ix3 s t d) = P.a (s.val + 32) t.val d)
    (t : Fin 4096) (s : Fin 40) (d : Fin 512) (ht : t.val < len s.val) :
    (after hostOps0_12 (after hostOps0_11 (after hostOps0_10 (after hostOps0_9 Y))) (Proc.devRef .tc main_v160_0) : S4096x40x512.Idx → EReal) (ix3 t s d) = P.a s.val t.val d := by
  after_results_simp_entrywise
  pointwise [id]
  (try after_results_simp_entrywise)
  simp only [TRef.ofBuf_toBuf, TRef.ofBuf, TRef.toBuf, cast_eq]
  pointwise [id]
  by_cases h : s.val < 32
  · have hl : len s.val = 256 := if_pos h
    rw [dif_pos h, dif_pos ⟨h, by omega⟩]
    exact hp _ _ _
  · rw [dif_neg h]
    refine (hz _ _ _).trans ?_
    show P.a (s.val - 32 + 32) t.val d = _
    rw [show s.val - 32 + 32 = s.val by omega]

/-- The inputs the loop starts from. -/
theorem last_u (P : Params) (Y : Valuation τ sig (Elt Ideal))
    (hp : ∀ (s : Fin 32) (t : Fin 256) (d : Fin 512), (Y (Proc.devRef .tc main_v75) : S32x256x512.Idx → EReal) (ix3 s t d) = P.u s.val t.val d)
    (hz : ∀ (s : Fin 8) (t : Fin 4096) (d : Fin 512), (Y (Proc.devRef .tc main_v150) : S8x4096x512.Idx → EReal) (ix3 s t d) = P.u (s.val + 32) t.val d)
    (t : Fin 4096) (s : Fin 40) (d : Fin 512) (ht : t.val < len s.val) :
    (after hostOps0_12 (after hostOps0_11 (after hostOps0_10 (after hostOps0_9 Y))) (Proc.devRef .tc main_v160_1) : S4096x40x512.Idx → EReal) (ix3 t s d) = P.u s.val t.val d := by
  after_results_simp_entrywise
  pointwise [id]
  (try after_results_simp_entrywise)
  simp only [TRef.ofBuf_toBuf, TRef.ofBuf, TRef.toBuf, cast_eq]
  pointwise [id]
  by_cases h : s.val < 32
  · have hl : len s.val = 256 := if_pos h
    rw [dif_pos h, dif_pos ⟨h, by omega⟩]
    exact hp _ _ _
  · rw [dif_neg h]
    refine (hz _ _ _).trans ?_
    show P.u (s.val - 32 + 32) t.val d = _
    rw [show s.val - 32 + 32 = s.val by omega]

/-- The states the loop starts from. -/
theorem last_h (Y : Valuation τ sig (Elt Ideal)) (hA : Args m c Y) (s : Fin 40) (d : Fin 512) :
    (after hostOps0_12 Y (Proc.devRef .tc main_v160_3) : S40x512.Idx → EReal) (ix2 s d) = (params m c).h0 s.val d := by
  after_results_simp_entrywise
  pointwise [id]
  (try after_results_simp_entrywise)
  pointwise [id]
  simp only [hA.a1]
  by_cases h : s.val < 32
  · rw [dif_pos h]
    unfold Params.h0
    rw [dif_neg (by omega)]
  · rw [dif_neg h]
    unfold Params.h0
    rw [dif_pos (⟨by omega, by omega⟩ : 32 ≤ s.val ∧ s.val - 32 < 8)]
    rfl

/-- Stretch 0 of the operations keeps the arguments. -/
theorem args_0 (X : Valuation τ sig (Elt Ideal)) (hA : Args m c X) : Args m c (after hostOps0 X) where
  a0 := (after_of_writes_sub _ _ hostOps0_writes (by decide +kernel)).trans hA.a0
  a1 := (after_of_writes_sub _ _ hostOps0_writes (by decide +kernel)).trans hA.a1
  a2 := (after_of_writes_sub _ _ hostOps0_writes (by decide +kernel)).trans hA.a2
  a3 := (after_of_writes_sub _ _ hostOps0_writes (by decide +kernel)).trans hA.a3
  a4 := (after_of_writes_sub _ _ hostOps0_writes (by decide +kernel)).trans hA.a4
  a5 := (after_of_writes_sub _ _ hostOps0_writes (by decide +kernel)).trans hA.a5
  a6 := (after_of_writes_sub _ _ hostOps0_writes (by decide +kernel)).trans hA.a6
  a7 := (after_of_writes_sub _ _ hostOps0_writes (by decide +kernel)).trans hA.a7
  a8 := (after_of_writes_sub _ _ hostOps0_writes (by decide +kernel)).trans hA.a8

/-- Stretch 1 of the operations keeps the arguments. -/
theorem args_1 (X : Valuation τ sig (Elt Ideal)) (hA : Args m c X) : Args m c (after hostOps0_1 X) where
  a0 := (after_of_writes_sub _ _ hostOps0_1_writes (by decide +kernel)).trans hA.a0
  a1 := (after_of_writes_sub _ _ hostOps0_1_writes (by decide +kernel)).trans hA.a1
  a2 := (after_of_writes_sub _ _ hostOps0_1_writes (by decide +kernel)).trans hA.a2
  a3 := (after_of_writes_sub _ _ hostOps0_1_writes (by decide +kernel)).trans hA.a3
  a4 := (after_of_writes_sub _ _ hostOps0_1_writes (by decide +kernel)).trans hA.a4
  a5 := (after_of_writes_sub _ _ hostOps0_1_writes (by decide +kernel)).trans hA.a5
  a6 := (after_of_writes_sub _ _ hostOps0_1_writes (by decide +kernel)).trans hA.a6
  a7 := (after_of_writes_sub _ _ hostOps0_1_writes (by decide +kernel)).trans hA.a7
  a8 := (after_of_writes_sub _ _ hostOps0_1_writes (by decide +kernel)).trans hA.a8

/-- Stretch 2 of the operations keeps the arguments. -/
theorem args_2 (X : Valuation τ sig (Elt Ideal)) (hA : Args m c X) : Args m c (after hostOps0_2 X) where
  a0 := (after_of_writes_sub _ _ hostOps0_2_writes (by decide +kernel)).trans hA.a0
  a1 := (after_of_writes_sub _ _ hostOps0_2_writes (by decide +kernel)).trans hA.a1
  a2 := (after_of_writes_sub _ _ hostOps0_2_writes (by decide +kernel)).trans hA.a2
  a3 := (after_of_writes_sub _ _ hostOps0_2_writes (by decide +kernel)).trans hA.a3
  a4 := (after_of_writes_sub _ _ hostOps0_2_writes (by decide +kernel)).trans hA.a4
  a5 := (after_of_writes_sub _ _ hostOps0_2_writes (by decide +kernel)).trans hA.a5
  a6 := (after_of_writes_sub _ _ hostOps0_2_writes (by decide +kernel)).trans hA.a6
  a7 := (after_of_writes_sub _ _ hostOps0_2_writes (by decide +kernel)).trans hA.a7
  a8 := (after_of_writes_sub _ _ hostOps0_2_writes (by decide +kernel)).trans hA.a8

/-- Stretch 3 of the operations keeps the arguments. -/
theorem args_3 (X : Valuation τ sig (Elt Ideal)) (hA : Args m c X) : Args m c (after hostOps0_3 X) where
  a0 := (after_of_writes_sub _ _ hostOps0_3_writes (by decide +kernel)).trans hA.a0
  a1 := (after_of_writes_sub _ _ hostOps0_3_writes (by decide +kernel)).trans hA.a1
  a2 := (after_of_writes_sub _ _ hostOps0_3_writes (by decide +kernel)).trans hA.a2
  a3 := (after_of_writes_sub _ _ hostOps0_3_writes (by decide +kernel)).trans hA.a3
  a4 := (after_of_writes_sub _ _ hostOps0_3_writes (by decide +kernel)).trans hA.a4
  a5 := (after_of_writes_sub _ _ hostOps0_3_writes (by decide +kernel)).trans hA.a5
  a6 := (after_of_writes_sub _ _ hostOps0_3_writes (by decide +kernel)).trans hA.a6
  a7 := (after_of_writes_sub _ _ hostOps0_3_writes (by decide +kernel)).trans hA.a7
  a8 := (after_of_writes_sub _ _ hostOps0_3_writes (by decide +kernel)).trans hA.a8

/-- Stretch 4 of the operations keeps the arguments. -/
theorem args_4 (X : Valuation τ sig (Elt Ideal)) (hA : Args m c X) : Args m c (after hostOps0_4 X) where
  a0 := (after_of_writes_sub _ _ hostOps0_4_writes (by decide +kernel)).trans hA.a0
  a1 := (after_of_writes_sub _ _ hostOps0_4_writes (by decide +kernel)).trans hA.a1
  a2 := (after_of_writes_sub _ _ hostOps0_4_writes (by decide +kernel)).trans hA.a2
  a3 := (after_of_writes_sub _ _ hostOps0_4_writes (by decide +kernel)).trans hA.a3
  a4 := (after_of_writes_sub _ _ hostOps0_4_writes (by decide +kernel)).trans hA.a4
  a5 := (after_of_writes_sub _ _ hostOps0_4_writes (by decide +kernel)).trans hA.a5
  a6 := (after_of_writes_sub _ _ hostOps0_4_writes (by decide +kernel)).trans hA.a6
  a7 := (after_of_writes_sub _ _ hostOps0_4_writes (by decide +kernel)).trans hA.a7
  a8 := (after_of_writes_sub _ _ hostOps0_4_writes (by decide +kernel)).trans hA.a8

/-- Stretch 5 of the operations keeps the arguments. -/
theorem args_5 (X : Valuation τ sig (Elt Ideal)) (hA : Args m c X) : Args m c (after hostOps0_5 X) where
  a0 := (after_of_writes_sub _ _ hostOps0_5_writes (by decide +kernel)).trans hA.a0
  a1 := (after_of_writes_sub _ _ hostOps0_5_writes (by decide +kernel)).trans hA.a1
  a2 := (after_of_writes_sub _ _ hostOps0_5_writes (by decide +kernel)).trans hA.a2
  a3 := (after_of_writes_sub _ _ hostOps0_5_writes (by decide +kernel)).trans hA.a3
  a4 := (after_of_writes_sub _ _ hostOps0_5_writes (by decide +kernel)).trans hA.a4
  a5 := (after_of_writes_sub _ _ hostOps0_5_writes (by decide +kernel)).trans hA.a5
  a6 := (after_of_writes_sub _ _ hostOps0_5_writes (by decide +kernel)).trans hA.a6
  a7 := (after_of_writes_sub _ _ hostOps0_5_writes (by decide +kernel)).trans hA.a7
  a8 := (after_of_writes_sub _ _ hostOps0_5_writes (by decide +kernel)).trans hA.a8

/-- Stretch 6 of the operations keeps the arguments. -/
theorem args_6 (X : Valuation τ sig (Elt Ideal)) (hA : Args m c X) : Args m c (after hostOps0_6 X) where
  a0 := (after_of_writes_sub _ _ hostOps0_6_writes (by decide +kernel)).trans hA.a0
  a1 := (after_of_writes_sub _ _ hostOps0_6_writes (by decide +kernel)).trans hA.a1
  a2 := (after_of_writes_sub _ _ hostOps0_6_writes (by decide +kernel)).trans hA.a2
  a3 := (after_of_writes_sub _ _ hostOps0_6_writes (by decide +kernel)).trans hA.a3
  a4 := (after_of_writes_sub _ _ hostOps0_6_writes (by decide +kernel)).trans hA.a4
  a5 := (after_of_writes_sub _ _ hostOps0_6_writes (by decide +kernel)).trans hA.a5
  a6 := (after_of_writes_sub _ _ hostOps0_6_writes (by decide +kernel)).trans hA.a6
  a7 := (after_of_writes_sub _ _ hostOps0_6_writes (by decide +kernel)).trans hA.a7
  a8 := (after_of_writes_sub _ _ hostOps0_6_writes (by decide +kernel)).trans hA.a8

/-- Stretch 7 of the operations keeps the arguments. -/
theorem args_7 (X : Valuation τ sig (Elt Ideal)) (hA : Args m c X) : Args m c (after hostOps0_7 X) where
  a0 := (after_of_writes_sub _ _ hostOps0_7_writes (by decide +kernel)).trans hA.a0
  a1 := (after_of_writes_sub _ _ hostOps0_7_writes (by decide +kernel)).trans hA.a1
  a2 := (after_of_writes_sub _ _ hostOps0_7_writes (by decide +kernel)).trans hA.a2
  a3 := (after_of_writes_sub _ _ hostOps0_7_writes (by decide +kernel)).trans hA.a3
  a4 := (after_of_writes_sub _ _ hostOps0_7_writes (by decide +kernel)).trans hA.a4
  a5 := (after_of_writes_sub _ _ hostOps0_7_writes (by decide +kernel)).trans hA.a5
  a6 := (after_of_writes_sub _ _ hostOps0_7_writes (by decide +kernel)).trans hA.a6
  a7 := (after_of_writes_sub _ _ hostOps0_7_writes (by decide +kernel)).trans hA.a7
  a8 := (after_of_writes_sub _ _ hostOps0_7_writes (by decide +kernel)).trans hA.a8

/-- Stretch 8 of the operations keeps the arguments. -/
theorem args_8 (X : Valuation τ sig (Elt Ideal)) (hA : Args m c X) : Args m c (after hostOps0_8 X) where
  a0 := (after_of_writes_sub _ _ hostOps0_8_writes (by decide +kernel)).trans hA.a0
  a1 := (after_of_writes_sub _ _ hostOps0_8_writes (by decide +kernel)).trans hA.a1
  a2 := (after_of_writes_sub _ _ hostOps0_8_writes (by decide +kernel)).trans hA.a2
  a3 := (after_of_writes_sub _ _ hostOps0_8_writes (by decide +kernel)).trans hA.a3
  a4 := (after_of_writes_sub _ _ hostOps0_8_writes (by decide +kernel)).trans hA.a4
  a5 := (after_of_writes_sub _ _ hostOps0_8_writes (by decide +kernel)).trans hA.a5
  a6 := (after_of_writes_sub _ _ hostOps0_8_writes (by decide +kernel)).trans hA.a6
  a7 := (after_of_writes_sub _ _ hostOps0_8_writes (by decide +kernel)).trans hA.a7
  a8 := (after_of_writes_sub _ _ hostOps0_8_writes (by decide +kernel)).trans hA.a8

/-- Stretch 9 of the operations keeps the arguments. -/
theorem args_9 (X : Valuation τ sig (Elt Ideal)) (hA : Args m c X) : Args m c (after hostOps0_9 X) where
  a0 := (after_of_writes_sub _ _ hostOps0_9_writes (by decide +kernel)).trans hA.a0
  a1 := (after_of_writes_sub _ _ hostOps0_9_writes (by decide +kernel)).trans hA.a1
  a2 := (after_of_writes_sub _ _ hostOps0_9_writes (by decide +kernel)).trans hA.a2
  a3 := (after_of_writes_sub _ _ hostOps0_9_writes (by decide +kernel)).trans hA.a3
  a4 := (after_of_writes_sub _ _ hostOps0_9_writes (by decide +kernel)).trans hA.a4
  a5 := (after_of_writes_sub _ _ hostOps0_9_writes (by decide +kernel)).trans hA.a5
  a6 := (after_of_writes_sub _ _ hostOps0_9_writes (by decide +kernel)).trans hA.a6
  a7 := (after_of_writes_sub _ _ hostOps0_9_writes (by decide +kernel)).trans hA.a7
  a8 := (after_of_writes_sub _ _ hostOps0_9_writes (by decide +kernel)).trans hA.a8

/-- Stretch 10 of the operations keeps the arguments. -/
theorem args_10 (X : Valuation τ sig (Elt Ideal)) (hA : Args m c X) : Args m c (after hostOps0_10 X) where
  a0 := (after_of_writes_sub _ _ hostOps0_10_writes (by decide +kernel)).trans hA.a0
  a1 := (after_of_writes_sub _ _ hostOps0_10_writes (by decide +kernel)).trans hA.a1
  a2 := (after_of_writes_sub _ _ hostOps0_10_writes (by decide +kernel)).trans hA.a2
  a3 := (after_of_writes_sub _ _ hostOps0_10_writes (by decide +kernel)).trans hA.a3
  a4 := (after_of_writes_sub _ _ hostOps0_10_writes (by decide +kernel)).trans hA.a4
  a5 := (after_of_writes_sub _ _ hostOps0_10_writes (by decide +kernel)).trans hA.a5
  a6 := (after_of_writes_sub _ _ hostOps0_10_writes (by decide +kernel)).trans hA.a6
  a7 := (after_of_writes_sub _ _ hostOps0_10_writes (by decide +kernel)).trans hA.a7
  a8 := (after_of_writes_sub _ _ hostOps0_10_writes (by decide +kernel)).trans hA.a8

/-- Stretch 11 of the operations keeps the arguments. -/
theorem args_11 (X : Valuation τ sig (Elt Ideal)) (hA : Args m c X) : Args m c (after hostOps0_11 X) where
  a0 := (after_of_writes_sub _ _ hostOps0_11_writes (by decide +kernel)).trans hA.a0
  a1 := (after_of_writes_sub _ _ hostOps0_11_writes (by decide +kernel)).trans hA.a1
  a2 := (after_of_writes_sub _ _ hostOps0_11_writes (by decide +kernel)).trans hA.a2
  a3 := (after_of_writes_sub _ _ hostOps0_11_writes (by decide +kernel)).trans hA.a3
  a4 := (after_of_writes_sub _ _ hostOps0_11_writes (by decide +kernel)).trans hA.a4
  a5 := (after_of_writes_sub _ _ hostOps0_11_writes (by decide +kernel)).trans hA.a5
  a6 := (after_of_writes_sub _ _ hostOps0_11_writes (by decide +kernel)).trans hA.a6
  a7 := (after_of_writes_sub _ _ hostOps0_11_writes (by decide +kernel)).trans hA.a7
  a8 := (after_of_writes_sub _ _ hostOps0_11_writes (by decide +kernel)).trans hA.a8

/-- Before the first operation the arguments are the memory's. -/
theorem args_launch : Args m c (launchContents m c) := ⟨rfl, rfl, rfl, rfl, rfl, rfl, rfl, rfl, rfl⟩

/-- The contents once the samples' decays and inputs are made. -/
abbrev mid : Valuation τ sig (Elt Ideal) :=
  after hostOps0_8 (after hostOps0_7 (after hostOps0_6 (after hostOps0_5 (after hostOps0_4 (after hostOps0_3 (after hostOps0_2
    (after hostOps0_1 (after hostOps0 (launchContents m c)))))))))

/-- What the loop starts from, stretch by stretch. -/
theorem entry_eq : entryContents preI m c = after hostOps0_12 (after hostOps0_11 (after hostOps0_10 (after hostOps0_9 (mid m c)))) := by
  simp only [entryContents, afterL_cons, afterL_nil]

/-- The arguments after the first stretches. -/
theorem args_head : Args m c (after hostOps0_1 (after hostOps0 (launchContents m c))) := args_1 m c _ (args_0 m c _ (args_launch m c))

/-- The arguments halfway. -/
theorem args_half : Args m c (after hostOps0_3 (after hostOps0_2 (after hostOps0_1 (after hostOps0 (launchContents m c))))) :=
  args_3 m c _ (args_2 m c _ (args_head m c))

/-- The arguments where the gates are computed. -/
theorem args_mid : Args m c (mid m c) :=
  args_8 m c _ (args_7 m c _ (args_6 m c _ (args_5 m c _ (args_4 m c _ (args_half m c)))))

/-- The later stretches keep what they do not write. -/
theorem mid_keep (r : Ref sig .tc) (h5 : r ∉ hostOps0_5_W) (h6 : r ∉ hostOps0_6_W) (h7 : r ∉ hostOps0_7_W) (h8 : r ∉ hostOps0_8_W) :
    mid m c (Proc.devRef .tc r) = after hostOps0_4 (after hostOps0_3 (after hostOps0_2 (after hostOps0_1 (after hostOps0 (launchContents m c))))) (Proc.devRef .tc r) :=
  (after_of_writes_sub _ _ hostOps0_8_writes h8).trans ((after_of_writes_sub _ _ hostOps0_7_writes h7).trans
    ((after_of_writes_sub _ _ hostOps0_6_writes h6).trans (after_of_writes_sub _ _ hostOps0_5_writes h5)))

/-- The decays the loop starts from are the sequences'. -/
theorem entry_a (t : Fin 4096) (s : Fin 40) (d : Fin 512) (ht : t.val < len s.val) :
    vA (entryContents preI m c) (ix3 t s d) = (params m c).a s.val t.val d := by
  rw [entry_eq]
  refine last_a (params m c) (mid m c) (fun s t d => ?_) (fun s t d => ?_) t s d ht
  · rw [mid_keep m c main_v68 (by decide +kernel) (by decide +kernel) (by decide +kernel) (by decide +kernel)]
    exact a_p m c _ (args_head m c) (tap_p m c _ (args_launch m c)) s t d
  · exact a_z m c _ (args_5 m c _ (args_4 m c _ (args_half m c))) (tap_z m c _ (args_half m c)) s t d

/-- The inputs the loop starts from are the sequences'. -/
theorem entry_u (t : Fin 4096) (s : Fin 40) (d : Fin 512) (ht : t.val < len s.val) :
    vU (entryContents preI m c) (ix3 t s d) = (params m c).u s.val t.val d := by
  rw [entry_eq]
  refine last_u (params m c) (mid m c) (fun s t d => ?_) (fun s t d => ?_) t s d ht
  · rw [mid_keep m c main_v75 (by decide +kernel) (by decide +kernel) (by decide +kernel) (by decide +kernel)]
    exact u_p m c _ (args_head m c) (tap_p m c _ (args_launch m c)) s t d
  · exact u_z m c _ (args_5 m c _ (args_4 m c _ (args_half m c))) (tap_z m c _ (args_half m c)) s t d

/-- The states the loop starts from are the sequences'. -/
theorem entry_h (s : Fin 40) (d : Fin 512) : vH (entryContents preI m c) (ix2 s d) = (params m c).h0 s.val d := by
  rw [entry_eq]
  exact last_h m c _ (args_11 m c _ (args_10 m c _ (args_9 m c _ (args_mid m c)))) s d

/-- The loop's states are the sequences'. -/
theorem states (s : Fin 40) (d : Fin 512) : ∀ k : ℕ, k ≤ len s.val →
    HR (vA (entryContents preI m c)) (vU (entryContents preI m c)) (vH (entryContents preI m c)) k (ix2 s d) = (params m c).h s.val k d
  | 0, _ => entry_h m c s d
  | k + 1, hk => by
    have hk' : k < 4096 := by
      have : len s.val ≤ 4096 := by unfold len; split <;> omega
      omega
    refine (HR_succ _ _ _ k hk' _).trans ?_
    rw [states s d k (by omega)]
    refine congrArg₂ (fun a u => a * (params m c).h s.val k d + u) (entry_a m c ⟨k, hk'⟩ s d (by simpa using hk)) (entry_u m c ⟨k, hk'⟩ s d (by simpa using hk))

/-- The loop's rows are the sequences' states. -/
theorem loop_out (t : Fin 4096) (s : Fin 40) (d : Fin 512) (ht : t.val < len s.val) :
    vO (STEP^[4096] (entryContents preI m c)) (ix3 t s d) = (params m c).h s.val (t.val + 1) d :=
  ((iter (entryContents preI m c) (ctr_entry m c) 4096 (le_refl _)).2.2.2.2 t s d t.isLt).trans (states m c s d _ ht)

/-- The same, at numbers. -/
theorem loop_at (t s : ℕ) (ht : t < 4096) (hs : s < 40) (d : Fin 512) (h : t < len s) :
    vO (STEP^[4096] (entryContents preI m c)) (ix3 ⟨t, ht⟩ ⟨s, hs⟩ d) = (params m c).h s (t + 1) d := loop_out m c ⟨t, ht⟩ ⟨s, hs⟩ d h

/-- The samples' rows, at numbers. -/
theorem loop_row (R : ℕ) (h : ¬ R < 8192) (t s : ℕ) (ht : t < 4096) (hs : s < 40) (d : Fin 512) (et : t = (R - 8192) / 8) (es : s = 32 + (R - 8192) % 8) :
    vO (STEP^[4096] (entryContents preI m c)) (ix3 ⟨t, ht⟩ ⟨s, hs⟩ d)
      = if R < 8192 then (params m c).h (R / 2048 * 8 + R % 8) (R / 8 % 256 + 1) d else (params m c).h (32 + (R - 8192) % 8) ((R - 8192) / 8 + 1) d := by
  rw [if_neg h, ← et, ← es]
  have e : len s = 4096 := if_neg (by omega)
  exact loop_at m c t s ht hs d (by omega)

/-- The rows the reference returns. -/
theorem rows_value (R : Fin 40960) (d : Fin 512) :
    (out_main_v175 (STEP^[4096] (entryContents preI m c)) : S40960x512.Idx → EReal) (ix2 R d) = (params m c).row R.val d := by
  have hR := R.isLt
  pointwise [out_main_v175]
  unfold Params.row
  by_cases h : R.val < 8192
  · rw [dif_pos h, if_pos h]
    have e : len (R.val / 2048 * 8 + R.val % 8) = 256 := if_pos (by omega)
    exact loop_at m c _ _ _ _ d (by rw [e]; exact Nat.mod_lt _ (by decide))
  · refine (dif_neg h).trans ?_
    exact loop_row m c R.val h _ _ _ _ d rfl rfl

/-- The last states the reference returns. -/
theorem last_value (g : Fin 5) (q : Fin 8) (d : Fin 512) :
    (out_main_v169 (STEP^[4096] (entryContents preI m c)) : S5x8x512.Idx → EReal) (ix3 g q d) = (params m c).last (g.val * 8 + q.val) d := by
  have hg := g.isLt
  have hq := q.isLt
  pointwise [out_main_v169]
  unfold Params.last
  by_cases h : g.val * 8 + q.val < 32
  · have e : len (g.val * 8 + q.val) = 256 := if_pos h
    rw [dif_pos h, e]
    exact loop_at m c 255 _ (by decide) _ d (by rw [e]; decide)
  · have e : len (g.val * 8 + q.val) = 4096 := if_neg h
    have e' : 32 + (g.val * 8 + q.val - 32) = g.val * 8 + q.val := by omega
    rw [dif_neg h, e]
    refine (loop_at m c 4095 _ (by decide) (by omega) d (by rw [e', e]; decide)).trans ?_
    rw [e']

end Entry

/-- The first result, as a whole. -/
theorem rows_array (m : (ℓ : Loc nD τ sig) → Buf (Elt Ideal) ℓ) (c : Dev nD) : (out_main_v175 (STEP^[4096] (entryContents preI m c)) : S40960x512.Idx → EReal)
    = fun i => (params m c).row (i 0).val (i 1) := funext fun i => by
  have e : i = ix2 (i 0) (i 1) := funext fun a => by match a with | ⟨0, _⟩ => rfl | ⟨1, _⟩ => rfl
  exact (congrArg (out_main_v175 (STEP^[4096] (entryContents preI m c)) : S40960x512.Idx → EReal) e).trans (rows_value m c (i 0) (i 1))

/-- The second result, as a whole. -/
theorem last_array (m : (ℓ : Loc nD τ sig) → Buf (Elt Ideal) ℓ) (c : Dev nD) : (out_main_v169 (STEP^[4096] (entryContents preI m c)) : S5x8x512.Idx → EReal)
    = fun i => (params m c).last ((i 0).val * 8 + (i 1).val) (i 2) := funext fun i => by
  have e : i = ix3 (i 0) (i 1) (i 2) := funext fun a => by match a with | ⟨0, _⟩ => rfl | ⟨1, _⟩ => rfl | ⟨2, _⟩ => rfl
  exact (congrArg (out_main_v169 (STEP^[4096] (entryContents preI m c)) : S5x8x512.Idx → EReal) e).trans (last_value m c (i 0) (i 1) (i 2))

end Cert.ScanRefIdeal.Tiles

end
-- ==== Proof.ScanIdealLoop.lean ====
module

public import proofs.«01_k».proof.Proof.ScanIdealBody
public import proofs.«01_k».proof.Proof.TripPieces
public import Idealize.ShloMosaic.Lib.Pipeline.ReadBack
public import Idealize.ShloMosaic.Lib.WholeRead

/-! The recurrence inside one tile: sixty-four steps of eight rows, each from the step before it. -/

set_option maxRecDepth 16384

@[expose] public section

noncomputable section

namespace Cert.ScanIdeal.Tiles

open Cert.ScanIdeal Cert.ScanIdeal.Gen Idealize.ShloMosaic Idealize.ShloMosaic.TcCoe Idealize.SL.Sem

/-- Row `8 k + x₀`, column `x₁` of a tile. -/
abbrev rowIx (k : ℕ) (hk : k < 64) (x : S8x512.Idx) : S512x512.Idx :=
  ix2 ⟨8 * k + (x 0).val, by have : (x 0).val < 8 := (x 0).isLt; omega⟩ (x 1)

/-- The eight hidden rows after `k` steps of a tile with decays `a` and inputs `u`, from the rows `h`. -/
def tileRec (a u : S512x512.Idx → EReal) (h : S8x512.Idx → EReal) : ℕ → S8x512.Idx → EReal
  | 0 => h
  | k + 1 => fun x => if hk : k < 64 then a (rowIx k hk x) * tileRec a u h k x + u (rowIx k hk x) else tileRec a u h k x

/-- One step of it. -/
theorem tileRec_succ (a u : S512x512.Idx → EReal) (h : S8x512.Idx → EReal) (k : ℕ) (hk : k < 64) (x : S8x512.Idx) :
    tileRec a u h (k + 1) x = a (rowIx k hk x) * tileRec a u h k x + u (rowIx k hk x) := dif_pos hk

/-- The loop has sixty-four trips. -/
theorem trips_eq : k0_t1_loop.trips = 64 := by decide +kernel

/-- Trip `k` reads and stores rows `8 k …`. -/
theorem off_eq : ∀ k : Fin k0_t1_loop.trips, k0_off1 k = ![8 * k.val, 0] := by
  decide +kernel

/-- The place of the block of trip `k`. -/
theorem emb_eq (k : Fin k0_t1_loop.trips) (x : S8x512.Idx) :
    (Rect.unit (s := S512x512) (k0_off1 k) S8x512.size (k0_off1_inb k)).emb x = rowIx k.val (lt_of_lt_of_eq k.isLt trips_eq) x := by
  refine funext fun b => Fin.ext ?_
  have e := ValueKit.rect_emb_unit_val (s := S512x512) (k0_off1 k) S8x512.size (k0_off1_inb k) x b
  refine e.trans ((congrArg (· + (x b).val) (congrFun (off_eq k) b)).trans ?_)
  match b with
  | ⟨0, _⟩ => rfl
  | ⟨1, _⟩ => exact Nat.zero_add _

/-- A row lies in the block of its trip. -/
theorem covers (k : Fin k0_t1_loop.trips) (y : S512x512.Idx) (hk : k.val = (y 0).val / 8) :
    y ∈ (Rect.unit (s := S512x512) (k0_off1 k) S8x512.size (k0_off1_inb k)).set := by
  refine Rect.mem_set_unit.mpr fun b => ?_
  rw [congrFun (off_eq k) b]
  match b with
  | ⟨0, _⟩ => show 8 * k.val ≤ (y 0).val ∧ (y 0).val < 8 * k.val + 8; omega
  | ⟨1, _⟩ => exact ⟨Nat.zero_le _, (Nat.zero_add 512).symm ▸ (y 1).isLt⟩

section
variable {F : FTy → Type} [FloatOps F]
variable (𝒱 : Variants) (c : Dev nD) (bd : Option 𝒱.V) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (v4 : BitVec 1) (v47 : FVec F S512x512 .f32) (v51 : FVec F S1x512 .f32) (v53 : FVec F S1x512 .f32) (v62 : FVec F S512x512 .f32) (v68 : FVec F S512x512 .f32) (v69 : FVec F S512x256 .f32)
variable (a u : S512x512.Idx → Elt F .f32)

/-- The decays as the loop finds them. -/
abbrev bufA : BufTy.Contents (Elt F) arg14.view.ty :=
  arg14.view.writes (Elt F) arg14.view.junk [⟨Rect.unit ![0, 0] S512x512.size inb_S512x512_S512x512_0_0, a⟩]
/-- The inputs as the loop finds them. -/
abbrev bufU : BufTy.Contents (Elt F) arg15.view.ty :=
  arg15.view.writes (Elt F) arg15.view.junk [⟨Rect.unit ![0, 0] S512x512.size inb_S512x512_S512x512_0_0, u⟩]

/-- The eight rows of trip `k` as it reads them. -/
theorem readA (k : Fin k0_t1_loop.trips) :
    arg14.view.readAt (Elt F) (Rect.unit (s := S512x512) (k0_off1 k) S8x512.size (k0_off1_inb k)).toLoadRect (bufA arg14 a)
      = fun x => a (rowIx k.val (lt_of_lt_of_eq k.isLt trips_eq) x) := by
  rw [View.readAt_writes_junk_eq_canon, View.canon_cons_unit_zero (by funext b; fin_cases b <;> rfl)]
  exact funext fun x => congrArg a (emb_eq k x)
/-- The eight inputs of trip `k` as it reads them. -/
theorem readU (k : Fin k0_t1_loop.trips) :
    arg15.view.readAt (Elt F) (Rect.unit (s := S512x512) (k0_off1 k) S8x512.size (k0_off1_inb k)).toLoadRect (bufU arg15 u)
      = fun x => u (rowIx k.val (lt_of_lt_of_eq k.isLt trips_eq) x) := by
  rw [View.readAt_writes_junk_eq_canon, View.canon_cons_unit_zero (by funext b; fin_cases b <;> rfl)]
  exact funext fun x => congrArg u (emb_eq k x)

/-- What trip `k` hands on. -/
theorem trip_yield (k : Fin k0_t1_loop.trips) (acc : Vec F S8x512 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) k acc
      = k0_pay21 acc (fun x => a (rowIx k.val (lt_of_lt_of_eq k.isLt trips_eq) x)) (fun x => u (rowIx k.val (lt_of_lt_of_eq k.isLt trips_eq) x)) := by
  rw [← readA arg14 a k, ← readU arg15 u k]
  unfold tripR_k0_t1 trip_k0_t1
  rfl

/-- What trip `k` stores: the same eight rows. -/
theorem trip_piece (k : Fin k0_t1_loop.trips) (acc : Vec F S8x512 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) k acc
      = [⟨Rect.unit (s := S512x512) (k0_off1 k) S8x512.size (k0_off1_inb k),
          k0_pay21 acc (fun x => a (rowIx k.val (lt_of_lt_of_eq k.isLt trips_eq) x)) (fun x => u (rowIx k.val (lt_of_lt_of_eq k.isLt trips_eq) x))⟩] := by
  rw [← readA arg14 a k, ← readU arg15 u k]
  unfold tripL_k0_t1 trip_k0_t1
  rfl
end

section
variable (𝒱 : Variants) (c : Dev nD) (bd : Option 𝒱.V) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (v4 : BitVec 1) (v47 : FVec Ideal S512x512 .f32) (v51 : FVec Ideal S1x512 .f32) (v53 : FVec Ideal S1x512 .f32) (v62 : FVec Ideal S512x512 .f32) (v68 : FVec Ideal S512x512 .f32) (v69 : FVec Ideal S512x256 .f32)
variable (a u : S512x512.Idx → EReal) (h : S8x512.Idx → EReal)

/-- The rows handed on after `k` trips. -/
theorem loop_carry (k : ℕ) (hk : k ≤ 64) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) h k).1 = tileRec a u h k := by
  induction k with
  | zero => rfl
  | succ k ih =>
    have hk' : k < 64 := hk
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) h ⟨k, hk'.trans_eq trips_eq.symm⟩
    rw [e, trip_yield, ih (by omega)]
    funext x
    rw [tileRec_succ a u h k hk' x]
    rfl

/-- The rows the loop stores: at row `y₀` the rows after step `y₀ / 8`. -/
theorem loop_rows (y : S512x512.Idx) :
    View.canon (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) h 64).2 y
      = tileRec a u h ((y 0).val / 8 + 1) (ix2 ⟨(y 0).val % 8, Nat.mod_lt _ (by decide)⟩ (y 1)) := by
  have hy0 : (y 0).val < 512 := (y 0).isLt
  have key := View.canon_trips k0_t1_loop.trips (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) h k).2)
    (fun k => ⟨Rect.unit (s := S512x512) (k0_off1 k) S8x512.size (k0_off1_inb k), tileRec a u h (k.val + 1)⟩)
    rfl (fun k => ?_)
    (fun y => tileRec a u h ((y 0).val / 8 + 1) (ix2 ⟨(y 0).val % 8, Nat.mod_lt _ (by decide)⟩ (y 1))) (fun k x => ?_) y ?_
  · rw [trips_eq] at key; exact key
  · have hk : k.val < 64 := lt_of_lt_of_eq k.isLt trips_eq
    refine (congrArg Prod.snd (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) h k)).trans ?_
    show tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 (bufA arg14 a) (bufU arg15 u) k _ ++ _ = _
    rw [trip_piece, loop_carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v47 v51 v53 v62 v68 v69 a u h k.val hk.le]
    congr 3
    funext x
    rw [tileRec_succ a u h k.val hk x]
    rfl
  · revert x
    intro (x : S8x512.Idx)
    have hk : k.val < 64 := lt_of_lt_of_eq k.isLt trips_eq
    have hx : (x 0).val < 8 := (x 0).isLt
    show tileRec a u h (k.val + 1) x = (fun y : S512x512.Idx => tileRec a u h ((y 0).val / 8 + 1) (ix2 ⟨(y 0).val % 8, Nat.mod_lt _ (by decide)⟩ (y 1)))
      ((Rect.unit (s := S512x512) (k0_off1 k) S8x512.size (k0_off1_inb k)).emb x)
    rw [emb_eq]
    show _ = tileRec a u h ((8 * k.val + (x 0).val) / 8 + 1) (ix2 ⟨(8 * k.val + (x 0).val) % 8, _⟩ (x 1))
    have e1 : (8 * k.val + (x 0).val) / 8 = k.val := by omega
    have e2 : (8 * k.val + (x 0).val) % 8 = (x 0).val := by omega
    rw [e1]
    congr 1
    funext b
    match b with
    | ⟨0, _⟩ => exact Fin.ext e2.symm
    | ⟨1, _⟩ => rfl
  · exact ⟨⟨(y 0).val / 8, by rw [trips_eq]; omega⟩, covers _ y rfl⟩
end

end Cert.ScanIdeal.Tiles

end
-- ==== Proof.ScanIdealTile.lean ====
module

public import proofs.«01_k».proof.Proof.ScanIdealFrame
public import proofs.«01_k».proof.Proof.ScanIdealLoop
public import Idealize.ShloMosaic.Lib.Pipeline.ValueKit
public import Idealize.ShloMosaic.Lib.Pipeline.ReadBack
public import Idealize.ShloMosaic.Lib.WholeRead

/-! One tile of the forward recurrence: the rows it stores and the rows it hands on, over the blocks it is given. -/

set_option maxRecDepth 16384

@[expose] public section

noncomputable section

namespace Cert.ScanIdeal.Tiles

open Cert.ScanIdeal Cert.ScanIdeal.Gen Idealize.ShloMosaic Idealize.ShloMosaic.TcCoe Idealize.SL.Sem

/-- A whole load of a whole operand is the operand. -/
theorem read_full {s : Shape} {e : EltTy} (arg : Memref sig .tc .vmem s e) (h : arg.IsWhole) (x : s.Idx → Elt Ideal e) (off : Fin s.rank → ℕ)
    (ho : off = fun _ => 0) (inb : ∀ a, off a + s.size a ≤ s.size a) :
    View.readAt (Elt Ideal) arg.view (Rect.unit (s := s) off s.size inb).toLoadRect (h.unread x) = x := by
  subst ho
  funext y
  rw [h.readAt_unread]
  refine congrArg x (funext fun a => Fin.ext ?_)
  exact (ValueKit.rect_emb_unit_val (s := s) (fun _ => 0) s.size inb y a).trans (Nat.zero_add _)

/-- The origin of a matrix. -/
theorem zero2 : (![0, 0] : Fin 2 → ℕ) = fun _ => 0 := by funext a; fin_cases a <;> rfl
/-- The origin of a three-dimensional block. -/
theorem zero3 : (![0, 0, 0] : Fin 3 → ℕ) = fun _ => 0 := by funext a; fin_cases a <;> rfl

/-- The padded rows of a tile: the rows before it, its own, and those after. -/
def padOf (i : grid0.Coords) (x0 : Vec Ideal S512x512 .f32) (x1 : Vec Ideal S16x512 .f32) (x2 : Vec Ideal S8x512 .f32) : S536x512.Idx → EReal :=
  View.canon (Val := Elt Ideal) (e := .f32) [⟨Rect.unit (s := S536x512) ![528, 0] S8x512.size inb_S536x512_S8x512_528_0, k0_pay6 i x2⟩,
    ⟨Rect.unit (s := S536x512) ![16, 0] S512x512.size inb_S536x512_S512x512_16_0, k0_pay5 x0⟩, ⟨Rect.unit (s := S536x512) ![0, 0] S16x512.size inb_S536x512_S16x512_0_0, k0_pay4 i x1⟩]

/-- The tile's rows, `o` rows into the padded ones. -/
def padAt (p : S536x512.Idx → EReal) (o : ℕ) (ho : o ≤ 24) : Vec Ideal S512x512 .f32 :=
  fun y => p (ix2 ⟨o + (y 0).val, by have : (y 0).val < 512 := (y 0).isLt; omega⟩ (y 1))

/-- Half of the gates' weights. -/
def half0 (x5 : Vec Ideal S2x256x512 .bf16) : Vec Ideal S1x256x512 .bf16 := fun y => x5 (ix3 0 (y 1) (y 2))
/-- The other half. -/
def half1 (x5 : Vec Ideal S2x256x512 .bf16) : Vec Ideal S1x256x512 .bf16 := fun y => x5 (ix3 1 (y 1) (y 2))

/-- The convolved rows of a tile. -/
def convT (p : S536x512.Idx → EReal) (x3 : Vec Ideal S4x512 .f32) (x4 : Vec Ideal S1x512 .f32) : FVec Ideal S512x512 .f32 :=
  k0_pay8 x3 (k0_pay3 x4) (padAt p 0 (by omega)) (k0_pay7 x3) (padAt p 8 (by omega)) (padAt p 16 (by omega)) (padAt p 24 (by omega))
/-- The first gate of a tile. -/
def gateT (p : S536x512.Idx → EReal) (x3 : Vec Ideal S4x512 .f32) (x4 : Vec Ideal S1x512 .f32) (x5 : Vec Ideal S2x256x512 .bf16)
    (x6 : Vec Ideal S1x512 .f32) : FVec Ideal S512x512 .f32 :=
  k0_pay14 x3 (k0_pay3 x4) (padAt p 0 (by omega)) (k0_pay7 x3) (padAt p 8 (by omega)) (padAt p 16 (by omega)) (padAt p 24 (by omega)) x6 (half0 x5) (half1 x5)
/-- The decays of a tile. -/
def decayT (p : S536x512.Idx → EReal) (x3 : Vec Ideal S4x512 .f32) (x4 : Vec Ideal S1x512 .f32) (x5 : Vec Ideal S2x256x512 .bf16)
    (x6 x8 : Vec Ideal S1x512 .f32) : S512x512.Idx → EReal :=
  k0_pay18 (k0_pay10 x8) (gateT p x3 x4 x5 x6)
/-- The inputs of a tile's recurrence. -/
def inputT (p : S536x512.Idx → EReal) (x3 : Vec Ideal S4x512 .f32) (x4 : Vec Ideal S1x512 .f32) (x5 : Vec Ideal S2x256x512 .bf16)
    (x6 x7 x8 : Vec Ideal S1x512 .f32) : S512x512.Idx → EReal :=
  k0_pay19 (convT p x3 x4) (k0_pay9 x7) (k0_pay10 x8)
    (k0_pay13 x3 (k0_pay3 x4) (padAt p 0 (by omega)) (k0_pay7 x3) (padAt p 8 (by omega)) (padAt p 16 (by omega)) (padAt p 24 (by omega)) (half1 x5))
    (gateT p x3 x4 x5 x6)
    (k0_pay15 x3 (k0_pay3 x4) (padAt p 0 (by omega)) (k0_pay7 x3) (padAt p 8 (by omega)) (padAt p 16 (by omega)) (padAt p 24 (by omega)) (half0 x5))

/-- Loads of the padded rows. -/
theorem pad_read (p : S536x512.Idx → EReal) (o : ℕ) (ho : o ≤ 24) (inb : ∀ a, (![o, 0] : Fin 2 → ℕ) a + S512x512.size a ≤ S536x512.size a) :
    (fun j => p ((Rect.unit (s := S536x512) ![o, 0] S512x512.size inb).toLoadRect.idx j)) = padAt p o ho := by
  funext j
  refine congrArg p (funext fun a => Fin.ext ?_)
  refine (ValueKit.rect_emb_unit_val (s := S536x512) ![o, 0] S512x512.size inb j a).trans ?_
  match a with
  | ⟨0, _⟩ => rfl
  | ⟨1, _⟩ => exact Nat.zero_add _

/-- A load of half the gates' weights. -/
theorem half_read (arg : Memref sig .tc .vmem S2x256x512 .bf16) (h : arg.IsWhole) (x : S2x256x512.Idx → Elt Ideal .bf16) (g : Fin 2)
    (inb : ∀ a, (![g.val, 0, 0] : Fin 3 → ℕ) a + S1x256x512.size a ≤ S2x256x512.size a) :
    View.readAt (Elt Ideal) arg.view (Rect.unit (s := S2x256x512) ![g.val, 0, 0] S1x256x512.size inb).toLoadRect (h.unread x)
      = fun y : S1x256x512.Idx => x (ix3 g (y 1) (y 2)) := by
  funext y
  rw [h.readAt_unread]
  refine congrArg x (funext fun a => Fin.ext ?_)
  refine (ValueKit.rect_emb_unit_val (s := S2x256x512) ![g.val, 0, 0] S1x256x512.size inb y a).trans ?_
  match a with
  | ⟨0, _⟩ => have : (y 0).val < 1 := (y 0).isLt; show g.val + (y 0).val = g.val; omega
  | ⟨1, _⟩ => exact Nat.zero_add _
  | ⟨2, _⟩ => exact Nat.zero_add _

/-- The loop's bounds. -/
theorem bounds_eq : Scf.trips (0#32) (Scalar.addi 0#32 64#32) 1#32 = 64 := by decide +kernel

/-- An index of a block that starts at the origin is the index itself. -/
theorem unit_idx {s : Shape} {o : Fin s.rank → ℕ} (ho : o = fun _ => 0) (inb) (j : s.Idx) : (Rect.unit (s := s) o s.size inb).idx j = j := by
  subst ho
  funext a
  exact Fin.ext ((ValueKit.rect_emb_unit_val (s := s) (fun _ => 0) s.size inb j a).trans (Nat.zero_add _))

/-- The carry is stored as it is. -/
theorem pay1_eq (v : FVec Ideal S8x512 .f32) : k0_pay1 v = v := by
  funext y
  pointwise [k0_pay1]

/-- The last states are the carry in one block. -/
theorem pay2_at (v : FVec Ideal S8x512 .f32) (y : S1x8x512.Idx) : k0_pay2 v y = v (ix2 (y 1) (y 2)) := by
  pointwise [k0_pay2]

/-- A tile that starts afresh: its decays as stored. -/
theorem decay_of_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) :
    kernelRun0_A.sl.HS1_1 (F := Ideal) c i arg1 harg1 arg2 harg2 arg3 harg3 arg4 harg4 arg5 harg5 arg6 harg6 arg7 harg7 arg9 harg9 arg13 x0 x1 x2 x3 x4 x5 x6 x8 = [⟨Rect.unit ![0, 0] S512x512.size inb_S512x512_S512x512_0_0, (decayT (padOf i x0 x1 x2) x3 x4 x5 x6 x8)⟩] := by
  have e1 : View.readAt (Elt Ideal) arg1.view (Rect.unit ![0, 0] ![512, 512] inb_S512x512_S512x512_0_0).toLoadRect (harg1.unread x0) = x0 := read_full arg1 harg1 x0 _ zero2 _
  have e2 : View.readAt (Elt Ideal) arg2.view (Rect.unit ![0, 0] ![16, 512] inb_S16x512_S16x512_0_0).toLoadRect (harg2.unread x1) = x1 := read_full arg2 harg2 x1 _ zero2 _
  have e3 : View.readAt (Elt Ideal) arg3.view (Rect.unit ![0, 0] ![8, 512] inb_S8x512_S8x512_0_0).toLoadRect (harg3.unread x2) = x2 := read_full arg3 harg3 x2 _ zero2 _
  have e4 : View.readAt (Elt Ideal) arg4.view (Rect.unit ![0, 0] ![4, 512] inb_S4x512_S4x512_0_0).toLoadRect (harg4.unread x3) = x3 := read_full arg4 harg4 x3 _ zero2 _
  have e5 : View.readAt (Elt Ideal) arg5.view (Rect.unit ![0, 0] ![1, 512] inb_S1x512_S1x512_0_0).toLoadRect (harg5.unread x4) = x4 := read_full arg5 harg5 x4 _ zero2 _
  have e7 : View.readAt (Elt Ideal) arg7.view (Rect.unit ![0, 0] ![1, 512] inb_S1x512_S1x512_0_0).toLoadRect (harg7.unread x6) = x6 := read_full arg7 harg7 x6 _ zero2 _
  have e8 : View.readAt (Elt Ideal) arg8.view (Rect.unit ![0, 0] ![1, 512] inb_S1x512_S1x512_0_0).toLoadRect (harg8.unread x7) = x7 := read_full arg8 harg8 x7 _ zero2 _
  have e9 : View.readAt (Elt Ideal) arg9.view (Rect.unit ![0, 0] ![1, 512] inb_S1x512_S1x512_0_0).toLoadRect (harg9.unread x8) = x8 := read_full arg9 harg9 x8 _ zero2 _
  have h0 : View.readAt (Elt Ideal) arg6.view (Rect.unit ![0, 0, 0] ![1, 256, 512] inb_S2x256x512_S1x256x512_0_0_0).toLoadRect (harg6.unread x5) = half0 x5 := half_read arg6 harg6 x5 0 _
  have h1 : View.readAt (Elt Ideal) arg6.view (Rect.unit ![1, 0, 0] ![1, 256, 512] inb_S2x256x512_S1x256x512_1_0_0).toLoadRect (harg6.unread x5) = half1 x5 := half_read arg6 harg6 x5 1 _
  unfold decayT gateT
  rw [← pad_read (padOf i x0 x1 x2) 0 (by omega) inb_S536x512_S512x512_0_0, ← pad_read (padOf i x0 x1 x2) 8 (by omega) inb_S536x512_S512x512_8_0, ← pad_read (padOf i x0 x1 x2) 16 (by omega) inb_S536x512_S512x512_16_0, ← pad_read (padOf i x0 x1 x2) 24 (by omega) inb_S536x512_S512x512_24_0]
  simp only [kernelRun0_A.sl.HS1_1, kernelRun0_A.sl.HS0_3, kernelRun0_A.sl.v27, kernelRun0_A.sl.v33, kernelRun0_A.sl.v38, kernelRun0_A.sl.v43, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readCov_eq_canon', e1, e2, e3, e4, e5, e7, e8, e9, h0, h1]
  rfl

/-- A tile that starts afresh: its inputs as stored. -/
theorem input_of_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) :
    kernelRun0_A.sl.HS2_1 (F := Ideal) c i arg1 harg1 arg2 harg2 arg3 harg3 arg4 harg4 arg5 harg5 arg6 harg6 arg7 harg7 arg8 harg8 arg9 harg9 arg13 x0 x1 x2 x3 x4 x5 x6 x7 x8 = [⟨Rect.unit ![0, 0] S512x512.size inb_S512x512_S512x512_0_0, (inputT (padOf i x0 x1 x2) x3 x4 x5 x6 x7 x8)⟩] := by
  have e1 : View.readAt (Elt Ideal) arg1.view (Rect.unit ![0, 0] ![512, 512] inb_S512x512_S512x512_0_0).toLoadRect (harg1.unread x0) = x0 := read_full arg1 harg1 x0 _ zero2 _
  have e2 : View.readAt (Elt Ideal) arg2.view (Rect.unit ![0, 0] ![16, 512] inb_S16x512_S16x512_0_0).toLoadRect (harg2.unread x1) = x1 := read_full arg2 harg2 x1 _ zero2 _
  have e3 : View.readAt (Elt Ideal) arg3.view (Rect.unit ![0, 0] ![8, 512] inb_S8x512_S8x512_0_0).toLoadRect (harg3.unread x2) = x2 := read_full arg3 harg3 x2 _ zero2 _
  have e4 : View.readAt (Elt Ideal) arg4.view (Rect.unit ![0, 0] ![4, 512] inb_S4x512_S4x512_0_0).toLoadRect (harg4.unread x3) = x3 := read_full arg4 harg4 x3 _ zero2 _
  have e5 : View.readAt (Elt Ideal) arg5.view (Rect.unit ![0, 0] ![1, 512] inb_S1x512_S1x512_0_0).toLoadRect (harg5.unread x4) = x4 := read_full arg5 harg5 x4 _ zero2 _
  have e7 : View.readAt (Elt Ideal) arg7.view (Rect.unit ![0, 0] ![1, 512] inb_S1x512_S1x512_0_0).toLoadRect (harg7.unread x6) = x6 := read_full arg7 harg7 x6 _ zero2 _
  have e8 : View.readAt (Elt Ideal) arg8.view (Rect.unit ![0, 0] ![1, 512] inb_S1x512_S1x512_0_0).toLoadRect (harg8.unread x7) = x7 := read_full arg8 harg8 x7 _ zero2 _
  have e9 : View.readAt (Elt Ideal) arg9.view (Rect.unit ![0, 0] ![1, 512] inb_S1x512_S1x512_0_0).toLoadRect (harg9.unread x8) = x8 := read_full arg9 harg9 x8 _ zero2 _
  have h0 : View.readAt (Elt Ideal) arg6.view (Rect.unit ![0, 0, 0] ![1, 256, 512] inb_S2x256x512_S1x256x512_0_0_0).toLoadRect (harg6.unread x5) = half0 x5 := half_read arg6 harg6 x5 0 _
  have h1 : View.readAt (Elt Ideal) arg6.view (Rect.unit ![1, 0, 0] ![1, 256, 512] inb_S2x256x512_S1x256x512_1_0_0).toLoadRect (harg6.unread x5) = half1 x5 := half_read arg6 harg6 x5 1 _
  unfold inputT gateT convT
  rw [← pad_read (padOf i x0 x1 x2) 0 (by omega) inb_S536x512_S512x512_0_0, ← pad_read (padOf i x0 x1 x2) 8 (by omega) inb_S536x512_S512x512_8_0, ← pad_read (padOf i x0 x1 x2) 16 (by omega) inb_S536x512_S512x512_16_0, ← pad_read (padOf i x0 x1 x2) 24 (by omega) inb_S536x512_S512x512_24_0]
  simp only [kernelRun0_A.sl.HS2_1, kernelRun0_A.sl.HS0_3, kernelRun0_A.sl.v27, kernelRun0_A.sl.v33, kernelRun0_A.sl.v38, kernelRun0_A.sl.v43, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readCov_eq_canon', e1, e2, e3, e4, e5, e7, e8, e9, h0, h1]
  rfl

/-- The carry row a tile that starts afresh starts from. -/
theorem start_of_A (c : Dev nD) (arg10 : Memref sig .tc .vmem S1x8x512 .f32) (harg10 : arg10.IsWhole) (arg16 : Memref sig .tc .vmem S8x512 .f32)
    (x9 : Vec Ideal S1x8x512 .f32) : kernelRun0_A.sl.v108 (F := Ideal) c arg10 harg10 arg16 x9 = k0_pay20 x9 := by
  unfold kernelRun0_A.sl.v108
  simp only [View.readCov_eq_canon', kernelRun0_A.sl.HS3_1]
  have e : View.readAt (Elt Ideal) arg10.view (Rect.unit ![0, 0, 0] ![1, 8, 512] inb_S1x8x512_S1x8x512_0_0_0).toLoadRect (harg10.unread x9) = x9 :=
    read_full arg10 harg10 x9 _ zero3 _
  rw [e]
  funext j
  exact congrFun (View.canon_cons_unit_zero (Val := Elt Ideal) (S := S8x512) (e := .f32) zero2 inb_S8x512_S8x512_0_0 (k0_pay20 x9) []) _ |>.trans (congrArg _ (unit_idx zero2 _ j))

/-- A tile that starts afresh: the rows it stores. -/
theorem rows_of_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (y : S512x512.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = tileRec (decayT (padOf i x0 x1 x2) x3 x4 x5 x6 x8) (inputT (padOf i x0 x1 x2) x3 x4 x5 x6 x7 x8) (k0_pay20 x9) ((y 0).val / 8 + 1) (ix2 ⟨(y 0).val % 8, Nat.mod_lt _ (by decide)⟩ (y 1)) := by
  unfold out0_A_10 kernelRun0_A
  dsimp only
  rw [decay_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, input_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, start_of_A c arg10 harg10 arg16 x9, bounds_eq]
  exact loop_rows _ _ _ _ _ _ _ _ _ _ _ _ _ _ _ _ _ _ _ _ _ _ _ _ _ _ _ _ _ _ _ _ _ _ _ _ _ _ _ _ _ _ _ _ _ _ y

/-- A tile that starts afresh: the carry row it leaves. -/
theorem carry_of_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = tileRec (decayT (padOf i x0 x1 x2) x3 x4 x5 x6 x8) (inputT (padOf i x0 x1 x2) x3 x4 x5 x6 x7 x8) (k0_pay20 x9) 64 := by
  unfold sout0_A_3 kernelRun0_A
  dsimp only
  rw [View.read_writes_junk_eq_canon, View.canon_cons_unit_zero zero2, decay_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, input_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, start_of_A c arg10 harg10 arg16 x9, bounds_eq]
  refine (pay1_eq _).trans ?_
  exact loop_carry _ _ _ _ _ _ _ _ _ _ _ _ _ _ _ _ _ _ _ _ _ _ _ _ _ _ _ _ _ _ _ _ _ _ _ _ _ _ _ _ _ _ _ _ _ _ 64 (le_refl 64)

/-- A tile that starts afresh: the last rows it leaves. -/
theorem last_of_A (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (y : S1x8x512.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 y = tileRec (decayT (padOf i x0 x1 x2) x3 x4 x5 x6 x8) (inputT (padOf i x0 x1 x2) x3 x4 x5 x6 x7 x8) (k0_pay20 x9) 64 (ix2 (y 1) (y 2)) := by
  unfold out0_A_11 kernelRun0_A
  dsimp only
  rw [View.canon_cons_unit_zero zero3, decay_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, input_of_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, start_of_A c arg10 harg10 arg16 x9, bounds_eq]
  refine (pay2_at _ y).trans (congrFun ?_ _)
  exact loop_carry _ _ _ _ _ _ _ _ _ _ _ _ _ _ _ _ _ _ _ _ _ _ _ _ _ _ _ _ _ _ _ _ _ _ _ _ _ _ _ _ _ _ _ _ _ _ 64 (le_refl 64)

/-- A tile that goes on: its decays as stored. -/
theorem decay_of_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (xs3 : Vec Ideal S8x512 .f32) :
    kernelRun0_B.sl.HS1_1 (F := Ideal) c i arg1 harg1 arg2 harg2 arg3 harg3 arg4 harg4 arg5 harg5 arg6 harg6 arg7 harg7 arg9 harg9 arg13 x0 x1 x2 x3 x4 x5 x6 x8 = [⟨Rect.unit ![0, 0] S512x512.size inb_S512x512_S512x512_0_0, (decayT (padOf i x0 x1 x2) x3 x4 x5 x6 x8)⟩] := by
  have e1 : View.readAt (Elt Ideal) arg1.view (Rect.unit ![0, 0] ![512, 512] inb_S512x512_S512x512_0_0).toLoadRect (harg1.unread x0) = x0 := read_full arg1 harg1 x0 _ zero2 _
  have e2 : View.readAt (Elt Ideal) arg2.view (Rect.unit ![0, 0] ![16, 512] inb_S16x512_S16x512_0_0).toLoadRect (harg2.unread x1) = x1 := read_full arg2 harg2 x1 _ zero2 _
  have e3 : View.readAt (Elt Ideal) arg3.view (Rect.unit ![0, 0] ![8, 512] inb_S8x512_S8x512_0_0).toLoadRect (harg3.unread x2) = x2 := read_full arg3 harg3 x2 _ zero2 _
  have e4 : View.readAt (Elt Ideal) arg4.view (Rect.unit ![0, 0] ![4, 512] inb_S4x512_S4x512_0_0).toLoadRect (harg4.unread x3) = x3 := read_full arg4 harg4 x3 _ zero2 _
  have e5 : View.readAt (Elt Ideal) arg5.view (Rect.unit ![0, 0] ![1, 512] inb_S1x512_S1x512_0_0).toLoadRect (harg5.unread x4) = x4 := read_full arg5 harg5 x4 _ zero2 _
  have e7 : View.readAt (Elt Ideal) arg7.view (Rect.unit ![0, 0] ![1, 512] inb_S1x512_S1x512_0_0).toLoadRect (harg7.unread x6) = x6 := read_full arg7 harg7 x6 _ zero2 _
  have e8 : View.readAt (Elt Ideal) arg8.view (Rect.unit ![0, 0] ![1, 512] inb_S1x512_S1x512_0_0).toLoadRect (harg8.unread x7) = x7 := read_full arg8 harg8 x7 _ zero2 _
  have e9 : View.readAt (Elt Ideal) arg9.view (Rect.unit ![0, 0] ![1, 512] inb_S1x512_S1x512_0_0).toLoadRect (harg9.unread x8) = x8 := read_full arg9 harg9 x8 _ zero2 _
  have h0 : View.readAt (Elt Ideal) arg6.view (Rect.unit ![0, 0, 0] ![1, 256, 512] inb_S2x256x512_S1x256x512_0_0_0).toLoadRect (harg6.unread x5) = half0 x5 := half_read arg6 harg6 x5 0 _
  have h1 : View.readAt (Elt Ideal) arg6.view (Rect.unit ![1, 0, 0] ![1, 256, 512] inb_S2x256x512_S1x256x512_1_0_0).toLoadRect (harg6.unread x5) = half1 x5 := half_read arg6 harg6 x5 1 _
  unfold decayT gateT
  rw [← pad_read (padOf i x0 x1 x2) 0 (by omega) inb_S536x512_S512x512_0_0, ← pad_read (padOf i x0 x1 x2) 8 (by omega) inb_S536x512_S512x512_8_0, ← pad_read (padOf i x0 x1 x2) 16 (by omega) inb_S536x512_S512x512_16_0, ← pad_read (padOf i x0 x1 x2) 24 (by omega) inb_S536x512_S512x512_24_0]
  simp only [kernelRun0_B.sl.HS1_1, kernelRun0_B.sl.HS0_3, kernelRun0_B.sl.v27, kernelRun0_B.sl.v33, kernelRun0_B.sl.v38, kernelRun0_B.sl.v43, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readCov_eq_canon', e1, e2, e3, e4, e5, e7, e8, e9, h0, h1]
  rfl

/-- A tile that goes on: its inputs as stored. -/
theorem input_of_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (xs3 : Vec Ideal S8x512 .f32) :
    kernelRun0_B.sl.HS2_1 (F := Ideal) c i arg1 harg1 arg2 harg2 arg3 harg3 arg4 harg4 arg5 harg5 arg6 harg6 arg7 harg7 arg8 harg8 arg9 harg9 arg13 x0 x1 x2 x3 x4 x5 x6 x7 x8 = [⟨Rect.unit ![0, 0] S512x512.size inb_S512x512_S512x512_0_0, (inputT (padOf i x0 x1 x2) x3 x4 x5 x6 x7 x8)⟩] := by
  have e1 : View.readAt (Elt Ideal) arg1.view (Rect.unit ![0, 0] ![512, 512] inb_S512x512_S512x512_0_0).toLoadRect (harg1.unread x0) = x0 := read_full arg1 harg1 x0 _ zero2 _
  have e2 : View.readAt (Elt Ideal) arg2.view (Rect.unit ![0, 0] ![16, 512] inb_S16x512_S16x512_0_0).toLoadRect (harg2.unread x1) = x1 := read_full arg2 harg2 x1 _ zero2 _
  have e3 : View.readAt (Elt Ideal) arg3.view (Rect.unit ![0, 0] ![8, 512] inb_S8x512_S8x512_0_0).toLoadRect (harg3.unread x2) = x2 := read_full arg3 harg3 x2 _ zero2 _
  have e4 : View.readAt (Elt Ideal) arg4.view (Rect.unit ![0, 0] ![4, 512] inb_S4x512_S4x512_0_0).toLoadRect (harg4.unread x3) = x3 := read_full arg4 harg4 x3 _ zero2 _
  have e5 : View.readAt (Elt Ideal) arg5.view (Rect.unit ![0, 0] ![1, 512] inb_S1x512_S1x512_0_0).toLoadRect (harg5.unread x4) = x4 := read_full arg5 harg5 x4 _ zero2 _
  have e7 : View.readAt (Elt Ideal) arg7.view (Rect.unit ![0, 0] ![1, 512] inb_S1x512_S1x512_0_0).toLoadRect (harg7.unread x6) = x6 := read_full arg7 harg7 x6 _ zero2 _
  have e8 : View.readAt (Elt Ideal) arg8.view (Rect.unit ![0, 0] ![1, 512] inb_S1x512_S1x512_0_0).toLoadRect (harg8.unread x7) = x7 := read_full arg8 harg8 x7 _ zero2 _
  have e9 : View.readAt (Elt Ideal) arg9.view (Rect.unit ![0, 0] ![1, 512] inb_S1x512_S1x512_0_0).toLoadRect (harg9.unread x8) = x8 := read_full arg9 harg9 x8 _ zero2 _
  have h0 : View.readAt (Elt Ideal) arg6.view (Rect.unit ![0, 0, 0] ![1, 256, 512] inb_S2x256x512_S1x256x512_0_0_0).toLoadRect (harg6.unread x5) = half0 x5 := half_read arg6 harg6 x5 0 _
  have h1 : View.readAt (Elt Ideal) arg6.view (Rect.unit ![1, 0, 0] ![1, 256, 512] inb_S2x256x512_S1x256x512_1_0_0).toLoadRect (harg6.unread x5) = half1 x5 := half_read arg6 harg6 x5 1 _
  unfold inputT gateT convT
  rw [← pad_read (padOf i x0 x1 x2) 0 (by omega) inb_S536x512_S512x512_0_0, ← pad_read (padOf i x0 x1 x2) 8 (by omega) inb_S536x512_S512x512_8_0, ← pad_read (padOf i x0 x1 x2) 16 (by omega) inb_S536x512_S512x512_16_0, ← pad_read (padOf i x0 x1 x2) 24 (by omega) inb_S536x512_S512x512_24_0]
  simp only [kernelRun0_B.sl.HS2_1, kernelRun0_B.sl.HS0_3, kernelRun0_B.sl.v27, kernelRun0_B.sl.v33, kernelRun0_B.sl.v38, kernelRun0_B.sl.v43, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readCov_eq_canon', e1, e2, e3, e4, e5, e7, e8, e9, h0, h1]
  rfl

/-- A tile that goes on: the rows it stores. -/
theorem rows_of_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (xs3 : Vec Ideal S8x512 .f32) (y : S512x512.Idx) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3 y = tileRec (decayT (padOf i x0 x1 x2) x3 x4 x5 x6 x8) (inputT (padOf i x0 x1 x2) x3 x4 x5 x6 x7 x8) xs3 ((y 0).val / 8 + 1) (ix2 ⟨(y 0).val % 8, Nat.mod_lt _ (by decide)⟩ (y 1)) := by
  have e16 : View.readAt (Elt Ideal) arg16.view (Rect.unit ![0, 0] ![8, 512] inb_S8x512_S8x512_0_0).toLoadRect (harg16.unread xs3) = xs3 := read_full arg16 harg16 xs3 _ zero2 _
  unfold out0_B_10 kernelRun0_B
  dsimp only
  rw [decay_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, input_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, e16, bounds_eq]
  exact loop_rows _ _ _ _ _ _ _ _ _ _ _ _ _ _ _ _ _ _ _ _ _ _ _ _ _ _ _ _ _ _ _ _ _ _ _ _ _ _ _ _ _ _ _ _ _ _ y

/-- A tile that goes on: the carry row it leaves. -/
theorem carry_of_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (xs3 : Vec Ideal S8x512 .f32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3 = tileRec (decayT (padOf i x0 x1 x2) x3 x4 x5 x6 x8) (inputT (padOf i x0 x1 x2) x3 x4 x5 x6 x7 x8) xs3 64 := by
  have e16 : View.readAt (Elt Ideal) arg16.view (Rect.unit ![0, 0] ![8, 512] inb_S8x512_S8x512_0_0).toLoadRect (harg16.unread xs3) = xs3 := read_full arg16 harg16 xs3 _ zero2 _
  unfold sout0_B_3 kernelRun0_B
  dsimp only
  rw [View.read_writes_junk_eq_canon, View.canon_cons_unit_zero zero2, decay_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, input_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, e16, bounds_eq]
  refine (pay1_eq _).trans ?_
  exact loop_carry _ _ _ _ _ _ _ _ _ _ _ _ _ _ _ _ _ _ _ _ _ _ _ _ _ _ _ _ _ _ _ _ _ _ _ _ _ _ _ _ _ _ _ _ _ _ 64 (le_refl 64)

/-- A tile that goes on: the last rows it leaves. -/
theorem last_of_B (c : Dev nD) (i : grid0.Coords) (arg1 : Memref sig .tc .vmem S512x512 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S2x256x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x8x512 .f32) (harg10 : arg10.IsWhole) (arg11 : Memref sig .tc .vmem S512x512 .f32) (harg11 : arg11.IsWhole) (arg12 : Memref sig .tc .vmem S1x8x512 .f32) (harg12 : arg12.IsWhole) (arg13 : Memref sig .tc .vmem S536x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S8x512 .f32) (harg16 : arg16.IsWhole) (hc0 : ¬cond0_0 i)
    (x0 : Vec Ideal S512x512 .f32) (x1 : Vec Ideal S16x512 .f32) (x2 : Vec Ideal S8x512 .f32) (x3 : Vec Ideal S4x512 .f32) (x4 : Vec Ideal S1x512 .f32) (x5 : Vec Ideal S2x256x512 .bf16) (x6 : Vec Ideal S1x512 .f32) (x7 : Vec Ideal S1x512 .f32) (x8 : Vec Ideal S1x512 .f32) (x9 : Vec Ideal S1x8x512 .f32) (xs3 : Vec Ideal S8x512 .f32) (y : S1x8x512.Idx) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3 y = tileRec (decayT (padOf i x0 x1 x2) x3 x4 x5 x6 x8) (inputT (padOf i x0 x1 x2) x3 x4 x5 x6 x7 x8) xs3 64 (ix2 (y 1) (y 2)) := by
  have e16 : View.readAt (Elt Ideal) arg16.view (Rect.unit ![0, 0] ![8, 512] inb_S8x512_S8x512_0_0).toLoadRect (harg16.unread xs3) = xs3 := read_full arg16 harg16 xs3 _ zero2 _
  unfold out0_B_11 kernelRun0_B
  dsimp only
  rw [View.canon_cons_unit_zero zero3, decay_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, input_of_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs3, e16, bounds_eq]
  refine (pay2_at _ y).trans (congrFun ?_ _)
  exact loop_carry _ _ _ _ _ _ _ _ _ _ _ _ _ _ _ _ _ _ _ _ _ _ _ _ _ _ _ _ _ _ _ _ _ _ _ _ _ _ _ _ _ _ _ _ _ _ 64 (le_refl 64)

end Cert.ScanIdeal.Tiles

end
-- ==== Proof.ScanMath.lean ====
module

public import proofs.«01_k».proof.Proof.ScanRows
public import Idealize.ShloMosaic.Lib.IdealHost

/-! Two facts of the forward recurrence: a block-diagonal product is a product of one head, and two spellings of the input's
    factor agree. -/

@[expose] public section

noncomputable section

namespace Cert.ScanRows

open Idealize.ShloMosaic

/-- The pattern of two. -/
theorem two_bits : Ideal.ofBits .f32 0x40000000#32 = ((2 : ℝ) : EReal) := by
  simp [Ideal.ofBits, Ideal.ieee, -EReal.coe_mul]; norm_num

/-- For a real number. -/
theorem factor_real (r : ℝ) : Real.tanh (0 - r) * (Real.exp r * Real.exp r + 1) = -(Real.exp (2 * r) - 1) := by
  rw [Real.tanh_eq_sinh_div_cosh, Real.sinh_eq, Real.cosh_eq, zero_sub, neg_neg, Real.exp_neg]
  have h := Real.exp_pos r
  rw [show 2 * r = r + r by ring, Real.exp_add]
  field_simp
  ring

/-- The two spellings of the input's factor. -/
theorem factor_eq (L : EReal) :
    Ideal.tanh (0 - L) * (Ideal.exp L * Ideal.exp L + 1) = -(Ideal.exp (Ideal.ofBits .f32 0x40000000#32 * L) - 1) := by
  rw [two_bits]
  induction L using EReal.rec with
  | bot =>
    rw [EReal.coe_mul_bot_of_pos (by norm_num)]
    simp
  | top =>
    rw [EReal.coe_mul_top_of_pos (by norm_num)]
    simp
    rw [← EReal.coe_one, EReal.top_add_coe, EReal.top_sub_coe]
  | coe r =>
    rw [← EReal.coe_mul, ← EReal.coe_zero, ← EReal.coe_sub, Ideal.tanh_coe, Ideal.exp_coe, Ideal.exp_coe, ← EReal.coe_mul, ← EReal.coe_one,
      ← EReal.coe_add, ← EReal.coe_mul, ← EReal.coe_sub, ← EReal.coe_neg, factor_real]

/-- A sum over four blocks of sixty-four. -/
theorem sum_blocks (F : Fin 256 → EReal) : ∑ x : Fin 256, F x = ∑ b : Fin 4, ∑ q : Fin 64, F ⟨64 * b.val + q.val, by omega⟩ := by
  rw [← Fintype.sum_prod_type' (f := fun (b : Fin 4) (q : Fin 64) => F ⟨64 * b.val + q.val, by omega⟩)]
  refine (Equiv.sum_comp (finProdFinEquiv (m := 4) (n := 64)) F).symm.trans (Finset.sum_congr rfl fun x _ => congrArg F (Fin.ext ?_))
  show x.2.val + 64 * x.1.val = 64 * x.1.val + x.2.val
  omega

/-- A product with half of a block-diagonal matrix is a product of one head. -/
theorem half_sum (w : Fin 8 → Fin 64 → Fin 64 → EReal) (c : Fin 512 → EReal) (g : Fin 2) (j : Fin 256) (v : Fin 256 → EReal)
    (hv : ∀ x : Fin 256, v x = w ⟨g.val * 4 + x.val / 64, by omega⟩ ⟨x.val % 64, by omega⟩ ⟨j.val % 64, by omega⟩ * (if x.val / 64 = j.val / 64 then 1 else 0)) :
    ∑ x : Fin 256, c ⟨256 * g.val + x.val, by omega⟩ * v x
      = ∑ q : Fin 64, w ⟨(256 * g.val + j.val) / 64, by omega⟩ q ⟨(256 * g.val + j.val) % 64, by omega⟩ * c ⟨(256 * g.val + j.val) / 64 * 64 + q.val, by omega⟩ := by
  rw [sum_blocks, Finset.sum_eq_single (⟨j.val / 64, by omega⟩ : Fin 4)]
  · refine Finset.sum_congr rfl fun q _ => ?_
    rw [hv, if_pos (show (64 * (j.val / 64) + q.val) / 64 = j.val / 64 by omega), mul_one, mul_comm]
    have e1 : (⟨g.val * 4 + (64 * (j.val / 64) + q.val) / 64, by omega⟩ : Fin 8) = ⟨(256 * g.val + j.val) / 64, by omega⟩ := Fin.ext (by dsimp only; omega)
    have e2 : (⟨(64 * (j.val / 64) + q.val) % 64, by omega⟩ : Fin 64) = q := Fin.ext (by dsimp only; omega)
    have e3 : (⟨j.val % 64, by omega⟩ : Fin 64) = ⟨(256 * g.val + j.val) % 64, by omega⟩ := Fin.ext (by dsimp only; omega)
    have e4 : (⟨256 * g.val + (64 * (j.val / 64) + q.val), by omega⟩ : Fin 512) = ⟨(256 * g.val + j.val) / 64 * 64 + q.val, by omega⟩ := Fin.ext (by dsimp only; omega)
    exact congrArg₂ (· * ·) (by rw [e1, e2, e3]) (congrArg c e4)
  · intro b _ hb
    refine Finset.sum_eq_zero fun q _ => ?_
    have hne : ¬ (64 * b.val + q.val) / 64 = j.val / 64 := fun h => hb (Fin.ext (by show b.val = j.val / 64; omega))
    rw [hv, if_neg hne, mul_zero, mul_zero]
  · exact fun h => absurd (Finset.mem_univ _) h

end Cert.ScanRows

end
-- ==== Proof.ScanIdealGates.lean ====
module

public import proofs.«01_k».proof.Proof.ScanIdealTile
public import proofs.«01_k».proof.Proof.ScanMath

/-! The forward recurrence, one tile: its decays and inputs are those of the rows that its padded block holds. -/

set_option maxRecDepth 16384

@[expose] public section

noncomputable section

namespace Cert.ScanIdeal.Tiles

open Cert.ScanIdeal Cert.ScanIdeal.Gen Cert.ScanRows Idealize.ShloMosaic Idealize.ShloMosaic.TcCoe Idealize.SL.Sem

variable (p : S536x512.Idx → EReal) (x3 : Vec Ideal S4x512 .f32) (x4 : Vec Ideal S1x512 .f32) (x5 : Vec Ideal S2x256x512 .bf16)
  (x6 x7 x8 : Vec Ideal S1x512 .f32)

/-- The convolved row `r` of a padded block. -/
def convP (r : Fin 512) (d : Fin 512) : EReal :=
  conv (fun k e => x3 (ix2 k e)) (fun e => x4 (ix2 0 e)) (fun e => p (ix2 ⟨r.val, by omega⟩ e)) (fun e => p (ix2 ⟨8 + r.val, by omega⟩ e))
    (fun e => p (ix2 ⟨16 + r.val, by omega⟩ e)) (fun e => p (ix2 ⟨24 + r.val, by omega⟩ e)) d

/-- The first gate's weights, as the two block-diagonal halves hold them. -/
def HoldsA (wa : Fin 8 → Fin 64 → Fin 64 → EReal) : Prop := ∀ (g : Fin 2) (x j : Fin 256),
  x5 (ix3 g x ⟨j.val, by omega⟩) = wa ⟨g.val * 4 + x.val / 64, by omega⟩ ⟨x.val % 64, by omega⟩ ⟨j.val % 64, by omega⟩ * (if x.val / 64 = j.val / 64 then 1 else 0)

/-- The second gate's weights. -/
def HoldsX (wx : Fin 8 → Fin 64 → Fin 64 → EReal) : Prop := ∀ (g : Fin 2) (x j : Fin 256),
  x5 (ix3 g x ⟨256 + j.val, by omega⟩) = wx ⟨g.val * 4 + x.val / 64, by omega⟩ ⟨x.val % 64, by omega⟩ ⟨j.val % 64, by omega⟩ * (if x.val / 64 = j.val / 64 then 1 else 0)

/-- A tile's product with the halves `v`, as one gate's sum. -/
theorem sum_at (w : Fin 8 → Fin 64 → Fin 64 → EReal) (c : Fin 512 → EReal) (v0 v1 : Fin 256 → Fin 256 → EReal)
    (h0 : ∀ x j : Fin 256, v0 x j = w ⟨(0 : Fin 2).val * 4 + x.val / 64, by omega⟩ ⟨x.val % 64, by omega⟩ ⟨j.val % 64, by omega⟩ * (if x.val / 64 = j.val / 64 then 1 else 0))
    (h1 : ∀ x j : Fin 256, v1 x j = w ⟨(1 : Fin 2).val * 4 + x.val / 64, by omega⟩ ⟨x.val % 64, by omega⟩ ⟨j.val % 64, by omega⟩ * (if x.val / 64 = j.val / 64 then 1 else 0))
    (d : Fin 512) : (if h : d.val < 256 then ∑ x : Fin 256, c ⟨x.val, by omega⟩ * v0 x ⟨d.val, h⟩
      else ∑ x : Fin 256, c ⟨256 + x.val, by omega⟩ * v1 x ⟨d.val - 256, by omega⟩)
      = ∑ q : Fin 64, w ⟨d.val / 64, by omega⟩ q ⟨d.val % 64, by omega⟩ * c ⟨d.val / 64 * 64 + q.val, by omega⟩ := by
  by_cases h : d.val < 256
  · rw [dif_pos h]
    have e := half_sum w c 0 ⟨d.val, h⟩ (fun x => v0 x ⟨d.val, h⟩) (fun x => h0 x ⟨d.val, h⟩)
    simp only [show (0 : Fin 2).val = 0 from rfl, Nat.mul_zero, Nat.zero_add] at e
    exact e
  · rw [dif_neg h]
    have e := half_sum w c 1 ⟨d.val - 256, by omega⟩ (fun x => v1 x ⟨d.val - 256, by omega⟩) (fun x => h1 x ⟨d.val - 256, by omega⟩)
    have hd : 256 + (d.val - 256) = d.val := by omega
    simp only [show (1 : Fin 2).val = 1 from rfl, Nat.mul_one, hd] at e
    exact e

/-- The tile's first gate. -/
theorem gateT_at (wa : Fin 8 → Fin 64 → Fin 64 → EReal) (h : HoldsA x5 wa) (r d : Fin 512) :
    gateT p x3 x4 x5 x6 (ix2 r d) = gate wa (fun e => x6 (ix2 0 e)) (convP p x3 x4 r) d := by
  unfold gate
  rw [← sum_at wa (convP p x3 x4 r) (fun x j => x5 (ix3 0 x ⟨j.val, by omega⟩)) (fun x j => x5 (ix3 1 x ⟨j.val, by omega⟩)) (h 0) (h 1)]
  pointwise [gateT, k0_pay14, k0_pay12, k0_pay13, k0_pay11, k0_pay9, k0_pay8, k0_pay7, k0_pay3, padAt, half0, half1]
  rfl

/-- The tile's decays. -/
theorem decayT_at (wa : Fin 8 → Fin 64 → Fin 64 → EReal) (h : HoldsA x5 wa) (r d : Fin 512) :
    decayT p x3 x4 x5 x6 x8 (ix2 r d) = decay (gate wa (fun e => x6 (ix2 0 e)) (convP p x3 x4 r) d) (x8 (ix2 0 d)) := by
  rw [← gateT_at p x3 x4 x5 x6 wa h]
  unfold decayT
  generalize gateT p x3 x4 x5 x6 = g
  pointwise [k0_pay18, k0_pay17, k0_pay16, k0_pay10]
  simp only [zero_sub]
  rfl

/-- The tile's inputs. -/
theorem inputT_at (wa wx : Fin 8 → Fin 64 → Fin 64 → EReal) (h : HoldsA x5 wa) (hx : HoldsX x5 wx) (r d : Fin 512) :
    inputT p x3 x4 x5 x6 x7 x8 (ix2 r d) = input (gate wa (fun e => x6 (ix2 0 e)) (convP p x3 x4 r) d)
      (gate wx (fun e => x7 (ix2 0 e)) (convP p x3 x4 r) d) (x8 (ix2 0 d)) (convP p x3 x4 r d) := by
  rw [← gateT_at p x3 x4 x5 x6 wa h]
  unfold inputT gate input
  rw [← factor_eq, ← sum_at wx (convP p x3 x4 r) (fun x j => x5 (ix3 0 x ⟨256 + j.val, by omega⟩)) (fun x j => x5 (ix3 1 x ⟨256 + j.val, by omega⟩)) (hx 0) (hx 1)]
  generalize gateT p x3 x4 x5 x6 = g
  unfold convT
  pointwise [k0_pay19, k0_pay17, k0_pay16, k0_pay15, k0_pay14, k0_pay12, k0_pay13, k0_pay11, k0_pay10, k0_pay9, k0_pay8, k0_pay7, k0_pay3, padAt, half0, half1]
  simp only [zero_sub]
  rfl

end Cert.ScanIdeal.Tiles

end
-- ==== Proof.ScanIdealBlocks.lean ====
module

public import proofs.«01_k».proof.Proof.ScanIdealGates
public import proofs.«01_k».proof.Proof.ScanIdealFrame
public import Idealize.ShloMosaic.Lib.Pipeline.ValueKit
public import Idealize.ShloMosaic.Lib.Pipeline.ReadBack

/-! The forward recurrence: what the tiles' windows hold of the call's operands. -/

set_option maxRecDepth 16384

@[expose] public section

noncomputable section

namespace Cert.ScanIdeal.Tiles

open Cert.ScanIdeal Cert.ScanIdeal.Gen Cert.ScanRows Idealize.ShloMosaic Idealize.ShloMosaic.TcCoe Idealize.SL.Sem

variable (m : (ℓ : Loc nD τ sig) → Buf (Elt Ideal) ℓ)

/-- The blocks of the windows at point `t`. -/
theorem idx : ∀ t : Fin cfg0.N, win0_0.index t = ![t.val, 0] ∧ win0_1.index t = ![if t.val = 0 then 0 else 32 * t.val - 1, 0]
    ∧ win0_2.index t = ![if t.val = 79 then 5119 else 64 * (t.val + 1), 0] ∧ win0_3.index t = ![0, 0] ∧ win0_4.index t = ![0, 0]
    ∧ win0_5.index t = ![0, 0, 0] ∧ win0_6.index t = ![0, 0] ∧ win0_7.index t = ![0, 0] ∧ win0_8.index t = ![0, 0]
    ∧ win0_9.index t = ![if t.val < 16 then 0 else 1, 0, 0] ∧ win0_10.index t = ![t.val, 0] ∧ win0_11.index t = ![if t.val < 16 then t.val / 4 else 4, 0, 0] :=
  (by decide +kernel : ∀ t : Fin grid0.N, win0_0.index t = ![t.val, 0] ∧ win0_1.index t = ![if t.val = 0 then 0 else 32 * t.val - 1, 0]
    ∧ win0_2.index t = ![if t.val = 79 then 5119 else 64 * (t.val + 1), 0] ∧ win0_3.index t = ![0, 0] ∧ win0_4.index t = ![0, 0]
    ∧ win0_5.index t = ![0, 0, 0] ∧ win0_6.index t = ![0, 0] ∧ win0_7.index t = ![0, 0] ∧ win0_8.index t = ![0, 0]
    ∧ win0_9.index t = ![if t.val < 16 then 0 else 1, 0, 0] ∧ win0_10.index t = ![t.val, 0] ∧ win0_11.index t = ![if t.val < 16 then t.val / 4 else 4, 0, 0])

/-- The point's coordinate. -/
theorem coord : ∀ t : Fin cfg0.N, ((grid0.coords t) 0).val = t.val := (by decide +kernel : ∀ t : Fin grid0.N, ((grid0.coords t) 0).val = t.val)

/-- The tile's own rows. -/
theorem r0 (c : Dev nD) (t : Fin cfg0.N) (r d : Fin 512) : iblk m c 0 t (ix2 r d)
    = m ((c : Thread nD τ).loc main_arg0) (ix2 ⟨t.val * 512 + r.val, by have h := t.isLt; have hN : cfg0.N = 80 := N_0; omega⟩ ⟨d.val, by omega⟩) := by
  blk_point [iblk, idx t]

/-- The rows before it. -/
theorem r1 (c : Dev nD) (t : Fin cfg0.N) (h0 : t.val ≠ 0) (r : Fin 16) (d : Fin 512) : iblk m c 1 t (ix2 r d)
    = m ((c : Thread nD τ).loc main_arg0) (ix2 ⟨t.val * 512 + r.val - 16, by have h := t.isLt; have hN : cfg0.N = 80 := N_0; omega⟩ ⟨d.val, by omega⟩) := by
  have hi := idx t
  rw [if_neg h0] at hi
  blk_point [iblk, hi]
  all_goals omega

/-- The rows after it. -/
theorem r2 (c : Dev nD) (t : Fin cfg0.N) (h0 : t.val < 79) (r : Fin 8) (d : Fin 512) : iblk m c 2 t (ix2 r d)
    = m ((c : Thread nD τ).loc main_arg0) (ix2 ⟨(t.val + 1) * 512 + r.val, by omega⟩ ⟨d.val, by omega⟩) := by
  have hi := idx t
  rw [if_neg (show ¬ t.val = 79 by omega)] at hi
  blk_point [iblk, hi]
  all_goals omega

/-- The convolution's weights. -/
theorem r3 (c : Dev nD) (t : Fin cfg0.N) (k : Fin 4) (d : Fin 512) : iblk m c 3 t (ix2 k d) = m ((c : Thread nD τ).loc main_arg2) (ix2 k d) := by
  blk_point [iblk, idx t]

/-- The convolution's bias. -/
theorem r4 (c : Dev nD) (t : Fin cfg0.N) (d : Fin 512) : iblk m c 4 t (ix2 0 d) = m ((c : Thread nD τ).loc main_arg3) (ix1 d) := by
  blk_point [iblk, idx t]

/-- The first gate's bias. -/
theorem r6 (c : Dev nD) (t : Fin cfg0.N) (d : Fin 512) : iblk m c 6 t (ix2 0 d) = m ((c : Thread nD τ).loc main_arg5) (ix1 d) := by
  blk_point [iblk, idx t]

/-- The second gate's bias. -/
theorem r7 (c : Dev nD) (t : Fin cfg0.N) (d : Fin 512) : iblk m c 7 t (ix2 0 d) = m ((c : Thread nD τ).loc main_arg7) (ix1 d) := by
  blk_point [iblk, idx t]

/-- The decay's parameters. -/
theorem r8 (c : Dev nD) (t : Fin cfg0.N) (d : Fin 512) : iblk m c 8 t (ix2 0 d) = m ((c : Thread nD τ).loc main_arg8) (ix1 d) := by
  blk_point [iblk, idx t]

/-- What the recurrence reads, as the call's operands hold it. -/
def kparams (c : Dev nD) : Params where
  proj R d := m ((c : Thread nD τ).loc main_arg0) (ix2 R d)
  state s d := m ((c : Thread nD τ).loc main_arg1) (ix2 s d)
  w k d := m ((c : Thread nD τ).loc main_arg2) (ix2 k d)
  b d := m ((c : Thread nD τ).loc main_arg3) (ix1 d)
  wa h i j := m ((c : Thread nD τ).loc main_arg4) (ix3 h i j)
  ba d := m ((c : Thread nD τ).loc main_arg5) (ix1 d)
  wx h i j := m ((c : Thread nD τ).loc main_arg6) (ix3 h i j)
  bx d := m ((c : Thread nD τ).loc main_arg7) (ix1 d)
  lam d := m ((c : Thread nD τ).loc main_arg8) (ix1 d)

/-- The states that a tile's sequences start from. -/
theorem r9 (c : Dev nD) (t : Fin cfg0.N) (q : Fin 8) (d : Fin 512) : iblk m c 9 t (ix3 0 q d)
    = if t.val < 16 then (0 : EReal) else m ((c : Thread nD τ).loc main_arg1) (ix2 q d) := by
  have hq : (win0_9.blk t).view.emb (ix3 0 q d) = ix3 (if t.val < 16 then 0 else 1) q d := by
    have hi := idx t
    refine funext fun a => Fin.ext ?_
    match a with
    | ⟨0, _⟩ => by_cases h : t.val < 16 <;> simp only [h, if_true, if_false] at hi ⊢ <;> blk_simp [hi] <;> rfl
    | ⟨1, _⟩ => blk_simp [hi]
    | ⟨2, _⟩ => blk_simp [hi]
  blk_simp [iblk]
  entry_read
  rw [hq]
  by_cases h : t.val < 16
  · rw [if_pos h, if_pos h]
    pointwise []
  · rw [if_neg h, if_neg h]
    pointwise []

/-- The words that an identity matrix compares. -/
theorem eye_word : ∀ a b : Fin 4, IntOp.cmpi .eq (IntOp.addi (BitVec.ofNat 32 a.val) 0#32) (BitVec.ofNat 32 b.val) = if a.val = b.val then 1#1 else 0#1 := by
  decide

/-- An entry of an identity matrix. -/
theorem eye (a b : ℕ) (ha : a < 4) (hb : b < 4) : (FloatOps.uitofp FTy.f32 (IntOp.cmpi .eq (IntOp.addi (BitVec.ofNat 32 a) 0#32) (BitVec.ofNat 32 b)) : Ideal .f32)
    = (if a = b then (1 : EReal) else 0) := by
  rw [eye_word ⟨a, ha⟩ ⟨b, hb⟩]
  by_cases h : a = b
  · rw [if_pos h, if_pos h]
    simp [FloatOps.uitofp]
  · rw [if_neg h, if_neg h]
    simp [FloatOps.uitofp]

/-- The first gate's weights. -/
theorem r5a (c : Dev nD) (t : Fin cfg0.N) (g : Fin 2) (x j : Fin 256) : iblk m c 5 t (ix3 g x ⟨j.val, by omega⟩)
    = ((kparams m c).wa ⟨g.val * 4 + x.val / 64, by omega⟩ ⟨x.val % 64, by omega⟩ ⟨j.val % 64, by omega⟩) * (if x.val / 64 = j.val / 64 then (1 : EReal) else 0) := by
  obtain ⟨W, hW⟩ : ∃ W : S8x64x64.Idx → EReal, W = m ((c : Thread nD τ).loc main_arg4) := ⟨_, rfl⟩
  have hq : (win0_5.blk t).view.emb (ix3 g x ⟨j.val, by omega⟩) = ix3 g x ⟨j.val, by omega⟩ := by
    have hi := idx t
    refine funext fun a => Fin.ext ?_
    match a with
    | ⟨0, _⟩ => blk_simp [hi]
    | ⟨1, _⟩ => blk_simp [hi]
    | ⟨2, _⟩ => blk_simp [hi]
  have hw : ∀ a b d, (kparams m c).wa a b d = W (ix3 a b d) := fun a b d => by rw [hW]; rfl
  rw [hw]
  blk_simp [iblk]
  entry_read
  rw [hq]
  pointwise []
  exact congrArg₂ (fun a b : EReal => a * b) (congrFun hW.symm _) (eye _ _ (by omega) (by omega))

/-- The second gate's weights. -/
theorem r5x (c : Dev nD) (t : Fin cfg0.N) (g : Fin 2) (x j : Fin 256) : iblk m c 5 t (ix3 g x ⟨256 + j.val, by omega⟩)
    = ((kparams m c).wx ⟨g.val * 4 + x.val / 64, by omega⟩ ⟨x.val % 64, by omega⟩ ⟨j.val % 64, by omega⟩) * (if x.val / 64 = j.val / 64 then (1 : EReal) else 0) := by
  obtain ⟨W, hW⟩ : ∃ W : S8x64x64.Idx → EReal, W = m ((c : Thread nD τ).loc main_arg6) := ⟨_, rfl⟩
  have hq : (win0_5.blk t).view.emb (ix3 g x ⟨256 + j.val, by omega⟩) = ix3 g x ⟨256 + j.val, by omega⟩ := by
    have hi := idx t
    refine funext fun a => Fin.ext ?_
    match a with
    | ⟨0, _⟩ => blk_simp [hi]
    | ⟨1, _⟩ => blk_simp [hi]
    | ⟨2, _⟩ => blk_simp [hi]
  have hw : ∀ a b d, (kparams m c).wx a b d = W (ix3 a b d) := fun a b d => by rw [hW]; rfl
  rw [hw]
  blk_simp [iblk]
  entry_read
  rw [hq]
  pointwise []
  exact congrArg₂ (fun a b : EReal => a * b) (congrFun hW.symm _) (eye _ _ (by omega) (by omega))

/-- The pads' rows: those before the tile. -/
theorem pad_before (i : grid0.Coords) (x0 : Vec Ideal S512x512 .f32) (x1 : Vec Ideal S16x512 .f32) (x2 : Vec Ideal S8x512 .f32) (r : Fin 16) (d : Fin 512) :
    padOf i x0 x1 x2 (ix2 ⟨r.val, by omega⟩ d) = k0_pay4 i x1 (ix2 r d) := by
  unfold padOf
  rw [View.canon_cons_of_not_mem, View.canon_cons_of_not_mem]
  · have e : (ix2 ⟨r.val, by omega⟩ d : S536x512.Idx) = (Rect.unit (s := S536x512) ![0, 0] S16x512.size inb_S536x512_S16x512_0_0).emb (ix2 r d) := by
      refine funext fun a => Fin.ext ?_
      rw [ValueKit.rect_emb_unit_val]
      match a with
      | ⟨0, _⟩ => exact (Nat.zero_add _).symm
      | ⟨1, _⟩ => exact (Nat.zero_add _).symm
    rw [e, View.canon_cons_emb]
  · intro h
    have h0 : 16 ≤ r.val := ((Rect.mem_set_unit (inb := inb_S536x512_S512x512_16_0)).mp h 0).1
    omega
  · intro h
    have h0 : 528 ≤ r.val := ((Rect.mem_set_unit (inb := inb_S536x512_S8x512_528_0)).mp h 0).1
    omega

/-- The tile's own. -/
theorem pad_own (i : grid0.Coords) (x0 : Vec Ideal S512x512 .f32) (x1 : Vec Ideal S16x512 .f32) (x2 : Vec Ideal S8x512 .f32) (r : Fin 512) (d : Fin 512) :
    padOf i x0 x1 x2 (ix2 ⟨16 + r.val, by omega⟩ d) = x0 (ix2 r d) := by
  unfold padOf
  rw [View.canon_cons_of_not_mem]
  · have e : (ix2 ⟨16 + r.val, by omega⟩ d : S536x512.Idx) = (Rect.unit (s := S536x512) ![16, 0] S512x512.size inb_S536x512_S512x512_16_0).emb (ix2 r d) := by
      refine funext fun a => Fin.ext ?_
      rw [ValueKit.rect_emb_unit_val]
      match a with
      | ⟨0, _⟩ => rfl
      | ⟨1, _⟩ => exact (Nat.zero_add _).symm
    rw [e, View.canon_cons_emb]
    pointwise [k0_pay5]
  · intro h
    have h0 : 528 ≤ 16 + r.val := ((Rect.mem_set_unit (inb := inb_S536x512_S8x512_528_0)).mp h 0).1
    omega

/-- Those after it. -/
theorem pad_after (i : grid0.Coords) (x0 : Vec Ideal S512x512 .f32) (x1 : Vec Ideal S16x512 .f32) (x2 : Vec Ideal S8x512 .f32) (r : Fin 8) (d : Fin 512) :
    padOf i x0 x1 x2 (ix2 ⟨528 + r.val, by omega⟩ d) = k0_pay6 i x2 (ix2 r d) := by
  unfold padOf
  have e : (ix2 ⟨528 + r.val, by omega⟩ d : S536x512.Idx) = (Rect.unit (s := S536x512) ![528, 0] S8x512.size inb_S536x512_S8x512_528_0).emb (ix2 r d) := by
    refine funext fun a => Fin.ext ?_
    rw [ValueKit.rect_emb_unit_val]
    match a with
    | ⟨0, _⟩ => rfl
    | ⟨1, _⟩ => exact (Nat.zero_add _).symm
  rw [e, View.canon_cons_emb]

/-- Tile `t` is the first of its sequences. -/
abbrev IsFirst (t : ℕ) : Prop := if t < 16 then t % 4 = 0 else t = 16
/-- It is their last. -/
abbrev IsLast (t : ℕ) : Prop := if t < 16 then t % 4 = 3 else t = 79

/-- The word that says whether tile `t` is the first of its sequences. -/
theorem first_word : ∀ t : Fin 80, Scalar.select (Scalar.cmpi .slt (BitVec.ofNat 32 t.val) 16#32) (Scalar.cmpi .eq (Scalar.remsi (BitVec.ofNat 32 t.val) 4#32) 0#32)
    (Scalar.cmpi .eq (BitVec.ofNat 32 t.val) 16#32) = if IsFirst t.val then 1#1 else 0#1 := by
  decide +kernel

/-- The word that says whether it is the last. -/
theorem last_word : ∀ t : Fin 80, Scalar.select (Scalar.cmpi .slt (BitVec.ofNat 32 t.val) 16#32) (Scalar.cmpi .eq (Scalar.remsi (BitVec.ofNat 32 t.val) 4#32) 3#32)
    (Scalar.cmpi .eq (BitVec.ofNat 32 t.val) 79#32) = if IsLast t.val then 1#1 else 0#1 := by
  decide +kernel

/-- The rows before a tile, zero at its sequences' start. -/
theorem pay4_at (i : grid0.Coords) (x1 : Vec Ideal S16x512 .f32) (r : Fin 16) (d : Fin 512) :
    k0_pay4 i x1 (ix2 r d) = if IsFirst (i 0).val then (0 : EReal) else x1 (ix2 r d) := by
  have h := first_word ⟨(i 0).val, (i 0).isLt⟩
  unfold k0_pay4
  dsimp only at h ⊢
  rw [h]
  by_cases hf : IsFirst (i 0).val
  · rw [if_pos hf, if_pos hf]
    pointwise [Scalar.select]
    rfl
  · rw [if_neg hf, if_neg hf]
    pointwise [Scalar.select]
    rfl

/-- The rows after a tile, zero at its sequences' end. -/
theorem pay6_at (i : grid0.Coords) (x2 : Vec Ideal S8x512 .f32) (r : Fin 8) (d : Fin 512) :
    k0_pay6 i x2 (ix2 r d) = if IsLast (i 0).val then (0 : EReal) else x2 (ix2 r d) := by
  have h := last_word ⟨(i 0).val, (i 0).isLt⟩
  unfold k0_pay6
  dsimp only at h ⊢
  rw [h]
  by_cases hf : IsLast (i 0).val
  · rw [if_pos hf, if_pos hf]
    pointwise [Scalar.select]
    rfl
  · rw [if_neg hf, if_neg hf]
    pointwise [Scalar.select]
    rfl

end Cert.ScanIdeal.Tiles

end
-- ==== Proof.ScanIdealSteps.lean ====
module

public import proofs.«01_k».proof.Proof.ScanIdealBlocks

/-! The forward recurrence, tile after tile: every tile carries its sequences' states on by sixty-four rows. -/

set_option maxRecDepth 16384

@[expose] public section

noncomputable section

namespace Cert.ScanIdeal.Tiles

open Cert.ScanIdeal Cert.ScanIdeal.Gen Cert.ScanRows Idealize.ShloMosaic Idealize.ShloMosaic.TcCoe Idealize.SL.Sem

/-- A position inside a sequence reads its row. -/
theorem tap_in (P : Params) (s j R : ℕ) (d : Fin 512) (h : 2 ≤ j ∧ j - 2 < len s) (hR : R < 40960) (e : lo s + (j - 2) * 8 + s % 8 = R) :
    P.tap s j d = P.proj ⟨R, hR⟩ ⟨d.val, by omega⟩ := by
  subst e
  unfold Params.tap Params.x
  rw [if_pos h, dif_pos hR]

/-- One outside reads zero. -/
theorem tap_out (P : Params) (s j : ℕ) (d : Fin 512) (h : ¬ (2 ≤ j ∧ j - 2 < len s)) : P.tap s j d = 0 := if_neg h

/-- The group of eight sequences that tile `t` belongs to. -/
def grp (t : ℕ) : ℕ := if t < 16 then t / 4 else 4
/-- How many tiles of its group come before tile `t`. -/
def nth (t : ℕ) : ℕ := if t < 16 then t % 4 else t - 16

/-- Where a tile lies in its sequences. -/
theorem geom (t q : ℕ) (ht : t < 80) (hq : q < 8) : (8 * grp t + q) % 8 = q ∧ lo (8 * grp t + q) + 512 * nth t = 512 * t
    ∧ (IsFirst t ↔ nth t = 0) ∧ (IsLast t ↔ 64 * nth t + 64 = len (8 * grp t + q)) ∧ 64 * nth t + 64 ≤ len (8 * grp t + q) := by
  unfold IsFirst IsLast grp nth lo len
  by_cases h : t < 16
  · simp only [if_pos h]
    rw [if_pos (show 8 * (t / 4) + q < 32 by omega), if_pos (show 8 * (t / 4) + q < 32 by omega)]
    refine ⟨by omega, by omega, trivial, ?_, by omega⟩
    constructor <;> intro h <;> omega
  · simp only [if_neg h]
    rw [if_neg (show ¬ 8 * 4 + q < 32 by omega), if_neg (show ¬ 8 * 4 + q < 32 by omega)]
    omega

variable (m : (ℓ : Loc nD τ sig) → Buf (Elt Ideal) ℓ) (c : Dev nD) (t : Fin cfg0.N)

/-- There are eighty tiles. -/
theorem t_lt : t.val < 80 := lt_of_lt_of_eq t.isLt N_0

/-- The padded rows of tile `t`. -/
abbrev pads : S536x512.Idx → EReal := padOf (grid0.coords t) (iblk m c 0 t) (iblk m c 1 t) (iblk m c 2 t)

/-- A padded row is a row of the sequence around the tile. -/
theorem pads_at (R : ℕ) (hR : R < 536) (d : Fin 512) :
    pads m c t (ix2 ⟨R, hR⟩ d) = (kparams m c).tap (8 * grp t.val + R % 8) (64 * nth t.val + R / 8) d := by
  have ht := t_lt t
  obtain ⟨g1, g2, g3, g4, g5⟩ := geom t.val (R % 8) ht (Nat.mod_lt _ (by decide))
  generalize hs : 8 * grp t.val + R % 8 = s at *
  by_cases hA : R < 16
  · refine (pad_before _ _ _ _ ⟨R, hA⟩ d).trans ((pay4_at _ _ ⟨R, hA⟩ d).trans ?_)
    rw [coord t]
    by_cases hf : IsFirst t.val
    · rw [if_pos hf, tap_out _ _ _ _ (by have := g3.mp hf; omega)]
    · have hn : nth t.val ≠ 0 := fun h => hf (g3.mpr h)
      have h0 : t.val ≠ 0 := fun h => hf (by rw [h]; decide)
      rw [if_neg hf, tap_in _ _ _ (t.val * 512 + R - 16) d (by omega) (by omega) (by omega)]
      exact r1 m c t h0 ⟨R, hA⟩ d
  by_cases hB : R < 528
  · have e := pad_own (grid0.coords t) (iblk m c 0 t) (iblk m c 1 t) (iblk m c 2 t) ⟨R - 16, by omega⟩ d
    have hr : (⟨16 + (R - 16), by omega⟩ : Fin 536) = ⟨R, hR⟩ := Fin.ext (by dsimp only; omega)
    rw [show (⟨16 + (⟨R - 16, by omega⟩ : Fin 512).val, by omega⟩ : Fin 536) = ⟨R, hR⟩ from hr] at e
    refine e.trans ?_
    rw [tap_in _ _ _ (t.val * 512 + (R - 16)) d (by omega) (by omega) (by omega)]
    exact r0 m c t ⟨R - 16, by omega⟩ d
  · have e := pad_after (grid0.coords t) (iblk m c 0 t) (iblk m c 1 t) (iblk m c 2 t) ⟨R - 528, by omega⟩ d
    have hr : (⟨528 + (R - 528), by omega⟩ : Fin 536) = ⟨R, hR⟩ := Fin.ext (by dsimp only; omega)
    rw [show (⟨528 + (⟨R - 528, by omega⟩ : Fin 8).val, by omega⟩ : Fin 536) = ⟨R, hR⟩ from hr] at e
    refine e.trans ((pay6_at _ _ ⟨R - 528, by omega⟩ d).trans ?_)
    rw [coord t]
    by_cases hf : IsLast t.val
    · rw [if_pos hf, tap_out _ _ _ _ (by have := g4.mp hf; omega)]
    · have hn : 64 * nth t.val + 64 ≠ len s := fun h => hf (g4.mpr h)
      have h0 : t.val < 79 := by
        by_contra h
        exact hf (by rw [show t.val = 79 by omega]; decide)
      rw [if_neg hf, tap_in _ _ _ ((t.val + 1) * 512 + (R - 528)) d (by omega) (by omega) (by omega)]
      exact r2 m c t h0 ⟨R - 528, by omega⟩ d

/-- A tile's convolved row. -/
theorem conv_at (r : Fin 512) : convP (pads m c t) (iblk m c 3 t) (iblk m c 4 t) r
    = (kparams m c).xc (8 * grp t.val + r.val % 8) (64 * nth t.val + r.val / 8) := by
  funext d
  unfold convP Params.xc
  have e3 : (fun (k : Fin 4) (e : Fin 512) => iblk m c 3 t (ix2 k e)) = (kparams m c).w := funext fun k => funext fun e => r3 m c t k e
  have e4 : (fun (e : Fin 512) => iblk m c 4 t (ix2 0 e)) = (kparams m c).b := funext fun e => r4 m c t e
  have p0 : (fun e => pads m c t (ix2 ⟨r.val, by omega⟩ e)) = (kparams m c).tap (8 * grp t.val + r.val % 8) (64 * nth t.val + r.val / 8) :=
    funext fun e => pads_at m c t r.val (by omega) e
  have pk : ∀ k : ℕ, (hk : k ≤ 3) → (fun e => pads m c t (ix2 ⟨8 * k + r.val, by omega⟩ e))
      = (kparams m c).tap (8 * grp t.val + r.val % 8) (k + (64 * nth t.val + r.val / 8)) := fun k hk => funext fun e => by
    rw [pads_at m c t (8 * k + r.val) (by omega) e, show (8 * k + r.val) % 8 = r.val % 8 by omega,
      show 64 * nth t.val + (8 * k + r.val) / 8 = k + (64 * nth t.val + r.val / 8) by omega]
  rw [← pk 1 (by omega), ← pk 2 (by omega), ← pk 3 (by omega), ← p0]
  exact congrArg₂ (fun w b => conv w b _ _ _ _ d) e3 e4

/-- A tile's decays. -/
theorem a_at (r d : Fin 512) : decayT (pads m c t) (iblk m c 3 t) (iblk m c 4 t) (iblk m c 5 t) (iblk m c 6 t) (iblk m c 8 t) (ix2 r d)
    = (kparams m c).a (8 * grp t.val + r.val % 8) (64 * nth t.val + r.val / 8) d := by
  rw [decayT_at (wa := (kparams m c).wa) (h := fun g x j => r5a m c t g x j), conv_at]
  have e6 : (fun (e : Fin 512) => iblk m c 6 t (ix2 0 e)) = (kparams m c).ba := funext fun e => r6 m c t e
  exact congrArg₂ (fun b l => decay (gate (kparams m c).wa b _ d) l) e6 (r8 m c t d)

/-- A tile's inputs. -/
theorem u_at (r d : Fin 512) : inputT (pads m c t) (iblk m c 3 t) (iblk m c 4 t) (iblk m c 5 t) (iblk m c 6 t) (iblk m c 7 t) (iblk m c 8 t) (ix2 r d)
    = (kparams m c).u (8 * grp t.val + r.val % 8) (64 * nth t.val + r.val / 8) d := by
  rw [inputT_at (wa := (kparams m c).wa) (wx := (kparams m c).wx) (h := fun g x j => r5a m c t g x j) (hx := fun g x j => r5x m c t g x j), conv_at]
  have e6 : (fun (e : Fin 512) => iblk m c 6 t (ix2 0 e)) = (kparams m c).ba := funext fun e => r6 m c t e
  have e7 : (fun (e : Fin 512) => iblk m c 7 t (ix2 0 e)) = (kparams m c).bx := funext fun e => r7 m c t e
  rw [show (fun (e : Fin 512) => iblk m c 6 t (ix2 0 e)) = (kparams m c).ba from e6]
  exact congrArg₂ (fun b l => input _ (gate (kparams m c).wx b _ d) l _) e7 (r8 m c t d)

/-- A tile's steps, from the states its sequences have reached. -/
theorem steps_at (H : S8x512.Idx → EReal) (hH : ∀ x : S8x512.Idx, H x = (kparams m c).h (8 * grp t.val + (x 0).val) (64 * nth t.val) (x 1))
    (x : S8x512.Idx) (k : ℕ) (hk : k ≤ 64) :
    tileRec (decayT (pads m c t) (iblk m c 3 t) (iblk m c 4 t) (iblk m c 5 t) (iblk m c 6 t) (iblk m c 8 t))
      (inputT (pads m c t) (iblk m c 3 t) (iblk m c 4 t) (iblk m c 5 t) (iblk m c 6 t) (iblk m c 7 t) (iblk m c 8 t)) H k x
      = (kparams m c).h (8 * grp t.val + (x 0).val) (64 * nth t.val + k) (x 1) := by
  have hx : (x 0).val < 8 := (x 0).isLt
  induction k with
  | zero => exact hH x
  | succ k ih =>
    rw [tileRec_succ _ _ _ k hk x, ih (by omega)]
    have ea := a_at m c t ⟨8 * k + (x 0).val, by omega⟩ (x 1)
    have eu := u_at m c t ⟨8 * k + (x 0).val, by omega⟩ (x 1)
    dsimp only at ea eu
    rw [show (8 * k + (x 0).val) % 8 = (x 0).val by omega, show (8 * k + (x 0).val) / 8 = k by omega] at ea eu
    exact congrArg₂ (fun a u : EReal => a * (kparams m c).h (8 * grp t.val + (x 0).val) (64 * nth t.val + k) (x 1) + u) ea eu

end Cert.ScanIdeal.Tiles

end
-- ==== Proof.ScanIdealValue.lean ====
module

public import proofs.«01_k».proof.Proof.ScanIdealSteps

/-! The forward recurrence: its two result arrays hold the rows' states and the sequences' last states. -/

set_option maxRecDepth 16384

@[expose] public section

noncomputable section

namespace Cert.ScanIdeal.Tiles

open Cert.ScanIdeal Cert.ScanIdeal.Gen Cert.ScanRows Idealize.ShloMosaic Idealize.ShloMosaic.TcCoe Idealize.SL.Sem

/-- The tiles that start afresh are the first ones. -/
theorem fresh_iff (n : ℕ) (hn : n < 80) : (n % 80 = 0 ∨ n % 80 = 4 ∨ n % 80 = 8 ∨ n % 80 = 12 ∨ n % 80 = 16) ↔ IsFirst n := by
  unfold IsFirst
  by_cases h : n < 16
  · rw [if_pos h]; omega
  · rw [if_neg h]; omega

/-- A tile that is not the first of its group follows one of the same group. -/
theorem grp_prev (n : ℕ) (hn : n < 80) (h : ¬ IsFirst n) : n ≠ 0 ∧ grp (n - 1) = grp n ∧ nth n = nth (n - 1) + 1 := by
  unfold IsFirst at h
  unfold grp nth
  by_cases h16 : n < 16
  · rw [if_pos h16] at h
    rw [if_pos h16, if_pos h16, if_pos (show n - 1 < 16 by omega), if_pos (show n - 1 < 16 by omega)]
    omega
  · rw [if_neg h16] at h
    rw [if_neg h16, if_neg h16, if_neg (show ¬ n - 1 < 16 by omega), if_neg (show ¬ n - 1 < 16 by omega)]
    omega

/-- The state that row `r` of tile `t` leaves. -/
theorem row_tile (P : Params) (t r : ℕ) (ht : t < 80) (hr : r < 512) (d : Fin 512) :
    P.h (8 * grp t + r % 8) (64 * nth t + (r / 8 + 1)) d = P.row (t * 512 + r) d := by
  unfold Params.row grp nth
  by_cases h : t < 16
  · rw [if_pos h, if_pos h, if_pos (show t * 512 + r < 8192 by omega)]
    exact congrArg₂ (fun s j => P.h s j d) (by omega) (by omega)
  · rw [if_neg h, if_neg h, if_neg (show ¬ t * 512 + r < 8192 by omega)]
    exact congrArg₂ (fun s j => P.h s j d) (by omega) (by omega)

variable (m : (ℓ : Loc nD τ sig) → Buf (Elt Ideal) ℓ) (c : Dev nD) (t : Fin cfg0.N)

/-- The first tile of a group starts from its sequences' states. -/
theorem start_at (hf : IsFirst t.val) (x : S8x512.Idx) :
    k0_pay20 (F := Ideal) (iblk m c 9 t) x = (kparams m c).h (8 * grp t.val + (x 0).val) (64 * nth t.val) (x 1) := by
  have hx : (x 0).val < 8 := (x 0).isLt
  have e : k0_pay20 (F := Ideal) (iblk m c 9 t) x = iblk m c 9 t (ix3 0 (x 0) (x 1)) := by
    pointwise [k0_pay20]
  have hn : nth t.val = 0 := (geom t.val 0 (t_lt t) (by decide)).2.2.1.mp hf
  rw [e, hn]
  refine (r9 m c t (x 0) (x 1)).trans ?_
  show _ = (kparams m c).h0 (8 * grp t.val + (x 0).val) (x 1)
  unfold Params.h0 grp
  by_cases h : t.val < 16
  · rw [if_pos h, if_pos h, dif_neg (by omega)]
  · rw [if_neg h, if_neg h, dif_pos (by omega)]
    have es : (x 0 : Fin 8) = ⟨8 * 4 + (x 0).val - 32, by omega⟩ := Fin.ext (by show (x 0).val = 8 * 4 + (x 0).val - 32; omega)
    exact congrArg (fun s => (kparams m c).state s (x 1)) es

/-- The carry after tile `n`. -/
theorem carry_at (n : ℕ) (hn : n < cfg0.N) (x : S8x512.Idx) :
    outsAt0 m c n hn x = (kparams m c).h (8 * grp n + (x 0).val) (64 * nth n + 64) (x 1) := by
  induction n using Nat.strong_induction_on generalizing x with
  | _ n ih =>
    have h80 : n < 80 := t_lt ⟨n, hn⟩
    by_cases hf : IsFirst n
    · exact (congrFun (outsAt0_A m c ⟨n, hn⟩ ((fresh_iff n h80).mpr hf)) x).trans
        ((congrFun (carry_of_A ..) x).trans (steps_at m c ⟨n, hn⟩ _ (start_at m c ⟨n, hn⟩ hf) x 64 (le_refl 64)))
    · obtain ⟨h0, hg, hk⟩ := grp_prev n h80 hf
      refine (congrFun (outsAt0_B m c ⟨n, hn⟩ (fun h => hf ((fresh_iff n h80).mp h))) x).trans
        ((congrFun (carry_of_B ..) x).trans (steps_at m c ⟨n, hn⟩ _ (fun z => ?_) x 64 (le_refl 64)))
      refine (ih (n - 1) (by omega) _ z).trans ?_
      show _ = (kparams m c).h (8 * grp n + (z 0).val) (64 * nth n) (z 1)
      rw [hg, hk, Nat.mul_succ]

/-- What a tile's sequences start from. -/
theorem prev_at (hf : ¬ IsFirst t.val) (hn : t.val - 1 < cfg0.N) (x : S8x512.Idx) :
    outsAt0 m c (t.val - 1) hn x = (kparams m c).h (8 * grp t.val + (x 0).val) (64 * nth t.val) (x 1) := by
  obtain ⟨h0, hg, hk⟩ := grp_prev t.val (t_lt t) hf
  rw [carry_at, hg, hk]
  rfl

/-- The rows a tile stores. -/
theorem rows_at (y : S512x512.Idx) : rows m c t y = (kparams m c).row (t.val * 512 + (y 0).val) (y 1) := by
  have hy : (y 0).val < 512 := (y 0).isLt
  refine Eq.trans ?_ (row_tile (kparams m c) t.val (y 0).val (t_lt t) hy (y 1))
  by_cases hf : IsFirst t.val
  · exact (congrFun (rows_A m c t ((fresh_iff _ (t_lt t)).mpr hf)) y).trans
      ((rows_of_A ..).trans (steps_at m c t _ (start_at m c t hf) _ _ (by omega)))
  · exact (congrFun (rows_B m c t (fun h => hf ((fresh_iff _ (t_lt t)).mp h))) y).trans
      ((rows_of_B ..).trans (steps_at m c t _ (prev_at m c t hf _) _ _ (by omega)))

/-- The states a group's last tile stores. -/
theorem last_at (hl : IsLast t.val) (y : S1x8x512.Idx) : last m c t y = (kparams m c).last (8 * grp t.val + (y 1).val) (y 2) := by
  have hy : (y 1).val < 8 := (y 1).isLt
  have e : (kparams m c).last (8 * grp t.val + (y 1).val) (y 2) = (kparams m c).h (8 * grp t.val + (y 1).val) (64 * nth t.val + 64) (y 2) := by
    unfold Params.last
    rw [(geom t.val (y 1).val (t_lt t) hy).2.2.2.1.mp hl]
  rw [e]
  by_cases hf : IsFirst t.val
  · exact (congrFun (last_A m c t ((fresh_iff _ (t_lt t)).mpr hf)) y).trans
      ((last_of_A ..).trans (steps_at m c t _ (start_at m c t hf) _ 64 (le_refl 64)))
  · exact (congrFun (last_B m c t (fun h => hf ((fresh_iff _ (t_lt t)).mp h))) y).trans
      ((last_of_B ..).trans (steps_at m c t _ (prev_at m c t hf _) _ 64 (le_refl 64)))

/-- Where a tile's block of the rows lies. -/
theorem emb_rows (y : S512x512.Idx) : (win0_10.rect t).emb y = ix2 ⟨t.val * 512 + (y 0).val, by
    have := t_lt t; have : (y 0).val < 512 := (y 0).isLt; omega⟩ (y 1) := by
  refine funext fun a => Fin.ext ?_
  match a with
  | ⟨0, _⟩ =>
    show (((win0_10.rect t).emb y) 0).val = t.val * 512 + (y 0).val
    blk_simp [idx t]
  | ⟨1, _⟩ =>
    show (((win0_10.rect t).emb y) 1).val = (y 1).val
    blk_simp [idx t]
    exact Nat.zero_add _

/-- The last states are stored by the last tiles. -/
theorem flush_last : ∀ t : Fin cfg0.N, (cfg0.win 11).flush t = true → IsLast t.val :=
  (by decide +kernel : ∀ t : Fin grid0.N, win0_11.flush t = true → IsLast t.val)

/-- The group of a tile, as its block's number. -/
theorem grp_lt : grp t.val < 5 := by
  unfold grp
  split <;> omega

/-- Where a group's block of the last states lies. -/
theorem emb_last (y : S1x8x512.Idx) : (win0_11.rect t).emb y = ix3 ⟨grp t.val, grp_lt t⟩ (y 1) (y 2) := by
  have hi := idx t
  rw [show (if t.val < 16 then t.val / 4 else 4) = grp t.val from rfl] at hi
  have hy : (y 0).val < 1 := (y 0).isLt
  refine funext fun a => Fin.ext ?_
  match a with
  | ⟨0, _⟩ =>
    show (((win0_11.rect t).emb y) 0).val = grp t.val
    blk_simp [hi]
    exact Nat.mul_one _
  | ⟨1, _⟩ =>
    show (((win0_11.rect t).emb y) 1).val = (y 1).val
    blk_simp [hi]
    exact Nat.zero_add _
  | ⟨2, _⟩ =>
    show (((win0_11.rect t).emb y) 2).val = (y 2).val
    blk_simp [hi]
    exact Nat.zero_add _

/-- The array of the rows' states. -/
def rowsArr : S40960x512.Idx → EReal := fun i => (kparams m c).row (i 0).val (i 1)

/-- The array of the last states. -/
def lastArr : S5x8x512.Idx → EReal := fun i => (kparams m c).last ((i 0).val * 8 + (i 1).val) (i 2)

/-- The first result. -/
theorem final_rows : (dats m 0 c).arrAt 10 cfg0.N = rowsArr m c := by
  refine (dats m 0 c).arrAt_eq_of_covers 10 _ (by decide +kernel) fun t hf y => ?_
  blk_simp
  refine (congrFun (after0_10 m c t) y).trans ((rows_at m c t y).trans ?_)
  exact (congrArg (rowsArr m c) (emb_rows t y)).symm

/-- The second result. -/
theorem final_last : (dats m 0 c).arrAt 11 cfg0.N = lastArr m c := by
  refine (dats m 0 c).arrAt_eq_of_covers 11 _ (by decide +kernel) fun t hf y => ?_
  have e := last_at m c t (flush_last t hf) y
  rw [Nat.mul_comm 8 (grp t.val)] at e
  blk_simp
  refine (congrFun (after0_11 m c t) y).trans (e.trans ?_)
  exact (congrArg (lastArr m c) (emb_last t y)).symm

end Cert.ScanIdeal.Tiles

end
-- ==== Proof.ScanPair.lean ====
module

public import proofs.«01_k».proof.Proof.ScanRef
public import proofs.«01_k».proof.Proof.ScanIdealValue

/-! The forward recurrence: the call's two result arrays are its reference's. -/

@[expose] public section

noncomputable section

namespace Cert.ScanPair

open Idealize.ShloMosaic Idealize.SL.Sem Cert.ScanRows

variable (m : (ℓ : Loc Cert.ScanIdeal.nD Cert.ScanIdeal.τ Cert.ScanIdeal.sig) → Buf (Elt Ideal) ℓ)
  (m' : (ℓ : Loc Cert.ScanRefIdeal.nD Cert.ScanRefIdeal.τ Cert.ScanRefIdeal.sig) → Buf (Elt Ideal) ℓ) (c : Dev Cert.ScanIdeal.nD)

/-- Two memories with the same arguments give the same recurrence. -/
theorem params_eq
    (h : m' (c.tc.loc Cert.ScanRefIdeal.main_arg0) = m (c.tc.loc Cert.ScanIdeal.main_arg0)
      ∧ m' (c.tc.loc Cert.ScanRefIdeal.main_arg1) = m (c.tc.loc Cert.ScanIdeal.main_arg1)
      ∧ m' (c.tc.loc Cert.ScanRefIdeal.main_arg2) = m (c.tc.loc Cert.ScanIdeal.main_arg2)
      ∧ m' (c.tc.loc Cert.ScanRefIdeal.main_arg3) = m (c.tc.loc Cert.ScanIdeal.main_arg3)
      ∧ m' (c.tc.loc Cert.ScanRefIdeal.main_arg4) = m (c.tc.loc Cert.ScanIdeal.main_arg4)
      ∧ m' (c.tc.loc Cert.ScanRefIdeal.main_arg5) = m (c.tc.loc Cert.ScanIdeal.main_arg5)
      ∧ m' (c.tc.loc Cert.ScanRefIdeal.main_arg6) = m (c.tc.loc Cert.ScanIdeal.main_arg6)
      ∧ m' (c.tc.loc Cert.ScanRefIdeal.main_arg7) = m (c.tc.loc Cert.ScanIdeal.main_arg7)
      ∧ m' (c.tc.loc Cert.ScanRefIdeal.main_arg8) = m (c.tc.loc Cert.ScanIdeal.main_arg8)) :
    Cert.ScanRefIdeal.Tiles.params m' c = Cert.ScanIdeal.Tiles.kparams m c := by
  obtain ⟨a0, a1, a2, a3, a4, a5, a6, a7, a8⟩ := h
  exact Params.ext (funext fun R => funext fun d => congrFun a0 (ix2 R d)) (funext fun q => funext fun d => congrFun a1 (ix2 q d))
    (funext fun k => funext fun d => congrFun a2 (ix2 k d)) (funext fun d => congrFun a3 (ix1 d))
    (funext fun h => funext fun i => funext fun j => congrFun a4 (ix3 h i j)) (funext fun d => congrFun a5 (ix1 d))
    (funext fun h => funext fun i => funext fun j => congrFun a6 (ix3 h i j)) (funext fun d => congrFun a7 (ix1 d)) (funext fun d => congrFun a8 (ix1 d))

/-- The rows' states. -/
theorem rows_eq (hp : Cert.ScanRefIdeal.Tiles.params m' c = Cert.ScanIdeal.Tiles.kparams m c) :
    (Cert.ScanRefIdeal.Value.out_main_v175 (Cert.ScanRefIdeal.Value.STEP^[4096] (StableHlo.entryContents Cert.ScanRefIdeal.Value.preI m' c)) : Cert.ScanRefIdeal.S40960x512.Idx → EReal)
      = (Cert.ScanIdeal.Tiles.dats m 0 c).arrAt 10 (Cert.ScanIdeal.cfgs 0).N := by
  refine (Cert.ScanRefIdeal.Tiles.rows_array m' c).trans (Eq.trans ?_ (Cert.ScanIdeal.Tiles.final_rows m c).symm)
  exact congrArg (fun (P : Params) (i : Cert.ScanRefIdeal.S40960x512.Idx) => P.row (i 0).val (i 1)) hp

/-- The last states. -/
theorem last_eq (hp : Cert.ScanRefIdeal.Tiles.params m' c = Cert.ScanIdeal.Tiles.kparams m c) :
    (Cert.ScanRefIdeal.Value.out_main_v169 (Cert.ScanRefIdeal.Value.STEP^[4096] (StableHlo.entryContents Cert.ScanRefIdeal.Value.preI m' c)) : Cert.ScanRefIdeal.S5x8x512.Idx → EReal)
      = (Cert.ScanIdeal.Tiles.dats m 0 c).arrAt 11 (Cert.ScanIdeal.cfgs 0).N := by
  refine (Cert.ScanRefIdeal.Tiles.last_array m' c).trans (Eq.trans ?_ (Cert.ScanIdeal.Tiles.final_last m c).symm)
  exact congrArg (fun (P : Params) (i : Cert.ScanRefIdeal.S5x8x512.Idx) => P.last ((i 0).val * 8 + (i 1).val) (i 2)) hp

end Cert.ScanPair

end
-- ==== Proof.lean ====
/- The proof of the certificate's claims: each call's frame, its idealization, and that it computes what its reference does. -/
module

public import proofs.«01_k».proof.Defs
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseRefIdeal
public import proofs.«01_k».proof.Proof.Gen.DenseRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjPos
public import proofs.«01_k».proof.Proof.Gen.InProjPos.Frame
public import proofs.«01_k».proof.Proof.Gen.InProjPosIdeal
public import proofs.«01_k».proof.Proof.Gen.InProjPosIdeal.Frame
public import proofs.«01_k».proof.Proof.Gen.InProjPosIdeal.Value
public import proofs.«01_k».proof.Proof.Gen.InProjPosRefIdeal
public import proofs.«01_k».proof.Proof.Gen.InProjPosRefIdeal.Run
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Weights
public import proofs.«01_k».proof.Proof.Gen.Weights.Frame
public import proofs.«01_k».proof.Proof.Gen.WeightsIdeal
public import proofs.«01_k».proof.Proof.Gen.WeightsIdeal.Frame
public import proofs.«01_k».proof.Proof.Gen.WeightsIdeal.Value
public import proofs.«01_k».proof.Proof.Gen.WeightsRefIdeal
public import proofs.«01_k».proof.Proof.Gen.WeightsRefIdeal.Run
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanRefIdeal
public import proofs.«01_k».proof.Proof.Gen.ScanRefIdeal.Run
public import proofs.«01_k».proof.Proof.Gen.Pre_finite_logits
public import proofs.«01_k».proof.Proof.ScanFrame
public import proofs.«01_k».proof.Proof.ScanIdealFrame
public import proofs.«01_k».proof.Proof.MoeRef
public import proofs.«01_k».proof.Proof.MoeValue
public import proofs.«01_k».proof.Proof.DenseRef
public import proofs.«01_k».proof.Proof.DenseValue
public import proofs.«01_k».proof.Proof.NormValue
public import proofs.«01_k».proof.Proof.InProjRef
public import proofs.«01_k».proof.Proof.InProjValue
public import proofs.«01_k».proof.Proof.InProjPosRef
public import proofs.«01_k».proof.Proof.InProjPosValue
public import proofs.«01_k».proof.Proof.RouteRef
public import proofs.«01_k».proof.Proof.RouteValue
public import proofs.«01_k».proof.Proof.AdaRef
public import proofs.«01_k».proof.Proof.AdaValue
public import proofs.«01_k».proof.Proof.WeightsRef
public import proofs.«01_k».proof.Proof.WeightsValue
public import proofs.«01_k».proof.Proof.ScanPair
public import Idealize.ShloMosaic.Adequacy
public import Idealize.ShloMosaic.Init

@[expose] public section

noncomputable section

namespace Cert.Proof

open Idealize.ShloMosaic Idealize.SL.Sem

/-- The expert call computes the weighted mixture of the experts. -/
theorem valueMoe : Cert.algebraic_MoeIdeal_MoeRefIdeal (hMoeIdeal := Cert.MoeIdeal.Gen.facts) (hMoeRefIdeal := Cert.MoeRefIdeal.Gen.facts) := by
  pair_intro
  · run_from Cert.MoeIdeal.Gen.run_main m g
  · run_from Cert.MoeRefIdeal.Value.run m' g'
    refine (congrArg (fun z => Cert.MoeRefIdeal.Fin.REF (m ((c.tc : Thread _ _).loc Cert.MoeIdeal.main_arg0)) (m ((c.tc : Thread _ _).loc Cert.MoeIdeal.main_arg1)) (m ((c.tc : Thread _ _).loc Cert.MoeIdeal.main_arg2)) z (m ((c.tc : Thread _ _).loc Cert.MoeIdeal.main_arg4)) (m ((c.tc : Thread _ _).loc Cert.MoeIdeal.main_arg5)) (m ((c.tc : Thread _ _).loc Cert.MoeIdeal.main_arg6))) (hagree c).2.2.2.1).trans ?_
    exact (Cert.MoeIdeal.Fin.final m c).symm

/-- The dense call computes the output projection and the feed-forward block. -/
theorem valueDense : Cert.algebraic_DenseIdeal_DenseRefIdeal (hDenseIdeal := Cert.DenseIdeal.Gen.facts) (hDenseRefIdeal := Cert.DenseRefIdeal.Gen.facts) := by
  pair_intro
  · run_from Cert.DenseIdeal.Gen.run_main m g
  · run_from Cert.DenseRefIdeal.Value.run m' g'
    obtain ⟨a0, a1, a2, a3, a4, a5, a6, a7⟩ := hagree c
    rw [Cert.DenseRefIdeal.Fin.run_eq, a0, a1, a2, a3, a4, a5, a6, a7]
    exact (Cert.DenseIdeal.Fin.final m c).symm

/-- The last call computes the final norm. -/
theorem valueNorm : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Value.run m' g'
    exact (Cert.NormIdeal.Fin.final m c).symm

/-- The input projection of a later layer computes the projection of the modulated norm. -/
theorem valueInProj : Cert.algebraic_InProjIdeal_InProjRefIdeal (hInProjIdeal := Cert.InProjIdeal.Gen.facts) (hInProjRefIdeal := Cert.InProjRefIdeal.Gen.facts) := by
  pair_intro
  · run_from Cert.InProjIdeal.Gen.run_main m g
  · run_from Cert.InProjRefIdeal.Value.run m' g'
    refine (congrArg (fun z => Cert.InProjRefIdeal.Fin.REF (m ((c.tc : Thread _ _).loc Cert.InProjIdeal.main_arg0)) z (m ((c.tc : Thread _ _).loc Cert.InProjIdeal.main_arg2)) (m ((c.tc : Thread _ _).loc Cert.InProjIdeal.main_arg3))) (hagree c).2.1).trans ?_
    exact (Cert.InProjIdeal.Fin.final m c).symm

/-- The first layer's input projection computes the stream with positions, and the projection of its modulated norm. -/
theorem valueInProjPos : Cert.algebraic_InProjPosIdeal_InProjPosRefIdeal (hInProjPosIdeal := Cert.InProjPosIdeal.Gen.facts) (hInProjPosRefIdeal := Cert.InProjPosRefIdeal.Gen.facts) := by
  pair_intro
  · run_from Cert.InProjPosIdeal.Gen.run_main m g
  · run_from Cert.InProjPosRefIdeal.Fin.run m' g'
    · exact (Cert.InProjPosIdeal.Fin.final m c).symm
    · exact (Cert.InProjPosIdeal.Fin.final7 m c).symm

/-- The output projection of a routed layer computes the mixed stream and its modulated norm. -/
theorem valueRoute : Cert.algebraic_RouteIdeal_RouteRefIdeal (hRouteIdeal := Cert.RouteIdeal.Gen.facts) (hRouteRefIdeal := Cert.RouteRefIdeal.Gen.facts) := by
  pair_intro
  · run_from Cert.RouteIdeal.Gen.run_main m g
  · run_from Cert.RouteRefIdeal.Fin.run m' g'
    · exact (Cert.RouteIdeal.Fin.final m c).symm
    · exact (Cert.RouteIdeal.Fin.final8 m c).symm

/-- The modulation call computes the modulation of every layer from the gated conditions. -/
theorem valueAda : Cert.algebraic_AdaIdeal_AdaRefIdeal (hAdaIdeal := Cert.AdaIdeal.Gen.facts) (hAdaRefIdeal := Cert.AdaRefIdeal.Gen.facts) := by
  pair_intro
  · run_from Cert.AdaIdeal.Gen.run_main m g
  · run_from Cert.AdaRefIdeal.Value.run m' g'
    exact (Cert.AdaIdeal.Fin.final m c).symm

/-- The router of a routed layer computes the weights of every token's two experts, where every logit is a real number. -/
theorem valueWeights : Cert.algebraic_WeightsIdeal_WeightsRefIdeal_pre_finite_logits (hWeightsIdeal := Cert.WeightsIdeal.Gen.facts) (hWeightsRefIdeal := Cert.WeightsRefIdeal.Gen.facts) (hPre_finite_logits := Cert.Pre_finite_logits.Gen.facts) := by
  pair_intro
  · run_from Cert.WeightsIdeal.Gen.run_main m g
  · run_from Cert.WeightsRefIdeal.Value.run m' g'
    obtain ⟨a0, a1, a2, a3, a4, a5, a6⟩ := hagree c
    rw [Cert.WeightsRefIdeal.Fin.run_eq, a0, a1, a2, a3, a4, a5, a6]
    exact (Cert.WeightsIdeal.Fin.final m (fun c n e => Cert.WeightsIdeal.Fin.finite _ _ _ _ _ _ _ (hpre c) (ix2 n e)) c).symm

/-- The recurrence call computes the gated recurrence. -/
theorem valueScan : Cert.algebraic_ScanIdeal_ScanRefIdeal (hScanIdeal := Cert.ScanIdeal.Gen.facts) (hScanRefIdeal := Cert.ScanRefIdeal.Gen.facts) := by
  pair_intro
  · run_from Cert.ScanIdeal.Tiles.run_main m g
  · exact (θ_run _ _ _).mono (fun r h c => ⟨(h c).1.trans (Cert.ScanPair.rows_eq m m' c (Cert.ScanPair.params_eq m m' c (hagree c))),
      (h c).2.1.trans (Cert.ScanPair.last_eq m m' c (Cert.ScanPair.params_eq m m' c (hagree c))), (h c).2.2⟩) (Cert.ScanRefIdeal.Value.run m' g')

/-- The certificate. -/
theorem claim : Cert.Claim := ⟨Cert.Moe.Gen.facts, Cert.MoeIdeal.Gen.facts, Cert.MoeRefIdeal.Gen.facts, Cert.Dense.Gen.facts, Cert.DenseIdeal.Gen.facts, Cert.DenseRefIdeal.Gen.facts, Cert.Norm.Gen.facts, Cert.NormIdeal.Gen.facts, Cert.NormRefIdeal.Gen.facts, Cert.InProj.Gen.facts, Cert.InProjIdeal.Gen.facts, Cert.InProjRefIdeal.Gen.facts, Cert.InProjPos.Gen.facts, Cert.InProjPosIdeal.Gen.facts, Cert.InProjPosRefIdeal.Gen.facts, Cert.Route.Gen.facts, Cert.RouteIdeal.Gen.facts, Cert.RouteRefIdeal.Gen.facts, Cert.Ada.Gen.facts, Cert.AdaIdeal.Gen.facts, Cert.AdaRefIdeal.Gen.facts, Cert.Weights.Gen.facts, Cert.WeightsIdeal.Gen.facts, Cert.WeightsRefIdeal.Gen.facts, Cert.Scan.Gen.facts, Cert.ScanIdeal.Gen.facts, Cert.ScanRefIdeal.Gen.facts, Cert.Pre_finite_logits.Gen.facts,
  (fun m ρ _ => Cert.Moe.Gen.frame m ρ),
  (fun m ρ _ => Cert.MoeIdeal.Gen.frame m ρ),
  (fun m ρ _ => (θ_run Cert.MoeRefIdeal.defs _ _).mono (fun r h => ⟨fun c => (h c).2, sem_eq_zero_of_no_sems (by decide) r.2⟩) (Cert.MoeRefIdeal.Value.run m ρ)),
  (fun m ρ _ => Cert.Dense.Gen.frame m ρ),
  (fun m ρ _ => Cert.DenseIdeal.Gen.frame m ρ),
  (fun m ρ _ => (θ_run Cert.DenseRefIdeal.defs _ _).mono (fun r h => ⟨fun c => (h c).2, sem_eq_zero_of_no_sems (by decide) r.2⟩) (Cert.DenseRefIdeal.Value.run m ρ)),
  (fun m ρ _ => Cert.Norm.Gen.frame m ρ),
  (fun m ρ _ => Cert.NormIdeal.Gen.frame m ρ),
  (fun m ρ _ => (θ_run Cert.NormRefIdeal.defs _ _).mono (fun r h => ⟨fun c => (h c).2, sem_eq_zero_of_no_sems (by decide) r.2⟩) (Cert.NormRefIdeal.Value.run m ρ)),
  (fun m ρ _ => Cert.InProj.Gen.frame m ρ),
  (fun m ρ _ => Cert.InProjIdeal.Gen.frame m ρ),
  (fun m ρ _ => (θ_run Cert.InProjRefIdeal.defs _ _).mono (fun r h => ⟨fun c => (h c).2, sem_eq_zero_of_no_sems (by decide) r.2⟩) (Cert.InProjRefIdeal.Value.run m ρ)),
  (fun m ρ _ => Cert.InProjPos.Gen.frame m ρ),
  (fun m ρ _ => Cert.InProjPosIdeal.Gen.frame m ρ),
  (fun m ρ _ => (θ_run Cert.InProjPosRefIdeal.defs _ _).mono (fun r h => ⟨fun c => (h c).2.2, sem_eq_zero_of_no_sems (by decide) r.2⟩) (Cert.InProjPosRefIdeal.Fin.run m ρ)),
  (fun m ρ _ => Cert.Route.Gen.frame m ρ),
  (fun m ρ _ => Cert.RouteIdeal.Gen.frame m ρ),
  (fun m ρ _ => (θ_run Cert.RouteRefIdeal.defs _ _).mono (fun r h => ⟨fun c => (h c).2.2, sem_eq_zero_of_no_sems (by decide) r.2⟩) (Cert.RouteRefIdeal.Fin.run m ρ)),
  (fun m ρ _ => Cert.Ada.Gen.frame m ρ),
  (fun m ρ _ => Cert.AdaIdeal.Gen.frame m ρ),
  (fun m ρ _ => (θ_run Cert.AdaRefIdeal.defs _ _).mono (fun r h => ⟨fun c => (h c).2, sem_eq_zero_of_no_sems (by decide) r.2⟩) (Cert.AdaRefIdeal.Value.run m ρ)),
  (fun m ρ _ => Cert.Weights.Gen.frame m ρ),
  (fun m ρ _ => Cert.WeightsIdeal.Gen.frame m ρ),
  (fun m ρ _ => Cert.WeightsIdeal.Gen.frame m ρ),
  (fun m ρ _ => (θ_run Cert.WeightsRefIdeal.defs _ _).mono (fun r h => ⟨fun c => (h c).2, sem_eq_zero_of_no_sems (by decide) r.2⟩) (Cert.WeightsRefIdeal.Value.run m ρ)),
  (fun m ρ _ => (θ_run Cert.WeightsRefIdeal.defs _ _).mono (fun r h => ⟨fun c => (h c).2, sem_eq_zero_of_no_sems (by decide) r.2⟩) (Cert.WeightsRefIdeal.Value.run m ρ)),
  (fun m ρ _ => Cert.Scan.Tiles.frame m ρ),
  (fun m ρ _ => Cert.ScanIdeal.Tiles.frame m ρ),
  (fun m ρ _ => (θ_run Cert.ScanRefIdeal.defs _ _).mono (fun r h => ⟨fun c => (h c).2.2, sem_eq_zero_of_no_sems (by decide) r.2⟩) (Cert.ScanRefIdeal.Value.run m ρ)),
  trivial, valueMoe, trivial, valueDense, trivial, valueNorm, trivial, valueInProj, trivial, valueInProjPos, trivial, valueRoute, trivial, valueAda, trivial, valueWeights, trivial, valueScan⟩

end Cert.Proof

end
